-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x128x1536 : Shape := ⟨3, ![2, 128, 1536]⟩
abbrev S151936x1536 : Shape := ⟨2, ![151936, 1536]⟩
abbrev S151936x12 : Shape := ⟨2, ![151936, 12]⟩
abbrev S2x128x48 : Shape := ⟨3, ![2, 128, 48]⟩
abbrev S48 : Shape := ⟨1, ![48]⟩
abbrev S2x128x48x1 : Shape := ⟨4, ![2, 128, 48, 1]⟩
abbrev S2x128x1x48 : Shape := ⟨4, ![2, 128, 1, 48]⟩
abbrev S2x128x48x48 : Shape := ⟨4, ![2, 128, 48, 48]⟩
abbrev S48x1 : Shape := ⟨2, ![48, 1]⟩
abbrev S1x48 : Shape := ⟨2, ![1, 48]⟩
abbrev S48x48 : Shape := ⟨2, ![48, 48]⟩
abbrev S1x1x48x48 : Shape := ⟨4, ![1, 1, 48, 48]⟩
abbrev S_ : Shape := ⟨0, ![]⟩

class Facts : Prop where
  bcast_S2x128x48_S2x128x48x1_0_1_2 : S2x128x48.BroadcastsInDim S2x128x48x1 (![0, 1, 2] : Fin 3 → Fin S2x128x48x1.rank)
  bcast_S2x128x48_S2x128x1x48_0_1_3 : S2x128x48.BroadcastsInDim S2x128x1x48 (![0, 1, 3] : Fin 3 → Fin S2x128x1x48.rank)
  bcast_S2x128x48x1_S2x128x48x48_0_1_2_3 : S2x128x48x1.BroadcastsInDim S2x128x48x48 (![0, 1, 2, 3] : Fin 4 → Fin S2x128x48x48.rank)
  bcast_S2x128x1x48_S2x128x48x48_0_1_2_3 : S2x128x1x48.BroadcastsInDim S2x128x48x48 (![0, 1, 2, 3] : Fin 4 → Fin S2x128x48x48.rank)
  bcast_S48_S48x1_0 : S48.BroadcastsInDim S48x1 (![0] : Fin 1 → Fin S48x1.rank)
  bcast_S48_S1x48_1 : S48.BroadcastsInDim S1x48 (![1] : Fin 1 → Fin S1x48.rank)
  bcast_S48x1_S48x48_0_1 : S48x1.BroadcastsInDim S48x48 (![0, 1] : Fin 2 → Fin S48x48.rank)
  bcast_S1x48_S48x48_0_1 : S1x48.BroadcastsInDim S48x48 (![0, 1] : Fin 2 → Fin S48x48.rank)
  bcast_S48x48_S1x1x48x48_2_3 : S48x48.BroadcastsInDim S1x1x48x48 (![2, 3] : Fin 2 → Fin S1x1x48x48.rank)
  bcast_S1x1x48x48_S2x128x48x48_0_1_2_3 : S1x1x48x48.BroadcastsInDim S2x128x48x48 (![0, 1, 2, 3] : Fin 4 → Fin S2x128x48x48.rank)
  bitsLt_bf16_f32 : FTy.bits .bf16 < FTy.bits .f32
  bcast_S_S2x128x1536 : S_.BroadcastsInDim S2x128x1536 (![] : Fin 0 → Fin S2x128x1536.rank)
  reducesTo_S2x128x1536_S_d0_1_2 : S2x128x1536.ReducesTo [0, 1, 2] S_
  h_S_ : 0 < S_.numel
  bcast_S_S151936x1536 : S_.BroadcastsInDim S151936x1536 (![] : Fin 0 → Fin S151936x1536.rank)
  reducesTo_S151936x1536_S_d0_1 : S151936x1536.ReducesTo [0, 1] S_
  bcast_S_S151936x12 : S_.BroadcastsInDim S151936x12 (![] : Fin 0 → Fin S151936x12.rank)
  reducesTo_S151936x12_S_d0_1 : S151936x12.ReducesTo [0, 1] S_
  bcast_S_S2x128x48 : S_.BroadcastsInDim S2x128x48 (![] : Fin 0 → Fin S2x128x48.rank)
  reducesTo_S2x128x48_S_d0_1_2 : S2x128x48.ReducesTo [0, 1, 2] S_
  reducesTo_S2x128x48x48_S_d0_1_2_3 : S2x128x48x48.ReducesTo [0, 1, 2, 3] S_

variable [Facts]

def fn_part2 {F : FTy → Type} [FloatOps F] (main_v35 : IVec S_ 1) (main_v37 : IVec S_ 1) : IVec S_ 1 :=
  let main_v38 : IVec S_ 1 := andi main_v35 main_v37
  main_v38

def fn_part1 {F : FTy → Type} [FloatOps F] (main_arg2 : FVec F S151936x12 .f32) (main_arg3 : IVec S2x128x48 32) (main_v13 : IVec S2x128x48x48 1) (main_v18 : IVec S_ 1) (main_v19 : FVec F S151936x1536 .f32) (main_v20 : FVec F S151936x1536 .f32) : IVec S_ 1 :=
  let main_v21 : IVec S151936x1536 1 := cmpf .olt main_v19 main_v20
  let main_c_1 : IVec S_ 1 := constantI S_ 1 1#1
  let main_v22 : IVec S_ 1 := (fun x v => Host.reduce IntOp.andi x v reducesTo_S151936x1536_S_d0_1 h_S_) main_v21 main_c_1
  let main_v23 : IVec S_ 1 := andi main_v18 main_v22
  let main_v24 : FVec F S151936x12 .f32 := Host.absf main_arg2
  let main_cst_2 : FVec F S_ .f32 := constant S_ .f32 0x7F800000#32
  let main_v25 : FVec F S151936x12 .f32 := broadcastInDim S151936x12 ![] bcast_S_S151936x12 main_cst_2
  let main_v26 : IVec S151936x12 1 := cmpf .olt main_v24 main_v25
  let main_c_3 : IVec S_ 1 := constantI S_ 1 1#1
  let main_v27 : IVec S_ 1 := (fun x v => Host.reduce IntOp.andi x v reducesTo_S151936x12_S_d0_1 h_S_) main_v26 main_c_3
  let main_v28 : IVec S_ 1 := andi main_v23 main_v27
  let main_c_4 : IVec S_ 32 := constantI S_ 32 0#32
  let main_v29 : IVec S2x128x48 32 := broadcastInDim S2x128x48 ![] bcast_S_S2x128x48 main_c_4
  let main_v30 : IVec S2x128x48 1 := cmpi .sge main_arg3 main_v29
  let main_c_5 : IVec S_ 32 := constantI S_ 32 151936#32
  let main_v31 : IVec S2x128x48 32 := broadcastInDim S2x128x48 ![] bcast_S_S2x128x48 main_c_5
  let main_v32 : IVec S2x128x48 1 := cmpi .slt main_arg3 main_v31
  let main_v33 : IVec S2x128x48 1 := andi main_v30 main_v32
  let main_c_6 : IVec S_ 1 := constantI S_ 1 1#1
  let main_v34 : IVec S_ 1 := (fun x v => Host.reduce IntOp.andi x v reducesTo_S2x128x48_S_d0_1_2 h_S_) main_v33 main_c_6
  let main_v35 : IVec S_ 1 := andi main_v28 main_v34
  let main_c_7 : IVec S_ 1 := constantI S_ 1 0#1
  let main_v36 : IVec S_ 1 := (fun x v => Host.reduce IntOp.ori x v reducesTo_S2x128x48x48_S_d0_1_2_3 h_S_) main_v13 main_c_7
  let main_v37 : IVec S_ 1 := noti main_v36
  fn_part2 (F := F) main_v35 main_v37

def fn {F : FTy → Type} [FloatOps F] (main_arg0 : FVec F S2x128x1536 .bf16) (main_arg1 : FVec F S151936x1536 .f32) (main_arg2 : FVec F S151936x12 .f32) (main_arg3 : IVec S2x128x48 32) (main_arg4 : FVec F S2x128x48 .bf16) : IVec S_ 1 :=
  let main_v0 : IVec S48 32 := iotaInDim S48 32 0
  let main_v1 : IVec S2x128x48x1 32 := broadcastInDim S2x128x48x1 ![0, 1, 2] bcast_S2x128x48_S2x128x48x1_0_1_2 main_arg3
  let main_v2 : IVec S2x128x1x48 32 := broadcastInDim S2x128x1x48 ![0, 1, 3] bcast_S2x128x48_S2x128x1x48_0_1_3 main_arg3
  let main_v3 : IVec S2x128x48x48 32 := broadcastInDim S2x128x48x48 ![0, 1, 2, 3] bcast_S2x128x48x1_S2x128x48x48_0_1_2_3 main_v1
  let main_v4 : IVec S2x128x48x48 32 := broadcastInDim S2x128x48x48 ![0, 1, 2, 3] bcast_S2x128x1x48_S2x128x48x48_0_1_2_3 main_v2
  let main_v5 : IVec S2x128x48x48 1 := cmpi .eq main_v3 main_v4
  let main_v6 : IVec S48x1 32 := broadcastInDim S48x1 ![0] bcast_S48_S48x1_0 main_v0
  let main_v7 : IVec S1x48 32 := broadcastInDim S1x48 ![1] bcast_S48_S1x48_1 main_v0
  let main_v8 : IVec S48x48 32 := broadcastInDim S48x48 ![0, 1] bcast_S48x1_S48x48_0_1 main_v6
  let main_v9 : IVec S48x48 32 := broadcastInDim S48x48 ![0, 1] bcast_S1x48_S48x48_0_1 main_v7
  let main_v10 : IVec S48x48 1 := cmpi .ne main_v8 main_v9
  let main_v11 : IVec S1x1x48x48 1 := broadcastInDim S1x1x48x48 ![2, 3] bcast_S48x48_S1x1x48x48_2_3 main_v10
  let main_v12 : IVec S2x128x48x48 1 := broadcastInDim S2x128x48x48 ![0, 1, 2, 3] bcast_S1x1x48x48_S2x128x48x48_0_1_2_3 main_v11
  let main_v13 : IVec S2x128x48x48 1 := andi main_v5 main_v12
  let main_v14 : FVec F S2x128x1536 .f32 := (extf .f32 · bitsLt_bf16_f32) main_arg0
  let main_v15 : FVec F S2x128x1536 .f32 := Host.absf main_v14
  let main_cst : FVec F S_ .f32 := constant S_ .f32 0x7F7F0000#32
  let main_v16 : FVec F S2x128x1536 .f32 := broadcastInDim S2x128x1536 ![] bcast_S_S2x128x1536 main_cst
  let main_v17 : IVec S2x128x1536 1 := cmpf .ole main_v15 main_v16
  let main_c : IVec S_ 1 := constantI S_ 1 1#1
  let main_v18 : IVec S_ 1 := (fun x v => Host.reduce IntOp.andi x v reducesTo_S2x128x1536_S_d0_1_2 h_S_) main_v17 main_c
  let main_v19 : FVec F S151936x1536 .f32 := Host.absf main_arg1
  let main_cst_0 : FVec F S_ .f32 := constant S_ .f32 0x7F800000#32
  let main_v20 : FVec F S151936x1536 .f32 := broadcastInDim S151936x1536 ![] bcast_S_S151936x1536 main_cst_0
  fn_part1 (F := F) main_arg2 main_arg3 main_v13 main_v18 main_v19 main_v20
-- ==== Kernel.lean ====
abbrev S2x128x1536 : Shape := ⟨3, ![2, 128, 1536]⟩
abbrev S151936x1536 : Shape := ⟨2, ![151936, 1536]⟩
abbrev S151936x12 : Shape := ⟨2, ![151936, 12]⟩
abbrev S2x128x48 : Shape := ⟨3, ![2, 128, 48]⟩
abbrev S48x2x128 : Shape := ⟨3, ![48, 2, 128]⟩
abbrev S48x256 : Shape := ⟨2, ![48, 256]⟩
abbrev S256x1536 : Shape := ⟨2, ![256, 1536]⟩
abbrev S12x256 : Shape := ⟨2, ![12, 256]⟩
abbrev S75x256x128 : Shape := ⟨3, ![75, 256, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x116 : Shape := ⟨2, ![256, 116]⟩
abbrev S128x256 : Shape := ⟨2, ![128, 256]⟩
abbrev S80x256 : Shape := ⟨2, ![80, 256]⟩
abbrev S1x256x128 : Shape := ⟨3, ![1, 256, 128]⟩
abbrev S12x151936 : Shape := ⟨2, ![12, 151936]⟩
abbrev S1x256 : Shape := ⟨2, ![1, 256]⟩
abbrev S2048x1536 : Shape := ⟨2, ![2048, 1536]⟩
abbrev S12x2048 : Shape := ⟨2, ![12, 2048]⟩
abbrev S256x2048 : Shape := ⟨2, ![256, 2048]⟩
abbrev S4x2048 : Shape := ⟨2, ![4, 2048]⟩
abbrev S16x2048 : Shape := ⟨2, ![16, 2048]⟩
abbrev S2048x16 : Shape := ⟨2, ![2048, 16]⟩
abbrev S2048x1 : Shape := ⟨2, ![2048, 1]⟩
abbrev S2048x128 : Shape := ⟨2, ![2048, 128]⟩
abbrev S256x128x1 : Shape := ⟨3, ![256, 128, 1]⟩
abbrev S12x2x128 : Shape := ⟨3, ![12, 2, 128]⟩
abbrev S2x128x12 : Shape := ⟨3, ![2, 128, 12]⟩
abbrev S2x128 : Shape := ⟨2, ![2, 128]⟩

abbrev nBuf : Space → Nat
  | .hbm => 30
  | .vmem => 27
  | .smem => 0
  | _ => 0

abbrev bufTy : (tb : Table) → Fin (tcTables nBuf tb) → BufTy
  | .hbm, ⟨0, _⟩ => ⟨S2x128x1536, .bf16⟩
  | .hbm, ⟨1, _⟩ => ⟨S151936x1536, .f32⟩
  | .hbm, ⟨2, _⟩ => ⟨S151936x12, .f32⟩
  | .hbm, ⟨3, _⟩ => ⟨S2x128x48, .i32⟩
  | .hbm, ⟨4, _⟩ => ⟨S2x128x48, .bf16⟩
  | .hbm, ⟨5, _⟩ => ⟨S151936x1536, .fp8e4m3⟩
  | .hbm, ⟨6, _⟩ => ⟨S48x2x128, .i32⟩
  | .hbm, ⟨7, _⟩ => ⟨S48x256, .i32⟩
  | .hbm, ⟨8, _⟩ => ⟨S48x2x128, .bf16⟩
  | .hbm, ⟨9, _⟩ => ⟨S48x256, .bf16⟩
  | .hbm, ⟨10, _⟩ => ⟨S256x1536, .bf16⟩
  | .hbm, ⟨11, _⟩ => ⟨S256x1536, .fp8e4m3⟩
  | .hbm, ⟨12, _⟩ => ⟨S12x256, .f32⟩
  | .hbm, ⟨13, _⟩ => ⟨S256x1536, .bf16⟩
  | .hbm, ⟨14, _⟩ => ⟨S75x256x128, .i32⟩
  | .hbm, ⟨15, _⟩ => ⟨S256x128, .i32⟩
  | .hbm, ⟨16, _⟩ => ⟨S256x128, .i32⟩
  | .hbm, ⟨17, _⟩ => ⟨S12x151936, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S48x256, .f32⟩
  | .hbm, ⟨22, _⟩ => ⟨S48x2x128, .f32⟩
  | .hbm, ⟨23, _⟩ => ⟨S2x128x48, .f32⟩
  | .hbm, ⟨24, _⟩ => ⟨S12x2x128, .f32⟩
  | .hbm, ⟨25, _⟩ => ⟨S2x128x12, .f32⟩
  | .hbm, ⟨26, _⟩ => ⟨S2x128, .f32⟩
  | .hbm, ⟨27, _⟩ => ⟨S2x128, .f32⟩
  | .hbm, ⟨28, _⟩ => ⟨S2x128, .f32⟩
  | .hbm, ⟨29, _⟩ => ⟨S2x128x1536, .fp8e4m3⟩
  | .local _ .vmem, ⟨0, _⟩ => ⟨S256x1536, .bf16⟩
  | .local _ .vmem, ⟨1, _⟩ => ⟨S48x256, .i32⟩
  | .local _ .vmem, ⟨2, _⟩ => ⟨S256x1536, .fp8e4m3⟩
  | .local _ .vmem, ⟨3, _⟩ => ⟨S12x256, .f32⟩
  | .local _ .vmem, ⟨4, _⟩ => ⟨S256x1536, .bf16⟩
  | .local _ .vmem, ⟨5, _⟩ => ⟨S75x256x128, .i32⟩
  | .local _ .vmem, ⟨6, _⟩ => ⟨S256x128, .i32⟩
  | .local _ .vmem, ⟨7, _⟩ => ⟨S256x128, .i32⟩
  | .local _ .vmem, ⟨8, _⟩ => ⟨S256x1536, .bf16⟩
  | .local _ .vmem, ⟨9, _⟩ => ⟨S2048x1536, .fp8e4m3⟩
  | .local _ .vmem, ⟨10, _⟩ => ⟨S2048x1536, .fp8e4m3⟩
  | .local _ .vmem, ⟨11, _⟩ => ⟨S12x2048, .f32⟩
  | .local _ .vmem, ⟨12, _⟩ => ⟨S12x2048, .f32⟩
  | .local _ .vmem, ⟨13, _⟩ => ⟨S1x256x128, .i32⟩
  | .local _ .vmem, ⟨14, _⟩ => ⟨S1x256x128, .i32⟩
  | .local _ .vmem, ⟨15, _⟩ => ⟨S256x128, .i32⟩
  | .local _ .vmem, ⟨16, _⟩ => ⟨S256x128, .i32⟩
  | .local _ .vmem, ⟨17, _⟩ => ⟨S48x256, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S48x256, .f32⟩
  | .local _ .vmem, ⟨22, _⟩ => ⟨S2048x1536, .bf16⟩
  | .local _ .vmem, ⟨23, _⟩ => ⟨S256x2048, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | _, _ => ⟨S2x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc1_scratch4 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := .none

@[reducible] def k0_t1_loop : Scf.Loop 32 :=
  let c0_i32_482 : BitVec 32 := 0#32
  let c48_i32 : BitVec 32 := 48#32
  let v917 : BitVec 32 := Scalar.addi c0_i32_482 c48_i32
  let c1_i32_483 : BitVec 32 := 1#32
  ⟨c0_i32_482, v917, c1_i32_483⟩
@[reducible] def k0_t2_loop : Scf.Loop 32 :=
  let c0_i32_490 : BitVec 32 := 0#32
  let c75_i32 : BitVec 32 := 75#32
  let v937 : BitVec 32 := Scalar.addi c0_i32_490 c75_i32
  let c1_i32_491 : BitVec 32 := 1#32
  ⟨c0_i32_490, v937, c1_i32_491⟩
def k0_off1 (k0_t2 : Fin k0_t2_loop.trips) : Fin 3 → Nat :=
  let c0_i32_490 : BitVec 32 := 0#32
  let c1_i32_491 : BitVec 32 := 1#32
  let arg9 : BitVec 32 := Scf.iv c0_i32_490 c1_i32_491 k0_t2
  let v938 : Index := Scalar.indexCast arg9
  let c0_493 : Index := 0#32
  let c0_494 : Index := 0#32
  ![v938.toNat, 0, 0]
abbrev stage0_0 : Fin 1 → Memref sig .tc .vmem S256x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S75x256x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![75], ![false]⟩

def k1_cond2 (i : grid1.Coords) : BitVec 1 :=
  let arg0 : BitVec 32 := BitVec.ofNat 32 (i 0).val
  let c74_i32 : BitVec 32 := 74#32
  let v789 : BitVec 1 := Scalar.cmpi .eq arg0 c74_i32
  let v790 : BitVec 32 := Scalar.extui v789
  let c0_i32_338 : BitVec 32 := 0#32
  let v791 : BitVec 1 := Scalar.cmpi .ne v790 c0_i32_338
  v791

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x1536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1536 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S48x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S48x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S2x128x1536 : Shape := ⟨3, ![2, 128, 1536]⟩
abbrev S151936x1536 : Shape := ⟨2, ![151936, 1536]⟩
abbrev S151936x12 : Shape := ⟨2, ![151936, 12]⟩
abbrev S2x128x48 : Shape := ⟨3, ![2, 128, 48]⟩
abbrev S2x128 : Shape := ⟨2, ![2, 128]⟩
abbrev S2x128x12 : Shape := ⟨3, ![2, 128, 12]⟩
abbrev S256x12x128 : Shape := ⟨3, ![256, 12, 128]⟩
abbrev S256x12 : Shape := ⟨2, ![256, 12]⟩
abbrev S256x12x254 : Shape := ⟨3, ![256, 12, 254]⟩
abbrev S256x12x1 : Shape := ⟨3, ![256, 12, 1]⟩
abbrev S256x1536 : Shape := ⟨2, ![256, 1536]⟩
abbrev S151936x12x128 : Shape := ⟨3, ![151936, 12, 128]⟩
abbrev S151936x12x1 : Shape := ⟨3, ![151936, 12, 1]⟩
abbrev S256x151936 : Shape := ⟨2, ![256, 151936]⟩
abbrev S256 : Shape := ⟨1, ![256]⟩
abbrev S256x1 : Shape := ⟨2, ![256, 1]⟩
abbrev S256x48 : Shape := ⟨2, ![256, 48]⟩
abbrev S256x48x1 : Shape := ⟨3, ![256, 48, 1]⟩
abbrev S256x48x151936 : Shape := ⟨3, ![256, 48, 151936]⟩
abbrev S256x1x151936 : Shape := ⟨3, ![256, 1, 151936]⟩

abbrev nBuf : Space → Nat
  | .hbm => 12
  | .vmem => 11
  | .smem => 0
  | _ => 0

abbrev bufTy : (tb : Table) → Fin (tcTables nBuf tb) → BufTy
  | .hbm, ⟨0, _⟩ => ⟨S2x128x1536, .bf16⟩
  | .hbm, ⟨1, _⟩ => ⟨S151936x1536, .f32⟩
  | .hbm, ⟨2, _⟩ => ⟨S151936x12, .f32⟩
  | .hbm, ⟨3, _⟩ => ⟨S2x128x48, .i32⟩
  | .hbm, ⟨4, _⟩ => ⟨S2x128x48, .bf16⟩
  | .hbm, ⟨5, _⟩ => ⟨S151936x1536, .fp8e4m3⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128x48, .f32⟩
  | .hbm, ⟨10, _⟩ => ⟨S2x128x1536, .fp8e4m3⟩
  | .hbm, ⟨11, _⟩ => ⟨S2x128x12, .f32⟩
  | .local _ .vmem, ⟨0, _⟩ => ⟨S2x128x1536, .bf16⟩
  | .local _ .vmem, ⟨1, _⟩ => ⟨S151936x1536, .fp8e4m3⟩
  | .local _ .vmem, ⟨2, _⟩ => ⟨S151936x12, .f32⟩
  | .local _ .vmem, ⟨3, _⟩ => ⟨S2x128x48, .i32⟩
  | .local _ .vmem, ⟨4, _⟩ => ⟨S2x128x48, .bf16⟩
  | .local _ .vmem, ⟨5, _⟩ => ⟨S2x128, .f32⟩
  | .local _ .vmem, ⟨6, _⟩ => ⟨S2x128, .f32⟩
  | .local _ .vmem, ⟨7, _⟩ => ⟨S2x128, .f32⟩
  | .local _ .vmem, ⟨8, _⟩ => ⟨S2x128x48, .f32⟩
  | .local _ .vmem, ⟨9, _⟩ => ⟨S2x128x1536, .fp8e4m3⟩
  | .local _ .vmem, ⟨10, _⟩ => ⟨S2x128x12, .f32⟩
  | _, _ => ⟨S2x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S151936x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S151936x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x48 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Prep.lean ====
/-
  The quantising kernel's body (`cc0_prep`), run once at symbolic operands, at any float instance. What it leaves in its six results'
  buffers is a function of what it finds in its two operands' buffers alone.
-/
module

public import proofs.«01_k».proof.Proof.Gen.Kernel
public import proofs.«01_k».proof.Proof.Gen.Kernel.Skeleton
public import proofs.«01_k».proof.Proof.Gen.Kernel.Loops
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the frame kit's. -/
abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The pieces one trip of the loop over the teacher's tokens writes into the bit mask: the inner loop's, over all tiles. -/
abbrev tripMask (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (k : Fin k0_t1_loop.trips) (G : BufTy.Contents (Elt F) arg5.view.ty) : List (View.Piece (Elt F) S75x256x128 .i32) :=
  pb_k0_t2 (F := F) 𝒱₀ c none arg0 harg0 arg1 harg1 arg2 harg2 arg3 harg3 arg4 harg4 arg5 harg5 arg6 harg6 arg7 harg7 v609 k G k0_t2_loop.trips

/-- The pieces the first `k` tokens write into the mask (last first), from contents `G`. -/
def maskPieces (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (G : BufTy.Contents (Elt F) arg5.view.ty) : ℕ → List (View.Piece (Elt F) S75x256x128 .i32)
  | 0 => []
  | k + 1 => if h : k < k0_t1_loop.trips then tripMask c arg0 harg0 arg1 harg1 arg2 harg2 arg3 harg3 arg4 harg4 arg5 harg5 arg6 harg6 arg7 harg7 v609 ⟨k, h⟩ (arg5.view.writes (Elt F) G (maskPieces c arg0 harg0 arg1 harg1 arg2 harg2 arg3 harg3 arg4 harg4 arg5 harg5 arg6 harg6 arg7 harg7 v609 G k)) ++ maskPieces c arg0 harg0 arg1 harg1 arg2 harg2 arg3 harg3 arg4 harg4 arg5 harg5 arg6 harg6 arg7 harg7 v609 G k
      else maskPieces c arg0 harg0 arg1 harg1 arg2 harg2 arg3 harg3 arg4 harg4 arg5 harg5 arg6 harg6 arg7 harg7 v609 G k

theorem maskPieces_succ (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (G : BufTy.Contents (Elt F) arg5.view.ty) (k : Fin k0_t1_loop.trips) :
    maskPieces c arg0 harg0 arg1 harg1 arg2 harg2 arg3 harg3 arg4 harg4 arg5 harg5 arg6 harg6 arg7 harg7 v609 G (k.val + 1) = tripMask c arg0 harg0 arg1 harg1 arg2 harg2 arg3 harg3 arg4 harg4 arg5 harg5 arg6 harg6 arg7 harg7 v609 k (arg5.view.writes (Elt F) G (maskPieces c arg0 harg0 arg1 harg1 arg2 harg2 arg3 harg3 arg4 harg4 arg5 harg5 arg6 harg6 arg7 harg7 v609 G k.val)) ++ maskPieces c arg0 harg0 arg1 harg1 arg2 harg2 arg3 harg3 arg4 harg4 arg5 harg5 arg6 harg6 arg7 harg7 v609 G k.val := by
  rw [maskPieces.eq_2]; exact dif_pos k.isLt

set_option warn.classDefReducibility false in
/-- The loop over the teacher's tokens: before token `k` the mask holds the pieces `maskPieces … k` over what it held at entry. -/
@[sl_loop] def loopInv_k0_t1 (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (G : BufTy.Contents (Elt F) arg5.view.ty) :
    LoopInvTy_k0_t1 (F := F) Unit ℕ (UU nD τ) ℕ 𝒱₀ c none Set.univ arg0 harg0 arg1 harg1 arg2 harg2 arg3 harg3 arg4 harg4 arg5 harg5 arg6 harg6 arg7 harg7 v609 where
  inv k _ := iprop(∃ f, (arg5.view.loc (c : Thread nD τ) ↦[arg5.view.set]{fullShare} f) ∗ ⌜f = arg5.view.writes (Elt F) G (maskPieces (F := F) c arg0 harg0 arg1 harg1 arg2 harg2 arg3 harg3 arg4 harg4 arg5 harg5 arg6 harg6 arg7 harg7 v609 G k)⌝)
  step k acc := by
    iintro ⟨%f, H5, %h5⟩
    subst h5
    unfold k0_t1_body
    sl_exec
    sl_step
    iexists _; isplitl [H5]; · iexact H5
    ipureintro
    rw [maskPieces_succ]

/-- What the body leaves in its six results' buffers, with the proof that from the eight buffers held whole — operands at `f0`, `f1`, results at
    anything — it runs to its return, the operands as they were and the results at these contents. -/
def prepRun (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole)
    (f0 : Bf (F := F) c arg0) (f1 : Bf (F := F) c arg1) :
    { W : Bf (F := F) c arg2 × Bf (F := F) c arg3 × Bf (F := F) c arg4 × Bf (F := F) c arg5 × Bf (F := F) c arg6 × Bf (F := F) c arg7 //
      ∀ (f2 : Bf (F := F) c arg2) (f3 : Bf (F := F) c arg3) (f4 : Bf (F := F) c arg4) (f5 : Bf (F := F) c arg5) (f6 : Bf (F := F) c arg6) (f7 : Bf (F := F) c arg7) (Q : PUnit → sProp 𝕄),
        iprop(pt c arg0 f0 ∗ pt c arg1 f1 ∗ pt c arg2 f2 ∗ pt c arg3 f3 ∗ pt c arg4 f4 ∗ pt c arg5 f5 ∗ pt c arg6 f6 ∗ pt c arg7 f7
          ∗ (iprop(pt c arg0 f0 ∗ pt c arg1 f1 ∗ pt c arg2 W.1 ∗ pt c arg3 W.2.1 ∗ pt c arg4 W.2.2.1 ∗ pt c arg5 W.2.2.2.1 ∗ pt c arg6 W.2.2.2.2.1 ∗ pt c arg7 W.2.2.2.2.2) -∗ Q ⟨⟩))
        ⊢ wp frame (wpE (defs₀ (F := F)) 𝒱₀ (c : Thread nD τ) none) Set.univ
            (cc0_prep (F := F) arg0 harg0 arg1 harg1 arg2 harg2 arg3 harg3 arg4 harg4 arg5 harg5 arg6 harg6 arg7 harg7) Q } := by
  refine ⟨⟨?_, ?_, ?_, ?_, ?_, ?_⟩, fun f2 f3 f4 f5 f6 f7 Q => ?run⟩
  case run =>
    iintro ⟨H0, H1, H2, H3, H4, H5, H6, H7, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Kernel.Own

end
-- ==== Proof.Head.lean ====
/-
  The vocabulary kernel's body (`cc1_head`), run at symbolic operands, at any float instance: at the first tile, at a tile between, at the
  last one. What it leaves in the buffers it writes is a function of what it finds in the others alone.
-/
module

public import proofs.«01_k».proof.Proof.Prep

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body's first condition: it is at the first tile. -/
abbrev condFirst (i : grid1.Coords) : Prop := Scalar.cmpi .ne (Scalar.extui (Scalar.cmpi .eq (BitVec.ofNat 32 (i 0).val) 0#32) : BitVec 32) 0#32 = 1#1
/-- The body's second condition: it is at the last tile. -/
abbrev condLast (i : grid1.Coords) : Prop := k1_cond2 i = 1#1

set_option maxHeartbeats 4000000 in
/-- At the first tile: what the body leaves in the buffers it writes, with the proof that from the sixteen buffers held whole it runs to its return, the
    buffers it reads as they were and those it writes at these contents. -/
def headFirst (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (h1 : condFirst i) (h2 : ¬condLast i) (f1 : Bf (F := F) c arg1) (f2 : Bf (F := F) c arg2) (f3 : Bf (F := F) c arg3) (f4 : Bf (F := F) c arg4) (f5 : Bf (F := F) c arg5) (f6 : Bf (F := F) c arg6) :
    { W : Bf (F := F) c arg12 × Bf (F := F) c arg13 × Bf (F := F) c arg14 × Bf (F := F) c arg15 × Bf (F := F) c arg16 //
      ∀ (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 W.1 ∗ pt c arg13 W.2.1 ∗ pt c arg14 W.2.2.1 ∗ pt c arg15 W.2.2.2.1 ∗ pt c arg16 W.2.2.2.2) -∗ Q ⟨⟩))
        ⊢ wp frame (wpE (defs₀ (F := F)) 𝒱₀ (c : Thread nD τ) none) Set.univ
            (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_⟩, fun f7 f8 f9 f10 f11 f12 f13 f14 f15 f16 Q => ?run⟩
  case run =>
    iintro ⟨H1, H2, H3, H4, H5, H6, H7, H8, H9, H10, H11, H12, H13, H14, H15, H16, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- At a tile between: what the body leaves in the buffers it writes, with the proof that from the sixteen buffers held whole it runs to its return, the
    buffers it reads as they were and those it writes at these contents. -/
def headMid (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (h1 : ¬condFirst i) (h2 : ¬condLast i) (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f15 : Bf (F := F) c arg15) (f16 : Bf (F := F) c arg16) :
    { W : Bf (F := F) c arg12 × Bf (F := F) c arg13 × Bf (F := F) c arg14 × Bf (F := F) c arg15 × Bf (F := F) c arg16 //
      ∀ (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 W.1 ∗ pt c arg13 W.2.1 ∗ pt c arg14 W.2.2.1 ∗ pt c arg15 W.2.2.2.1 ∗ pt c arg16 W.2.2.2.2) -∗ Q ⟨⟩))
        ⊢ wp frame (wpE (defs₀ (F := F)) 𝒱₀ (c : Thread nD τ) none) Set.univ
            (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_⟩, fun f7 f8 f9 f10 f11 f12 f13 Q => ?run⟩
  case run =>
    iintro ⟨H1, H2, H3, H4, H5, H6, H7, H8, H9, H10, H11, H12, H13, H14, H15, H16, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- At the last tile: what the body leaves in the buffers it writes, with the proof that from the sixteen buffers held whole it runs to its return, the
    buffers it reads as they were and those it writes at these contents. -/
def headLast (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (h1 : ¬condFirst i) (h2 : condLast i) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f14 : Bf (F := F) c arg14) (f15 : Bf (F := F) c arg15) (f16 : Bf (F := F) c arg16) :
    { W : Bf (F := F) c arg8 × Bf (F := F) c arg9 × Bf (F := F) c arg10 × Bf (F := F) c arg11 × Bf (F := F) c arg12 × Bf (F := F) c arg13 × Bf (F := F) c arg14 × Bf (F := F) c arg15 × Bf (F := F) c arg16 //
      ∀ (f8 : Bf (F := F) c arg8) (f9 : Bf (F := F) c arg9) (f10 : Bf (F := F) c arg10) (f11 : Bf (F := F) c arg11) (f12 : Bf (F := F) c arg12) (f13 : Bf (F := F) c arg13) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
          ∗ (iprop(pt c arg1 f1 ∗ pt c arg2 f2 ∗ pt c arg3 f3 ∗ pt c arg4 f4 ∗ pt c arg5 f5 ∗ pt c arg6 f6 ∗ pt c arg7 f7 ∗ pt c arg8 W.1 ∗ pt c arg9 W.2.1 ∗ pt c arg10 W.2.2.1 ∗ pt c arg11 W.2.2.2.1 ∗ pt c arg12 W.2.2.2.2.1 ∗ pt c arg13 W.2.2.2.2.2.1 ∗ pt c arg14 W.2.2.2.2.2.2.1 ∗ pt c arg15 W.2.2.2.2.2.2.2.1 ∗ pt c arg16 W.2.2.2.2.2.2.2.2) -∗ Q ⟨⟩))
        ⊢ wp frame (wpE (defs₀ (F := F)) 𝒱₀ (c : Thread nD τ) none) Set.univ
            (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_, ?_, ?_, ?_, ?_⟩, fun f8 f9 f10 f11 f12 f13 Q => ?run⟩
  case run =>
    iintro ⟨H1, H2, H3, H4, H5, H6, H7, H8, H9, H10, H11, H12, H13, H14, H15, H16, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Own

end
-- ==== Proof.Triples.lean ====
/-
  The two bodies' runs, stated over what the buffers read: each takes the vectors it reads to the vectors it leaves.
-/
module

public import proofs.«01_k».proof.Proof.Head
public import Idealize.ShloMosaic.Lib.Pipeline.FrameBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

attribute [local irreducible] prepRun headFirst headMid headLast

/-- What the quantising body leaves in its six results, of the two vectors it reads. -/
def prepVals (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (x0 : Vec F S256x1536 .bf16) (x1 : Vec F S48x256 .i32) : Vec F S256x1536 .fp8e4m3 × Vec F S12x256 .f32 × Vec F S256x1536 .bf16 × Vec F S75x256x128 .i32 × Vec F S256x128 .i32 × Vec F S256x128 .i32 :=
  let W := (prepRun (F := F) c arg0 harg0 arg1 harg1 arg2 harg2 arg3 harg3 arg4 harg4 arg5 harg5 arg6 harg6 arg7 harg7 (harg0.unread x0) (harg1.unread x1)).1
  (arg2.view.read (Elt F) W.1, arg3.view.read (Elt F) W.2.1, arg4.view.read (Elt F) W.2.2.1, arg5.view.read (Elt F) W.2.2.2.1, arg6.view.read (Elt F) W.2.2.2.2.1, arg7.view.read (Elt F) W.2.2.2.2.2)

set_option maxHeartbeats 1000000 in
/-- The body's triple there. -/
theorem prep_triple (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (x0 : Vec F S256x1536 .bf16) (x1 : Vec F S48x256 .i32) (Q : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
      ∗ (iprop(owns (c : Thread nD τ) arg0 fullShare x0 ∗ owns (c : Thread nD τ) arg1 fullShare x1 ∗ owns (c : Thread nD τ) arg2 fullShare (prepVals (F := F) c arg0 harg0 arg1 harg1 arg2 harg2 arg3 harg3 arg4 harg4 arg5 harg5 arg6 harg6 arg7 harg7 x0 x1).1 ∗ owns (c : Thread nD τ) arg3 fullShare (prepVals (F := F) c arg0 harg0 arg1 harg1 arg2 harg2 arg3 harg3 arg4 harg4 arg5 harg5 arg6 harg6 arg7 harg7 x0 x1).2.1 ∗ owns (c : Thread nD τ) arg4 fullShare (prepVals (F := F) c arg0 harg0 arg1 harg1 arg2 harg2 arg3 harg3 arg4 harg4 arg5 harg5 arg6 harg6 arg7 harg7 x0 x1).2.2.1 ∗ owns (c : Thread nD τ) arg5 fullShare (prepVals (F := F) c arg0 harg0 arg1 harg1 arg2 harg2 arg3 harg3 arg4 harg4 arg5 harg5 arg6 harg6 arg7 harg7 x0 x1).2.2.2.1 ∗ owns (c : Thread nD τ) arg6 fullShare (prepVals (F := F) c arg0 harg0 arg1 harg1 arg2 harg2 arg3 harg3 arg4 harg4 arg5 harg5 arg6 harg6 arg7 harg7 x0 x1).2.2.2.2.1 ∗ owns (c : Thread nD τ) arg7 fullShare (prepVals (F := F) c arg0 harg0 arg1 harg1 arg2 harg2 arg3 harg3 arg4 harg4 arg5 harg5 arg6 harg6 arg7 harg7 x0 x1).2.2.2.2.2) -∗ Q ⟨⟩))
    ⊢ wp frame (wpE (defs₀ (F := F)) 𝒱₀ (c : Thread nD τ) none) Set.univ (cc0_prep (F := F) arg0 harg0 arg1 harg1 arg2 harg2 arg3 harg3 arg4 harg4 arg5 harg5 arg6 harg6 arg7 harg7) Q := by
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  obtain rfl := harg0.eq_unread hf0
  obtain rfl := harg1.eq_unread hf1
  iapply ((prepRun (F := F) c arg0 harg0 arg1 harg1 arg2 harg2 arg3 harg3 arg4 harg4 arg5 harg5 arg6 harg6 arg7 harg7 (harg0.unread x0) (harg1.unread x1)).2 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  isplitl [H5]
  · iexists _; isplitr; swap; (· iexact H5); ipureintro; rfl
  isplitl [H6]
  · iexists _; isplitr; swap; (· iexact H6); ipureintro; rfl
  iexists _; isplitr; swap; (· iexact H7); ipureintro; rfl

/-- What the vocabulary body leaves in the running maximum, the running sum and the gathered logits at the first tile. -/
def firstVals (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) : Vec F S256x128 .f32 × Vec F S256x128 .f32 × Vec F S256x128 .f32 :=
  let W := (headFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6)).1
  (arg14.view.read (Elt F) W.2.2.1, arg15.view.read (Elt F) W.2.2.2.1, arg16.view.read (Elt F) W.2.2.2.2)

set_option maxHeartbeats 1000000 in
/-- The body's triple there. -/
theorem first_triple (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x7 : Vec F S48x256 .bf16) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (firstVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6).1 ∗ owns (c : Thread nD τ) arg15 fullShare (firstVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6).2.1 ∗ owns (c : Thread nD τ) arg16 fullShare (firstVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6).2.2) -∗ Q ⟨⟩))
    ⊢ wp frame (wpE (defs₀ (F := F)) 𝒱₀ (c : Thread nD τ) none) Set.univ (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  iapply ((headFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6)).2 f7 f8 f9 f10 f11 f12 f13 f14 f15 f16)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H5]
  · iexists _; isplitr; swap; (· iexact H5); ipureintro; exact hf5
  isplitl [H6]
  · iexists _; isplitr; swap; (· iexact H6); ipureintro; exact hf6
  isplitl [H7]
  · iexists _; isplitr; swap; (· iexact H7); ipureintro; exact hf7
  isplitl [H8]
  · iexists _; iexists _; isplitr; swap; (· iexact H8); ipureintro; rfl
  isplitl [H9]
  · iexists _; iexists _; isplitr; swap; (· iexact H9); ipureintro; rfl
  isplitl [H10]
  · iexists _; iexists _; isplitr; swap; (· iexact H10); ipureintro; rfl
  isplitl [H11]
  · iexists _; iexists _; isplitr; swap; (· iexact H11); ipureintro; rfl
  isplitl [H12]
  · iexists _; iexists _; isplitr; swap; (· iexact H12); ipureintro; rfl
  isplitl [H13]
  · iexists _; iexists _; isplitr; swap; (· iexact H13); ipureintro; rfl
  isplitl [H14]
  · iexists _; isplitr; swap; (· iexact H14); ipureintro; rfl
  isplitl [H15]
  · iexists _; isplitr; swap; (· iexact H15); ipureintro; rfl
  iexists _; isplitr; swap; (· iexact H16); ipureintro; rfl

/-- The same at a tile between. -/
def midVals (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x14 : Vec F S256x128 .f32) (x15 : Vec F S256x128 .f32) (x16 : Vec F S256x128 .f32) : Vec F S256x128 .f32 × Vec F S256x128 .f32 × Vec F S256x128 .f32 :=
  let W := (headMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg14.unread x14) (harg15.unread x15) (harg16.unread x16)).1
  (arg14.view.read (Elt F) W.2.2.1, arg15.view.read (Elt F) W.2.2.2.1, arg16.view.read (Elt F) W.2.2.2.2)

set_option maxHeartbeats 1000000 in
/-- The body's triple there. -/
theorem mid_triple (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x14 : Vec F S256x128 .f32) (x15 : Vec F S256x128 .f32) (x16 : Vec F S256x128 .f32) (x7 : Vec F S48x256 .bf16) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (midVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x14 x15 x16).1 ∗ owns (c : Thread nD τ) arg15 fullShare (midVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x14 x15 x16).2.1 ∗ owns (c : Thread nD τ) arg16 fullShare (midVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x14 x15 x16).2.2) -∗ Q ⟨⟩))
    ⊢ wp frame (wpE (defs₀ (F := F)) 𝒱₀ (c : Thread nD τ) none) Set.univ (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg14.eq_unread hf14
  obtain rfl := harg15.eq_unread hf15
  obtain rfl := harg16.eq_unread hf16
  iapply ((headMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg14.unread x14) (harg15.unread x15) (harg16.unread x16)).2 f7 f8 f9 f10 f11 f12 f13)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H5]
  · iexists _; isplitr; swap; (· iexact H5); ipureintro; exact hf5
  isplitl [H6]
  · iexists _; isplitr; swap; (· iexact H6); ipureintro; exact hf6
  isplitl [H7]
  · iexists _; isplitr; swap; (· iexact H7); ipureintro; exact hf7
  isplitl [H8]
  · iexists _; iexists _; isplitr; swap; (· iexact H8); ipureintro; rfl
  isplitl [H9]
  · iexists _; iexists _; isplitr; swap; (· iexact H9); ipureintro; rfl
  isplitl [H10]
  · iexists _; iexists _; isplitr; swap; (· iexact H10); ipureintro; rfl
  isplitl [H11]
  · iexists _; iexists _; isplitr; swap; (· iexact H11); ipureintro; rfl
  isplitl [H12]
  · iexists _; iexists _; isplitr; swap; (· iexact H12); ipureintro; rfl
  isplitl [H13]
  · iexists _; iexists _; isplitr; swap; (· iexact H13); ipureintro; rfl
  isplitl [H14]
  · iexists _; isplitr; swap; (· iexact H14); ipureintro; rfl
  isplitl [H15]
  · iexists _; isplitr; swap; (· iexact H15); ipureintro; rfl
  iexists _; isplitr; swap; (· iexact H16); ipureintro; rfl

/-- What the body leaves in its four results at the last tile. -/
def lastVals (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x7 : Vec F S48x256 .bf16) (x14 : Vec F S256x128 .f32) (x15 : Vec F S256x128 .f32) (x16 : Vec F S256x128 .f32) : Vec F S1x256 .f32 × Vec F S1x256 .f32 × Vec F S1x256 .f32 × Vec F S48x256 .f32 :=
  let W := (headLast (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg7.unread x7) (harg14.unread x14) (harg15.unread x15) (harg16.unread x16)).1
  (arg8.view.read (Elt F) W.1, arg9.view.read (Elt F) W.2.1, arg10.view.read (Elt F) W.2.2.1, arg11.view.read (Elt F) W.2.2.2.1)

set_option maxHeartbeats 1000000 in
/-- The body's triple there. -/
theorem last_triple (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x7 : Vec F S48x256 .bf16) (x14 : Vec F S256x128 .f32) (x15 : Vec F S256x128 .f32) (x16 : Vec F S256x128 .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).1 ∗ owns (c : Thread nD τ) arg9 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).2.1 ∗ owns (c : Thread nD τ) arg10 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).2.2.1 ∗ owns (c : Thread nD τ) arg11 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).2.2.2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Q ⟨⟩))
    ⊢ wp frame (wpE (defs₀ (F := F)) 𝒱₀ (c : Thread nD τ) none) Set.univ (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg14.eq_unread hf14
  obtain rfl := harg15.eq_unread hf15
  obtain rfl := harg16.eq_unread hf16
  iapply ((headLast (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg7.unread x7) (harg14.unread x14) (harg15.unread x15) (harg16.unread x16)).2 f8 f9 f10 f11 f12 f13)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H5]
  · iexists _; isplitr; swap; (· iexact H5); ipureintro; exact hf5
  isplitl [H6]
  · iexists _; isplitr; swap; (· iexact H6); ipureintro; exact hf6
  isplitl [H7]
  · iexists _; isplitr; swap; (· iexact H7); ipureintro; exact hf7
  isplitl [H8]
  · iexists _; isplitr; swap; (· iexact H8); ipureintro; rfl
  isplitl [H9]
  · iexists _; isplitr; swap; (· iexact H9); ipureintro; rfl
  isplitl [H10]
  · iexists _; isplitr; swap; (· iexact H10); ipureintro; rfl
  isplitl [H11]
  · iexists _; isplitr; swap; (· iexact H11); ipureintro; rfl
  isplitl [H12]
  · iexists _; iexists _; isplitr; swap; (· iexact H12); ipureintro; rfl
  isplitl [H13]
  · iexists _; iexists _; isplitr; swap; (· iexact H13); ipureintro; rfl
  isplitl [H14]
  · iexists _; iexists _; isplitr; swap; (· iexact H14); ipureintro; rfl
  isplitl [H15]
  · iexists _; iexists _; isplitr; swap; (· iexact H15); ipureintro; rfl
  iexists _; iexists _; isplitr; swap; (· iexact H16); ipureintro; rfl

end Cert.Kernel.Own

end
-- ==== Proof.Run0.lean ====
/-
  The quantising region of @main: its proof data, its body obligation and its record as a segment.
-/
module

public import proofs.«01_k».proof.Proof.Triples
public import proofs.«01_k».proof.Proof.Gen.Kernel.Points
public import proofs.«01_k».proof.Proof.Gen.Kernel.Regions
public import Idealize.ShloMosaic.Lib.Pipeline.DatRel
public import Idealize.ShloMosaic.Lib.Pipeline.ArrRel
public import Idealize.ShloMosaic.Lib.Pipeline.RegionsOwned
public import Idealize.ShloMosaic.Lib.Pipeline.FrameBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UU nD τ) ℕ

variable (m : (ℓ : Loc nD τ sig) → Buf (Elt F) ℓ)

/-- The quantising kernel's two operands as its region finds them: the rows to quantise and the teacher's tokens. -/
def in0_0 (c : Dev nD) : Vec F S256x1536 .bf16 := ((cfg0.win 0).blk t0_0).view.read (Elt F) (V1 m c (Pipeline.arrRef spec0 0))
def in0_1 (c : Dev nD) : Vec F S48x256 .i32 := ((cfg0.win 1).blk t0_0).view.read (Elt F) (V1 m c (Pipeline.arrRef spec0 1))

/-- What the quantising body leaves in its six results, at the pipeline's staging buffers. -/
def res0 (c : Dev nD) := prepVals (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (in0_0 m c) (in0_1 m c)

/-- The quantising region's proof data. -/
def dat0 (c : Dev nD) : Dat τ (Elt F) Unit ℕ (UU nD τ) ℕ cfg0 c where
  A w := V1 m c (Pipeline.arrRef spec0 w)
  after w _ := match w with
    | ⟨0, _⟩ => in0_0 m c
    | ⟨1, _⟩ => in0_1 m c
    | ⟨2, _⟩ => (res0 m c).1
    | ⟨3, _⟩ => (res0 m c).2.1
    | ⟨4, _⟩ => (res0 m c).2.2.1
    | ⟨5, _⟩ => (res0 m c).2.2.2.1
    | ⟨6, _⟩ => (res0 m c).2.2.2.2.1
    | ⟨7, _⟩ => (res0 m c).2.2.2.2.2
  Φ _ := Pipeline.scopedRest spec0 c
  q _ := fullShare
  owed _ := 0

theorem A_eq0 (c : Dev nD) (w : Fin cfg0.W) : (dat0 m c).A w = V1 m c (Pipeline.arrRef spec0 w) := by
  dsimp only [dat0]

theorem before0_0 (c : Dev nD) (d) : (dat0 m c).before 0 t0_0 d = in0_0 m c := by
  unfold Dat.before; rw [if_pos (by decide)]; rfl
theorem before0_1 (c : Dev nD) (d) : (dat0 m c).before 1 t0_0 d = in0_1 m c := by
  unfold Dat.before; rw [if_pos (by decide)]; rfl

/-- What the quantising body is called with, window by window, and what it returns. -/
def bodyPre0 (c : Dev nD) : sProp 𝕄 :=
  iprop((dat0 m c).Φ t0_0.castSucc ∗ (dat0 m c).owesAt () t0_0.castSucc
    ∗ (∃ d, owns (c : Thread nD τ) (st0_0 t0_0) fullShare ((dat0 m c).before 0 t0_0 d)) ∗ (∃ d, owns (c : Thread nD τ) (st0_1 t0_0) fullShare ((dat0 m c).before 1 t0_0 d)) ∗ (∃ d, owns (c : Thread nD τ) (st0_2 t0_0) fullShare ((dat0 m c).before 2 t0_0 d)) ∗ (∃ d, owns (c : Thread nD τ) (st0_3 t0_0) fullShare ((dat0 m c).before 3 t0_0 d)) ∗ (∃ d, owns (c : Thread nD τ) (st0_4 t0_0) fullShare ((dat0 m c).before 4 t0_0 d)) ∗ (∃ d, owns (c : Thread nD τ) (st0_5 t0_0) fullShare ((dat0 m c).before 5 t0_0 d)) ∗ (∃ d, owns (c : Thread nD τ) (st0_6 t0_0) fullShare ((dat0 m c).before 6 t0_0 d)) ∗ (∃ d, owns (c : Thread nD τ) (st0_7 t0_0) fullShare ((dat0 m c).before 7 t0_0 d)))
def bodyPost0 (c : Dev nD) : sProp 𝕄 :=
  iprop((dat0 m c).Φ t0_0.succ ∗ (dat0 m c).owesAt () t0_0.succ
    ∗ owns (c : Thread nD τ) (st0_0 t0_0) fullShare ((dat0 m c).after 0 t0_0) ∗ owns (c : Thread nD τ) (st0_1 t0_0) fullShare ((dat0 m c).after 1 t0_0) ∗ owns (c : Thread nD τ) (st0_2 t0_0) fullShare ((dat0 m c).after 2 t0_0) ∗ owns (c : Thread nD τ) (st0_3 t0_0) fullShare ((dat0 m c).after 3 t0_0) ∗ owns (c : Thread nD τ) (st0_4 t0_0) fullShare ((dat0 m c).after 4 t0_0) ∗ owns (c : Thread nD τ) (st0_5 t0_0) fullShare ((dat0 m c).after 5 t0_0) ∗ owns (c : Thread nD τ) (st0_6 t0_0) fullShare ((dat0 m c).after 6 t0_0) ∗ owns (c : Thread nD τ) (st0_7 t0_0) fullShare ((dat0 m c).after 7 t0_0))

theorem after0_0 (c : Dev nD) : (dat0 m c).after 0 t0_0 = in0_0 m c := rfl
theorem after0_1 (c : Dev nD) : (dat0 m c).after 1 t0_0 = in0_1 m c := rfl
theorem after0_2 (c : Dev nD) : (dat0 m c).after 2 t0_0 = (res0 m c).1 := rfl
theorem after0_3 (c : Dev nD) : (dat0 m c).after 3 t0_0 = (res0 m c).2.1 := rfl
theorem after0_4 (c : Dev nD) : (dat0 m c).after 4 t0_0 = (res0 m c).2.2.1 := rfl
theorem after0_5 (c : Dev nD) : (dat0 m c).after 5 t0_0 = (res0 m c).2.2.2.1 := rfl
theorem after0_6 (c : Dev nD) : (dat0 m c).after 6 t0_0 = (res0 m c).2.2.2.2.1 := rfl
theorem after0_7 (c : Dev nD) : (dat0 m c).after 7 t0_0 = (res0 m c).2.2.2.2.2 := rfl

theorem sound0 (c : Dev nD) : bodyPre0 m c ⊢ wp frame (wpE (defs₀ (F := F)) 𝒱₀ (c : Thread nD τ) none) Set.univ (bodyAt0 t0_0) (fun _ => bodyPost0 m c) := by
  unfold bodyPre0 bodyPost0 bodyAt0
  simp only [before0_0, before0_1]
  rw [show (dat0 m c).Φ t0_0.succ = (dat0 m c).Φ t0_0.castSucc from rfl,
    show (dat0 m c).owesAt () t0_0.succ = (dat0 m c).owesAt () t0_0.castSucc from rfl,
    after0_0, after0_1, after0_2, after0_3, after0_4, after0_5, after0_6, after0_7]
  unfold res0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (prep_triple (F := F) c _ _ _ _ _ _ _ _ _ _ _ _ _ _ _ _ (in0_0 m c) (in0_1 m c) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row0 (t : Fin cfg0.N) : defs₀ (F := F) .tc cfg0.body (cfg0.bodyArgs t (cfg0.slots t)) = bodyAt0 t := by
  unfold defs₀; rw [Defs.onTc_tc]

/-- The quantising body's obligation. -/
theorem body0 (c : Dev nD) : BodyObligation (dat0 m c) (defs₀ (F := F)) 𝒱₀ () Set.univ := fun t => by
  obtain rfl := fin_N0 t
  rw [bigSep_W0, bigSep_W0, defs₀_row0]
  exact triple_restated (sound0 m c) rfl .rfl fun _ => .rfl

/-- The unscoped buffers after the quantising region: its six results at what the proof data computes. -/
def U2 (c : Dev nD) : Valuation τ sig (Elt F) := Function.update (Function.update (Function.update (Function.update (Function.update (Function.update (V1 m c)
  main_v6_0 ((dat0 m c).arrAt 2 cfg0.N)) main_v6_1 ((dat0 m c).arrAt 3 cfg0.N)) main_v6_2 ((dat0 m c).arrAt 4 cfg0.N)) main_v6_3 ((dat0 m c).arrAt 5 cfg0.N)) main_v6_4 ((dat0 m c).arrAt 6 cfg0.N)) main_v6_5 ((dat0 m c).arrAt 7 cfg0.N)
/-- And after the host's transpose of the weights' scales. -/
def U3 (c : Dev nD) : Valuation τ sig (Elt F) := StableHlo.after hostOps1 (U2 m c)

end Cert.Kernel.Own

end
-- ==== Proof.Run1.lean ====
/-
  The projecting region of @main: its proof data over an abstract account of its tiles, and its body obligation.
-/
module

public import proofs.«01_k».proof.Proof.Run0
public import proofs.«01_k».proof.Proof.Gen.Kernel.Points
public import proofs.«01_k».proof.Proof.Gen.Kernel.Regions
public import Idealize.ShloMosaic.Lib.Pipeline.DatRel
public import Idealize.ShloMosaic.Lib.Pipeline.ArrRel
public import Idealize.ShloMosaic.Lib.Pipeline.RegionsOwned
public import Idealize.ShloMosaic.Lib.Pipeline.FrameBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UU nD τ) ℕ

attribute [local irreducible] firstVals midVals lastVals U3

variable (m : (ℓ : Loc nD τ sig) → Buf (Elt F) ℓ)

/-- What a window of the projecting region reads of its array, as the region finds it, at a tile; the two weight windows overhang the
    array at the last tile, where the buffer keeps `d`. -/
def opd1_0 (c : Dev nD) (t : Fin cfg1.N) : Vec F S256x1536 .bf16 := ((cfg1.win 0).blk t).view.read (Elt F) (U3 m c (Pipeline.arrRef spec1 0))
def opd1_1 (c : Dev nD) (t : Fin cfg1.N) (d : Vec F S2048x1536 .fp8e4m3) : Vec F S2048x1536 .fp8e4m3 := (cfg1.win 1).fill (cfg1.grid.coords t) d (((cfg1.win 1).blk t).view.read (Elt F) (U3 m c (Pipeline.arrRef spec1 1)))
def opd1_2 (c : Dev nD) (t : Fin cfg1.N) (d : Vec F S12x2048 .f32) : Vec F S12x2048 .f32 := (cfg1.win 2).fill (cfg1.grid.coords t) d (((cfg1.win 2).blk t).view.read (Elt F) (U3 m c (Pipeline.arrRef spec1 2)))
def opd1_3 (c : Dev nD) (t : Fin cfg1.N) : Vec F S1x256x128 .i32 := ((cfg1.win 3).blk t).view.read (Elt F) (U3 m c (Pipeline.arrRef spec1 3))
def opd1_4 (c : Dev nD) (t : Fin cfg1.N) : Vec F S256x128 .i32 := ((cfg1.win 4).blk t).view.read (Elt F) (U3 m c (Pipeline.arrRef spec1 4))
def opd1_5 (c : Dev nD) (t : Fin cfg1.N) : Vec F S256x128 .i32 := ((cfg1.win 5).blk t).view.read (Elt F) (U3 m c (Pipeline.arrRef spec1 5))
def opd1_6 (c : Dev nD) (t : Fin cfg1.N) : Vec F S48x256 .bf16 := ((cfg1.win 6).blk t).view.read (Elt F) (U3 m c (Pipeline.arrRef spec1 6))

/-- An account of the head's tiles: `I n` is what the running maximum, the running sum and the gathered scores meet after `n` tiles, and
    `O7` to `O10` what the four results meet at the last, given that the bodies keep it. -/
structure HeadSpec (c : Dev nD) where
  I : ℕ → Vec F S256x128 .f32 → Vec F S256x128 .f32 → Vec F S256x128 .f32 → Prop
  O7 : Vec F S1x256 .f32 → Prop
  O8 : Vec F S1x256 .f32 → Prop
  O9 : Vec F S1x256 .f32 → Prop
  O10 : Vec F S48x256 .f32 → Prop
  first : ∀ (t : Fin cfg1.N) (h1 : condFirst (grid1.coords t)) (h2 : ¬condLast (grid1.coords t)) (d1 : Vec F S2048x1536 .fp8e4m3) (d2 : Vec F S12x2048 .f32), t.val = 0 →
    I 1 (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t)).1 (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t)).2.1 (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t)).2.2
  mid : ∀ (t : Fin cfg1.N) (h1 : ¬condFirst (grid1.coords t)) (h2 : ¬condLast (grid1.coords t)) (d1 : Vec F S2048x1536 .fp8e4m3) (d2 : Vec F S12x2048 .f32) (x14 x15 x16 : Vec F S256x128 .f32), t.val ≠ 0 → I t.val x14 x15 x16 →
    I (t.val + 1) (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) x14 x15 x16).1 (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) x14 x15 x16).2.1 (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) x14 x15 x16).2.2
  last : ∀ (t : Fin cfg1.N) (h1 : ¬condFirst (grid1.coords t)) (h2 : condLast (grid1.coords t)) (d1 : Vec F S2048x1536 .fp8e4m3) (d2 : Vec F S12x2048 .f32) (x14 x15 x16 : Vec F S256x128 .f32), t.val = 74 → I t.val x14 x15 x16 →
    O7 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).1 ∧ O8 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).2.1 ∧ O9 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).2.2.1 ∧ O10 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).2.2.2

/-- The account that says nothing. -/
def HeadSpec.trivial (c : Dev nD) : HeadSpec m c where
  I _ _ _ _ := True
  O7 _ := True
  O8 _ := True
  O9 _ := True
  O10 _ := True
  first _ _ _ _ _ _ := True.intro
  mid _ _ _ _ _ _ _ _ _ _ := True.intro
  last _ _ _ _ _ _ _ _ _ _ := ⟨True.intro, True.intro, True.intro, True.intro⟩

theorem condFirst_iff : ∀ t : Fin cfg1.N, condFirst (grid1.coords t) ↔ t.val = 0 := by decide +kernel
theorem condLast_iff : ∀ t : Fin cfg1.N, condLast (grid1.coords t) ↔ t.val = 74 := by decide +kernel

variable {m}
variable {c : Dev nD} (S : HeadSpec m c)

/-- The windows whose leavings are held to a predicate: the two that overhang, and the four results. -/
def fgt1 : Fin cfg1.W → Bool := fun w => match w with
  | ⟨1, _⟩ => true | ⟨2, _⟩ => true | ⟨7, _⟩ => true | ⟨8, _⟩ => true | ⟨9, _⟩ => true | ⟨10, _⟩ => true
  | _ => false

/-- What a result's window leaves at the last tile. -/
def Rl1 : (w : Fin cfg1.W) → Fin cfg1.N → ((cfg1.win w).block.Idx → Elt F (cfg1.win w).elt) → Prop := fun w => match w with
  | ⟨7, _⟩ => fun t X => t.val = 74 → S.O7 X
  | ⟨8, _⟩ => fun t X => t.val = 74 → S.O8 X
  | ⟨9, _⟩ => fun t X => t.val = 74 → S.O9 X
  | ⟨10, _⟩ => fun t X => t.val = 74 → S.O10 X
  | _ => fun _ _ => True

/-- What the scoped memory holds between the tiles: the carried buffers at what `I` says, the rest at anything. -/
def Phi1 (t : ℕ) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f)
    ∗ (∃ d, owns (c : Thread nD τ) (Memref.whole cc1_scratch0) fullShare d) ∗ (∃ d, owns (c : Thread nD τ) (Memref.whole cc1_scratch1) fullShare d)
    ∗ ∃ x14 x15 x16, ⌜t ≠ 0 → t ≤ 74 → S.I t x14 x15 x16⌝ ∗ owns (c : Thread nD τ) (Memref.whole cc1_scratch2) fullShare x14 ∗ owns (c : Thread nD τ) (Memref.whole cc1_scratch3) fullShare x15 ∗ owns (c : Thread nD τ) (Memref.whole cc1_scratch4) fullShare x16)

/-- The projecting region's proof data. -/
def dat1 : Dat τ (Elt F) Unit ℕ (UU nD τ) ℕ cfg1 c where
  A w := U3 m c (Pipeline.arrRef spec1 w)
  after w t := match w with
    | ⟨0, _⟩ => opd1_0 m c t
    | ⟨3, _⟩ => opd1_3 m c t
    | ⟨4, _⟩ => opd1_4 m c t
    | ⟨5, _⟩ => opd1_5 m c t
    | ⟨6, _⟩ => opd1_6 m c t
    | w => fun _ => Classical.choice inferInstance
  Φ t := Phi1 S t.val
  q _ := fullShare
  owed _ := 0

theorem A_eq1 (w : Fin cfg1.W) : (dat1 S).A w = U3 m c (Pipeline.arrRef spec1 w) := by
  dsimp only [dat1]

theorem before1_0 (t : Fin cfg1.N) (d) : (dat1 S).before 0 t d = opd1_0 m c t :=
  (Dat.before_in_eq_fetched (dat1 S) 0 (by decide) (by decide) (by intros; rfl) (by intros; rfl) t d).trans rfl
theorem after1_0 (t : Fin cfg1.N) : (dat1 S).after 0 t = opd1_0 m c t := rfl

theorem before1_3 (t : Fin cfg1.N) (d) : (dat1 S).before 3 t d = opd1_3 m c t :=
  (Dat.before_in_eq_fetched (dat1 S) 3 (by decide) (by decide) (by intros; rfl) (by intros; rfl) t d).trans rfl
theorem after1_3 (t : Fin cfg1.N) : (dat1 S).after 3 t = opd1_3 m c t := rfl

theorem before1_4 (t : Fin cfg1.N) (d) : (dat1 S).before 4 t d = opd1_4 m c t :=
  (Dat.before_in_eq_fetched (dat1 S) 4 (by decide) (by decide) (by intros; rfl) (by intros; rfl) t d).trans rfl
theorem after1_4 (t : Fin cfg1.N) : (dat1 S).after 4 t = opd1_4 m c t := rfl

theorem before1_5 (t : Fin cfg1.N) (d) : (dat1 S).before 5 t d = opd1_5 m c t :=
  (Dat.before_in_eq_fetched (dat1 S) 5 (by decide) (by decide) (by intros; rfl) (by intros; rfl) t d).trans rfl
theorem after1_5 (t : Fin cfg1.N) : (dat1 S).after 5 t = opd1_5 m c t := rfl

theorem before1_6 (t : Fin cfg1.N) (d) : (dat1 S).before 6 t d = opd1_6 m c t :=
  (Dat.before_in_eq_fetched (dat1 S) 6 (by decide) (by decide) (by intros; rfl) (by intros; rfl) t d).trans rfl
theorem after1_6 (t : Fin cfg1.N) : (dat1 S).after 6 t = opd1_6 m c t := rfl

theorem finds1_1 (t : Fin cfg1.N) (X) (h : ((dat1 S).toRRel fgt1 (Rl1 S)).Finds 1 t X) : ∃ d, X = opd1_1 m c t d := by
  obtain ⟨d, hd⟩ := (RDat.finds_of_fetch _ (fetch1_1 t) X).mp h
  exact ⟨d, hd⟩

theorem finds1_2 (t : Fin cfg1.N) (X) (h : ((dat1 S).toRRel fgt1 (Rl1 S)).Finds 2 t X) : ∃ d, X = opd1_2 m c t d := by
  obtain ⟨d, hd⟩ := (RDat.finds_of_fetch _ (fetch1_2 t) X).mp h
  exact ⟨d, hd⟩

/-- What the head's body is called with, window by window, and what it returns. -/
def bodyPre1 (t : Fin cfg1.N) : sProp 𝕄 :=
  iprop(Phi1 S t.val ∗ (dat1 S).owesAt () t.castSucc
    ∗ (∃ d, owns (c : Thread nD τ) (st1_0 t) fullShare ((dat1 S).before 0 t d)) ∗ (∃ Y, ⌜((dat1 S).toRRel fgt1 (Rl1 S)).Finds 1 t Y⌝ ∗ owns (c : Thread nD τ) (st1_1 t) fullShare Y) ∗ (∃ Y, ⌜((dat1 S).toRRel fgt1 (Rl1 S)).Finds 2 t Y⌝ ∗ owns (c : Thread nD τ) (st1_2 t) fullShare Y) ∗ (∃ d, owns (c : Thread nD τ) (st1_3 t) fullShare ((dat1 S).before 3 t d)) ∗ (∃ d, owns (c : Thread nD τ) (st1_4 t) fullShare ((dat1 S).before 4 t d)) ∗ (∃ d, owns (c : Thread nD τ) (st1_5 t) fullShare ((dat1 S).before 5 t d)) ∗ (∃ d, owns (c : Thread nD τ) (st1_6 t) fullShare ((dat1 S).before 6 t d)) ∗ (∃ Y, ⌜((dat1 S).toRRel fgt1 (Rl1 S)).Finds 7 t Y⌝ ∗ owns (c : Thread nD τ) (st1_7 t) fullShare Y) ∗ (∃ Y, ⌜((dat1 S).toRRel fgt1 (Rl1 S)).Finds 8 t Y⌝ ∗ owns (c : Thread nD τ) (st1_8 t) fullShare Y) ∗ (∃ Y, ⌜((dat1 S).toRRel fgt1 (Rl1 S)).Finds 9 t Y⌝ ∗ owns (c : Thread nD τ) (st1_9 t) fullShare Y) ∗ (∃ Y, ⌜((dat1 S).toRRel fgt1 (Rl1 S)).Finds 10 t Y⌝ ∗ owns (c : Thread nD τ) (st1_10 t) fullShare Y))
def bodyPost1 (t : Fin cfg1.N) : sProp 𝕄 :=
  iprop(Phi1 S (t.val + 1) ∗ (dat1 S).owesAt () t.castSucc
    ∗ owns (c : Thread nD τ) (st1_0 t) fullShare ((dat1 S).after 0 t) ∗ (∃ X, ⌜Rl1 S 1 t X⌝ ∗ owns (c : Thread nD τ) (st1_1 t) fullShare X) ∗ (∃ X, ⌜Rl1 S 2 t X⌝ ∗ owns (c : Thread nD τ) (st1_2 t) fullShare X) ∗ owns (c : Thread nD τ) (st1_3 t) fullShare ((dat1 S).after 3 t) ∗ owns (c : Thread nD τ) (st1_4 t) fullShare ((dat1 S).after 4 t) ∗ owns (c : Thread nD τ) (st1_5 t) fullShare ((dat1 S).after 5 t) ∗ owns (c : Thread nD τ) (st1_6 t) fullShare ((dat1 S).after 6 t) ∗ (∃ X, ⌜Rl1 S 7 t X⌝ ∗ owns (c : Thread nD τ) (st1_7 t) fullShare X) ∗ (∃ X, ⌜Rl1 S 8 t X⌝ ∗ owns (c : Thread nD τ) (st1_8 t) fullShare X) ∗ (∃ X, ⌜Rl1 S 9 t X⌝ ∗ owns (c : Thread nD τ) (st1_9 t) fullShare X) ∗ (∃ X, ⌜Rl1 S 10 t X⌝ ∗ owns (c : Thread nD τ) (st1_10 t) fullShare X))

set_option backward.isDefEq.respectTransparency.types false in
theorem sound1 (t : Fin cfg1.N) : bodyPre1 S t ⊢ wp frame (wpE (defs₀ (F := F)) 𝒱₀ (c : Thread nD τ) none) Set.univ (bodyAt1 t) (fun _ => bodyPost1 S t) := by
  unfold bodyPre1 bodyPost1 bodyAt1 Phi1
  simp only [before1_0, after1_0, before1_3, after1_3, before1_4, after1_4, before1_5, after1_5, before1_6, after1_6]
  iintro ⟨⟨HS0, HS1, HS2, HS3, HS4, HS5, HS6, HS7, ⟨%e12, H12⟩, ⟨%e13, H13⟩, %x14, %x15, %x16, %hI, H14, H15, H16⟩, Ho, ⟨%d0, H1⟩, ⟨%d1, %hd1, H2⟩, ⟨%d2, %hd2, H3⟩, ⟨%d3, H4⟩, ⟨%d4, H5⟩, ⟨%d5, H6⟩, ⟨%d6, H7⟩, ⟨%d7, %hd7, H8⟩, ⟨%d8, %hd8, H9⟩, ⟨%d9, %hd9, H10⟩, ⟨%d10, %hd10, H11⟩⟩
  obtain ⟨e1, rfl⟩ := finds1_1 S t _ hd1
  obtain ⟨e2, rfl⟩ := finds1_2 S t _ hd2
  by_cases ht0 : t.val = 0
  · have h1 := (condFirst_iff t).mpr ht0
    have ht74 : t.val ≠ 74 := by omega
    have h2 : ¬condLast (grid1.coords t) := fun h => ht74 ((condLast_iff t).mp h)
    iapply (first_triple (F := F) c (grid1.coords t) _ _ _ _ _ _ _ _ _ _ _ _ _ _ _ _ _ _ _ _ _ _ _ _ _ _ _ _ _ _ _ _ h1 h2 (opd1_0 m c t) (opd1_1 m c t e1) (opd1_2 m c t e2) (opd1_3 m c t) (opd1_4 m c t) (opd1_5 m c t) (opd1_6 m c t) _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H1, H2, H3, H4, H5, H6, H7, ⟨%y8, H8⟩, ⟨%y9, H9⟩, ⟨%y10, H10⟩, ⟨%y11, H11⟩, ⟨%y12, H12⟩, ⟨%y13, H13⟩, H14, H15, H16⟩
    isplitl [HS0 HS1 HS2 HS3 HS4 HS5 HS6 HS7 H12 H13 H14 H15 H16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [H12]; · iexists _; iexact H12
      isplitl [H13]; · iexists _; iexact H13
      iexists (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t)).1; iexists (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t)).2.1; iexists (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t)).2.2
      isplitr [H14 H15 H16]
      · ipureintro; intro _ _; rw [ht0]; exact S.first t h1 h2 e1 e2 ht0
      isplitl [H14]; · iexact H14
      isplitl [H15]; · iexact H15
      iexact H16
    isplitl [Ho]; · iexact Ho
    isplitl [H1]
    · iexact H1
    isplitl [H2]
    · iexists (opd1_1 m c t e1); isplitr; · (ipureintro; trivial)
      iexact H2
    isplitl [H3]
    · iexists (opd1_2 m c t e2); isplitr; · (ipureintro; trivial)
      iexact H3
    isplitl [H4]
    · iexact H4
    isplitl [H5]
    · iexact H5
    isplitl [H6]
    · iexact H6
    isplitl [H7]
    · iexact H7
    isplitl [H8]
    · iexists y8; isplitr; · (ipureintro; exact (fun h => absurd h ht74))
      iexact H8
    isplitl [H9]
    · iexists y9; isplitr; · (ipureintro; exact (fun h => absurd h ht74))
      iexact H9
    isplitl [H10]
    · iexists y10; isplitr; · (ipureintro; exact (fun h => absurd h ht74))
      iexact H10
    iexists y11; isplitr; · (ipureintro; exact (fun h => absurd h ht74))
    iexact H11
  · have h1 : ¬condFirst (grid1.coords t) := fun h => ht0 ((condFirst_iff t).mp h)
    by_cases ht74 : t.val = 74
    · have h2 := (condLast_iff t).mpr ht74
      iapply (last_triple (F := F) c (grid1.coords t) _ _ _ _ _ _ _ _ _ _ _ _ _ _ _ _ _ _ _ _ _ _ _ _ _ _ _ _ _ _ _ _ h1 h2 (opd1_0 m c t) (opd1_1 m c t e1) (opd1_2 m c t e2) (opd1_3 m c t) (opd1_4 m c t) (opd1_5 m c t) (opd1_6 m c t) x14 x15 x16 _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexact H14
      isplitl [H15]; · iexact H15
      isplitl [H16]; · iexact H16
      iintro ⟨H1, H2, H3, H4, H5, H6, H7, H8, H9, H10, H11, ⟨%y12, H12⟩, ⟨%y13, H13⟩, ⟨%y14, H14⟩, ⟨%y15, H15⟩, ⟨%y16, H16⟩⟩
      isplitl [HS0 HS1 HS2 HS3 HS4 HS5 HS6 HS7 H12 H13 H14 H15 H16]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [H12]; · iexists _; iexact H12
        isplitl [H13]; · iexists _; iexact H13
        iexists y14; iexists y15; iexists y16
        isplitr [H14 H15 H16]
        · ipureintro; intro _ hle; omega
        isplitl [H14]; · iexact H14
        isplitl [H15]; · iexact H15
        iexact H16
      isplitl [Ho]; · iexact Ho
      isplitl [H1]
      · iexact H1
      isplitl [H2]
      · iexists (opd1_1 m c t e1); isplitr; · (ipureintro; trivial)
        iexact H2
      isplitl [H3]
      · iexists (opd1_2 m c t e2); isplitr; · (ipureintro; trivial)
        iexact H3
      isplitl [H4]
      · iexact H4
      isplitl [H5]
      · iexact H5
      isplitl [H6]
      · iexact H6
      isplitl [H7]
      · iexact H7
      isplitl [H8]
      · iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).1; isplitr; · (ipureintro; exact (fun _ => (S.last t h1 h2 e1 e2 x14 x15 x16 ht74 (hI ht0 (by omega))).1))
        iexact H8
      isplitl [H9]
      · iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).2.1; isplitr; · (ipureintro; exact (fun _ => (S.last t h1 h2 e1 e2 x14 x15 x16 ht74 (hI ht0 (by omega))).2.1))
        iexact H9
      isplitl [H10]
      · iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).2.2.1; isplitr; · (ipureintro; exact (fun _ => (S.last t h1 h2 e1 e2 x14 x15 x16 ht74 (hI ht0 (by omega))).2.2.1))
        iexact H10
      iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).2.2.2; isplitr; · (ipureintro; exact (fun _ => (S.last t h1 h2 e1 e2 x14 x15 x16 ht74 (hI ht0 (by omega))).2.2.2))
      iexact H11
    · have h2 : ¬condLast (grid1.coords t) := fun h => ht74 ((condLast_iff t).mp h)
      have hlt : t.val < 75 := N_1 ▸ t.isLt
      iapply (mid_triple (F := F) c (grid1.coords t) _ _ _ _ _ _ _ _ _ _ _ _ _ _ _ _ _ _ _ _ _ _ _ _ _ _ _ _ _ _ _ _ h1 h2 (opd1_0 m c t) (opd1_1 m c t e1) (opd1_2 m c t e2) (opd1_3 m c t) (opd1_4 m c t) (opd1_5 m c t) x14 x15 x16 (opd1_6 m c t) _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexact H14
      isplitl [H15]; · iexact H15
      isplitl [H16]; · iexact H16
      iintro ⟨H1, H2, H3, H4, H5, H6, H7, ⟨%y8, H8⟩, ⟨%y9, H9⟩, ⟨%y10, H10⟩, ⟨%y11, H11⟩, ⟨%y12, H12⟩, ⟨%y13, H13⟩, H14, H15, H16⟩
      isplitl [HS0 HS1 HS2 HS3 HS4 HS5 HS6 HS7 H12 H13 H14 H15 H16]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [H12]; · iexists _; iexact H12
        isplitl [H13]; · iexists _; iexact H13
        iexists (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) x14 x15 x16).1; iexists (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) x14 x15 x16).2.1; iexists (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) x14 x15 x16).2.2
        isplitr [H14 H15 H16]
        · ipureintro; intro _ _; exact S.mid t h1 h2 e1 e2 x14 x15 x16 ht0 (hI ht0 (by omega))
        isplitl [H14]; · iexact H14
        isplitl [H15]; · iexact H15
        iexact H16
      isplitl [Ho]; · iexact Ho
      isplitl [H1]
      · iexact H1
      isplitl [H2]
      · iexists (opd1_1 m c t e1); isplitr; · (ipureintro; trivial)
        iexact H2
      isplitl [H3]
      · iexists (opd1_2 m c t e2); isplitr; · (ipureintro; trivial)
        iexact H3
      isplitl [H4]
      · iexact H4
      isplitl [H5]
      · iexact H5
      isplitl [H6]
      · iexact H6
      isplitl [H7]
      · iexact H7
      isplitl [H8]
      · iexists y8; isplitr; · (ipureintro; exact (fun h => absurd h ht74))
        iexact H8
      isplitl [H9]
      · iexists y9; isplitr; · (ipureintro; exact (fun h => absurd h ht74))
        iexact H9
      isplitl [H10]
      · iexists y10; isplitr; · (ipureintro; exact (fun h => absurd h ht74))
        iexact H10
      iexists y11; isplitr; · (ipureintro; exact (fun h => absurd h ht74))
      iexact H11

theorem defs₀_row1 (t : Fin cfg1.N) : defs₀ (F := F) .tc cfg1.body (cfg1.bodyArgs t (cfg1.slots t)) = bodyAt1 t := by
  unfold defs₀; rw [Defs.onTc_tc]

/-- The head's body obligation. -/
theorem body1 : Pipeline.BodyObligationRel (dat1 S) (defs₀ (F := F)) 𝒱₀ () Set.univ fgt1 (Rl1 S) := fun t => by
  rw [bigSep_W1, bigSep_W1, defs₀_row1]
  exact triple_restated (sound1 S t) rfl .rfl fun _ => .rfl

end Cert.Kernel.Own

end
-- ==== Proof.Run.lean ====
/-
  @main run: its two regions as segments between the host stretches, and what every final state holds.
-/
module

public import proofs.«01_k».proof.Proof.Run1
public import proofs.«01_k».proof.Proof.Gen.Kernel.Points
public import proofs.«01_k».proof.Proof.Gen.Kernel.Regions
public import Idealize.ShloMosaic.Lib.Pipeline.DatRel
public import Idealize.ShloMosaic.Lib.Pipeline.ArrRel
public import Idealize.ShloMosaic.Lib.Pipeline.RegionsOwned
public import Idealize.ShloMosaic.Lib.Pipeline.FrameBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)

variable {F : FTy → Type} [FloatOps F]

local notation "𝕄" => MT nD τ sig Unit (Elt F) ℕ (UU nD τ) ℕ

attribute [local irreducible] prepVals firstVals midVals lastVals

variable (m : (ℓ : Loc nD τ sig) → Buf (Elt F) ℓ)

variable {m}
variable (S : ∀ c : Dev nD, HeadSpec m c)

/-- What the head leaves in its four results: contents that meet the account. -/
def Γ (c : Dev nD) : Type :=
  {γ : Vec F S1x256 .f32 × Vec F S1x256 .f32 × Vec F S1x256 .f32 × Vec F S48x256 .f32 //
    (S c).O7 γ.1 ∧ (S c).O8 γ.2.1 ∧ (S c).O9 γ.2.2.1 ∧ (S c).O10 γ.2.2.2}

/-- The unscoped buffers after the head's region. -/
def U4 (c : Dev nD) (γ : Γ S c) : Valuation τ sig (Elt F) := Function.update (Function.update (Function.update (Function.update (U3 m c)
  main_v8_0 γ.1.1) main_v8_1 γ.1.2.1) main_v8_2 γ.1.2.2.1) main_v8_3 γ.1.2.2.2
/-- And after the last host stretch. -/
def U5 (c : Dev nD) (γ : Γ S c) : Valuation τ sig (Elt F) := StableHlo.after hostOps2 (U4 S c γ)

/-- The regions' proof data, exact and as the run takes them. -/
def pdats : (p : Fin 2) → (c : Dev nD) → Dat τ (Elt F) Unit ℕ (UU nD τ) ℕ (cfgs p) c
  | ⟨0, _⟩, c => dat0 m c
  | ⟨1, _⟩, c => dat1 (S c)
def rdats : (p : Fin 2) → (c : Dev nD) → RDat τ (Elt F) Unit ℕ (UU nD τ) ℕ (cfgs p) c
  | ⟨0, _⟩, c => (dat0 m c).toR
  | ⟨1, _⟩, c => (dat1 (S c)).toRRel fgt1 (Rl1 (S c))

abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

def hseg0 : HostSeg (Ix := Unit) (Name := ℕ) (U := UU nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def hseg1 : HostSeg (Ix := Unit) (Name := ℕ) (U := UU nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) R
def hseg2 : HostSeg (Ix := Unit) (Name := ℕ) (U := UU nD τ) (Lvl := ℕ) (pcfgs (F := F)) defs₀ 𝒱₀ L lv :=
  HostSeg.ofOpsEx _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 S) R

theorem U2_of (c : Dev nD) (r : Ref sig .tc) (h : r ∉ ([main_v6_0, main_v6_1, main_v6_2, main_v6_3, main_v6_4, main_v6_5] : List (Ref sig .tc))) : U2 m c r = V1 m c r := by
  simp only [List.mem_cons, not_or] at h
  simp only [U2, Function.update_of_ne (StableHlo.devRef_ne_of_ne (τ := τ) h.1), Function.update_of_ne (StableHlo.devRef_ne_of_ne (τ := τ) h.2.1), Function.update_of_ne (StableHlo.devRef_ne_of_ne (τ := τ) h.2.2.1), Function.update_of_ne (StableHlo.devRef_ne_of_ne (τ := τ) h.2.2.2.1), Function.update_of_ne (StableHlo.devRef_ne_of_ne (τ := τ) h.2.2.2.2.1), Function.update_of_ne (StableHlo.devRef_ne_of_ne (τ := τ) h.2.2.2.2.2.1)]
theorem U3_of (c : Dev nD) (r : Ref sig .tc) (h : r ∉ hostOps1_W) : U3 m c r = U2 m c r :=
  StableHlo.after_of_writes_sub hostOps1 _ hostOps1_writes h
theorem U4_of (c : Dev nD) (γ : Γ S c) (r : Ref sig .tc) (h : r ∉ ([main_v8_0, main_v8_1, main_v8_2, main_v8_3] : List (Ref sig .tc))) : U4 S c γ r = U3 m c r := by
  simp only [List.mem_cons, not_or] at h
  simp only [U4, Function.update_of_ne (StableHlo.devRef_ne_of_ne (τ := τ) h.1), Function.update_of_ne (StableHlo.devRef_ne_of_ne (τ := τ) h.2.1), Function.update_of_ne (StableHlo.devRef_ne_of_ne (τ := τ) h.2.2.1), Function.update_of_ne (StableHlo.devRef_ne_of_ne (τ := τ) h.2.2.2.1)]
theorem U5_of (c : Dev nD) (γ : Γ S c) (r : Ref sig .tc) (h : r ∉ hostOps2_W) : U5 S c γ r = U4 S c γ r :=
  StableHlo.after_of_writes_sub hostOps2 _ hostOps2_writes h

theorem U2_main_v6_0 (c : Dev nD) : U2 m c main_v6_0 = (dat0 m c).arrAt 2 cfg0.N := by
  simp only [U2, Function.update_of_ne (StableHlo.devRef_ne_of_ne (τ := τ) (show main_v6_0 ≠ main_v6_5 by decide)), Function.update_of_ne (StableHlo.devRef_ne_of_ne (τ := τ) (show main_v6_0 ≠ main_v6_4 by decide)), Function.update_of_ne (StableHlo.devRef_ne_of_ne (τ := τ) (show main_v6_0 ≠ main_v6_3 by decide)), Function.update_of_ne (StableHlo.devRef_ne_of_ne (τ := τ) (show main_v6_0 ≠ main_v6_2 by decide)), Function.update_of_ne (StableHlo.devRef_ne_of_ne (τ := τ) (show main_v6_0 ≠ main_v6_1 by decide)), Function.update_self]
theorem U2_main_v6_1 (c : Dev nD) : U2 m c main_v6_1 = (dat0 m c).arrAt 3 cfg0.N := by
  simp only [U2, Function.update_of_ne (StableHlo.devRef_ne_of_ne (τ := τ) (show main_v6_1 ≠ main_v6_5 by decide)), Function.update_of_ne (StableHlo.devRef_ne_of_ne (τ := τ) (show main_v6_1 ≠ main_v6_4 by decide)), Function.update_of_ne (StableHlo.devRef_ne_of_ne (τ := τ) (show main_v6_1 ≠ main_v6_3 by decide)), Function.update_of_ne (StableHlo.devRef_ne_of_ne (τ := τ) (show main_v6_1 ≠ main_v6_2 by decide)), Function.update_self]
theorem U2_main_v6_2 (c : Dev nD) : U2 m c main_v6_2 = (dat0 m c).arrAt 4 cfg0.N := by
  simp only [U2, Function.update_of_ne (StableHlo.devRef_ne_of_ne (τ := τ) (show main_v6_2 ≠ main_v6_5 by decide)), Function.update_of_ne (StableHlo.devRef_ne_of_ne (τ := τ) (show main_v6_2 ≠ main_v6_4 by decide)), Function.update_of_ne (StableHlo.devRef_ne_of_ne (τ := τ) (show main_v6_2 ≠ main_v6_3 by decide)), Function.update_self]
theorem U2_main_v6_3 (c : Dev nD) : U2 m c main_v6_3 = (dat0 m c).arrAt 5 cfg0.N := by
  simp only [U2, Function.update_of_ne (StableHlo.devRef_ne_of_ne (τ := τ) (show main_v6_3 ≠ main_v6_5 by decide)), Function.update_of_ne (StableHlo.devRef_ne_of_ne (τ := τ) (show main_v6_3 ≠ main_v6_4 by decide)), Function.update_self]
theorem U2_main_v6_4 (c : Dev nD) : U2 m c main_v6_4 = (dat0 m c).arrAt 6 cfg0.N := by
  simp only [U2, Function.update_of_ne (StableHlo.devRef_ne_of_ne (τ := τ) (show main_v6_4 ≠ main_v6_5 by decide)), Function.update_self]
theorem U2_main_v6_5 (c : Dev nD) : U2 m c main_v6_5 = (dat0 m c).arrAt 7 cfg0.N := by
  simp only [U2, Function.update_self]
theorem U4_main_v8_0 (c : Dev nD) (γ : Γ S c) : U4 S c γ main_v8_0 = γ.1.1 := by
  simp only [U4, Function.update_of_ne (StableHlo.devRef_ne_of_ne (τ := τ) (show main_v8_0 ≠ main_v8_3 by decide)), Function.update_of_ne (StableHlo.devRef_ne_of_ne (τ := τ) (show main_v8_0 ≠ main_v8_2 by decide)), Function.update_of_ne (StableHlo.devRef_ne_of_ne (τ := τ) (show main_v8_0 ≠ main_v8_1 by decide)), Function.update_self]
theorem U4_main_v8_1 (c : Dev nD) (γ : Γ S c) : U4 S c γ main_v8_1 = γ.1.2.1 := by
  simp only [U4, Function.update_of_ne (StableHlo.devRef_ne_of_ne (τ := τ) (show main_v8_1 ≠ main_v8_3 by decide)), Function.update_of_ne (StableHlo.devRef_ne_of_ne (τ := τ) (show main_v8_1 ≠ main_v8_2 by decide)), Function.update_self]
theorem U4_main_v8_2 (c : Dev nD) (γ : Γ S c) : U4 S c γ main_v8_2 = γ.1.2.2.1 := by
  simp only [U4, Function.update_of_ne (StableHlo.devRef_ne_of_ne (τ := τ) (show main_v8_2 ≠ main_v8_3 by decide)), Function.update_self]
theorem U4_main_v8_3 (c : Dev nD) (γ : Γ S c) : U4 S c γ main_v8_3 = γ.1.2.2.2 := by
  simp only [U4, Function.update_self]

theorem sub0 : ∀ b ∈ ([main_v6_0, main_v6_1, main_v6_2, main_v6_3, main_v6_4, main_v6_5] : List (Ref sig .tc)), b ∈ Finset.univ.image (Pipeline.arrRef spec0) := by decide
theorem sub1 : ∀ b ∈ ([main_v8_0, main_v8_1, main_v8_2, main_v8_3] : List (Ref sig .tc)), b ∈ Finset.univ.image (Pipeline.arrRef spec1) := by decide

/-- The quantising region's arrays at their final contents are the buffers after it. -/
theorem fin0 (c : Dev nD) : ∀ w : Fin cfg0.W, (dat0 m c).arrAt w cfg0.N = U2 m c (Pipeline.arrRef spec0 w)
  | ⟨0, _⟩ => ((dat0 m c).arrAt_in 0 rfl _).trans ((A_eq0 m c 0).trans (U2_of c main_v5 (by decide)).symm)
  | ⟨1, _⟩ => ((dat0 m c).arrAt_in 1 rfl _).trans ((A_eq0 m c 1).trans (U2_of c main_v2 (by decide)).symm)
  | ⟨2, _⟩ => (U2_main_v6_0 c).symm
  | ⟨3, _⟩ => (U2_main_v6_1 c).symm
  | ⟨4, _⟩ => (U2_main_v6_2 c).symm
  | ⟨5, _⟩ => (U2_main_v6_3 c).symm
  | ⟨6, _⟩ => (U2_main_v6_4 c).symm
  | ⟨7, _⟩ => (U2_main_v6_5 c).symm

set_option backward.isDefEq.respectTransparency.types false in
/-- The quantising region as a segment. -/
def reg0 : RDat.RegionSeg (pcfgs (F := F)) adm (rdats S) () defs₀ 𝒱₀ L lv 0 where
  win := launch0.win.to₀
  block_pos := launch0.block_pos
  stage_whole := launch0.stage_whole
  K := PEmpty
  osem k := k.elim
  ho := Pipeline.OwnSemFacts.none _
  hbody c := (body0 m c).toR
  hwaits := RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (U2 m c) ∗ R c)
  X _ := iprop(emp)
  Y _ := iprop(emp)
  Z c := Pipeline.unscopedRest spec0 c (fun b => V1 m c b)
  hentry c := by
    rw [Pipeline.ownSems0_none]
    have hsplit := RDat.arrays_of_unscopedBufs (p := 0) (pcfgs (F := F)) adm (rdats S) launch0.win launch0.arr_whole c
      ((pdats S 0 c).share_full fun _ => rfl) (fun b => V1 m c b) (A_eq0 m c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats S 0 c).Φ 0 = Pipeline.scopedRest spec0 c from rfl]
    iintro ⟨-, -, Hr⟩; iexact Hr
  hout c := by
    rw [Pipeline.ownSems0_none]
    change Pipeline.scopedRest spec0 c ⊢ _
    iintro Hr
    isplitr; · iempintro
    isplitr; · iempintro
    iexact Hr
  hexit c := by
    have hjoin := Pipeline.unscopedBufs_of_arrays (p := 0) (pcfgs (F := F)) adm (Ix := Unit) (Name := ℕ) (U := UU nD τ) (Lvl := ℕ) launch0.win launch0.arr_whole c
      (pdats S) ((pdats S 0 c).share_full fun _ => rfl) (fun b => V1 m c b) (fun b => U2 m c b) (fun w => (dat0 m c).arrAt w cfg0.N) (fin0 c)
      (fun b hb => U2_of c b (fun h => hb (sub0 b h)))
    rw [Pipeline.unscopedBufs_held] at hjoin
    have ha : (rdats S 0 c).arraysAt cfg0.N ⊢ ((dat0 m c).arrays ((dat0 m c).arrAt · cfg0.N) : sProp 𝕄) := BIBase.Entails.of_eq (Dat.toR_arraysAt_eq _ _)
    iintro ⟨Ha, HO, -, HZ⟩
    ihave Ha := ha $$ Ha
    imodintro
    isplitr [HO]
    · iapply hjoin
      isplitl [Ha]; · iexact Ha
      iexact HZ
    · unfold RDat.owesAt Pipeline.owesWithin
      icases HO with ⟨%W, -, HO⟩; iexists W; iexact HO

/-- Between the regions' scoped memory and the invariant's account of it. -/
theorem Phi1_in (c : Dev nD) : (Pipeline.scopedRest spec1 c : sProp 𝕄) ⊢ Phi1 (S c) 0 := by
  rw [scopedRest1_eq]; unfold Phi1; simp only [owns_whole_eq]
  iintro ⟨H0, H1, H2, H3, H4, H5, H6, H7, ⟨%e0, G0⟩, ⟨%e1, G1⟩, ⟨%e2, G2⟩, ⟨%e3, G3⟩, ⟨%e4, G4⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexists e0; iexists e0; isplitr; · (ipureintro; rfl)
                  iexact G0
  isplitl [G1]; · iexists e1; iexists e1; isplitr; · (ipureintro; rfl)
                  iexact G1
  iexists e2; iexists e3; iexists e4
  isplitr; · (ipureintro; exact fun h => absurd rfl h)
  isplitl [G2]; · iexists e2; isplitr; · (ipureintro; rfl)
                  iexact G2
  isplitl [G3]; · iexists e3; isplitr; · (ipureintro; rfl)
                  iexact G3
  iexists e4; isplitr; · (ipureintro; rfl)
  iexact G4

theorem Phi1_out (c : Dev nD) (t : ℕ) : Phi1 (S c) t ⊢ (Pipeline.scopedRest spec1 c : sProp 𝕄) := by
  rw [scopedRest1_eq]; unfold Phi1; simp only [owns_whole_eq]
  iintro ⟨H0, H1, H2, H3, H4, H5, H6, H7, ⟨%d0, %e0, -, G0⟩, ⟨%d1, %e1, -, G1⟩, %x2, %x3, %x4, -, ⟨%e2, -, G2⟩, ⟨%e3, -, G3⟩, ⟨%e4, -, G4⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexists _; iexact G0
  isplitl [G1]; · iexists _; iexact G1
  isplitl [G2]; · iexists _; iexact G2
  isplitl [G3]; · iexists _; iexact G3
  iexists _; iexact G4

/-- The last tile. -/
def tLast : Fin cfg1.N := ⟨74, by decide⟩

theorem whole1_7 : (cfg1.win 7).WholeAt tLast := by decide +kernel
theorem emb1_7 (j) : (cfg1.win 7).arr.view.emb j = j := rfl
theorem out1_7 (c : Dev nD) (G) (h : ((dat1 (S c)).toRRel fgt1 (Rl1 (S c))).ArrAt 7 cfg1.N G) : (S c).O7 G := by
  obtain ⟨X, hX, hG⟩ := RDat.ArrAt.emb_eq_of_wholeAt h whole1_7
  have e : G = X := funext fun j => hG j
  subst e
  exact Dat.toRRel_leaves (dat1 (S c)) (fgt := fgt1) (Rl := Rl1 (S c)) (w := 7) rfl hX rfl
theorem whole1_8 : (cfg1.win 8).WholeAt tLast := by decide +kernel
theorem emb1_8 (j) : (cfg1.win 8).arr.view.emb j = j := rfl
theorem out1_8 (c : Dev nD) (G) (h : ((dat1 (S c)).toRRel fgt1 (Rl1 (S c))).ArrAt 8 cfg1.N G) : (S c).O8 G := by
  obtain ⟨X, hX, hG⟩ := RDat.ArrAt.emb_eq_of_wholeAt h whole1_8
  have e : G = X := funext fun j => hG j
  subst e
  exact Dat.toRRel_leaves (dat1 (S c)) (fgt := fgt1) (Rl := Rl1 (S c)) (w := 8) rfl hX rfl
theorem whole1_9 : (cfg1.win 9).WholeAt tLast := by decide +kernel
theorem emb1_9 (j) : (cfg1.win 9).arr.view.emb j = j := rfl
theorem out1_9 (c : Dev nD) (G) (h : ((dat1 (S c)).toRRel fgt1 (Rl1 (S c))).ArrAt 9 cfg1.N G) : (S c).O9 G := by
  obtain ⟨X, hX, hG⟩ := RDat.ArrAt.emb_eq_of_wholeAt h whole1_9
  have e : G = X := funext fun j => hG j
  subst e
  exact Dat.toRRel_leaves (dat1 (S c)) (fgt := fgt1) (Rl := Rl1 (S c)) (w := 9) rfl hX rfl
theorem whole1_10 : (cfg1.win 10).WholeAt tLast := by decide +kernel
theorem emb1_10 (j) : (cfg1.win 10).arr.view.emb j = j := rfl
theorem out1_10 (c : Dev nD) (G) (h : ((dat1 (S c)).toRRel fgt1 (Rl1 (S c))).ArrAt 10 cfg1.N G) : (S c).O10 G := by
  obtain ⟨X, hX, hG⟩ := RDat.ArrAt.emb_eq_of_wholeAt h whole1_10
  have e : G = X := funext fun j => hG j
  subst e
  exact Dat.toRRel_leaves (dat1 (S c)) (fgt := fgt1) (Rl := Rl1 (S c)) (w := 10) rfl hX rfl

/-- The head's arrays as it leaves them, opened. -/
theorem exits1 (c : Dev nD) : ((dat1 (S c)).toRRel fgt1 (Rl1 (S c))).arraysAt cfg1.N
    ⊢ (iprop(∃ A : (w : Fin cfg1.W) → Buf (Elt F) ((cfg1.win w).arr.view.loc (c : Thread nD τ)), ⌜∀ w, ((dat1 (S c)).toRRel fgt1 (Rl1 (S c))).ArrAt w cfg1.N (A w)⌝ ∗ (dat1 (S c)).arrays A) : sProp 𝕄) := by
  unfold RDat.arraysAt Dat.arrays
  refine (BI.bigSep_exists_pi Finset.univ _).trans ?_
  iintro ⟨%A, H⟩
  iexists A
  ihave H' := (BI.bigSep_pure_sep Finset.univ _ _) $$ H
  icases H' with ⟨%hA, H⟩
  isplitr; · ipureintro; exact fun w => hA w (Finset.mem_univ w)
  rw [Dat.toRRel_share]
  iexact H

theorem in1 (c : Dev nD) (w : Fin cfg1.W) (hin : (cfg1.win w).isOut = false) (G) (h : ((dat1 (S c)).toRRel fgt1 (Rl1 (S c))).ArrAt w cfg1.N G) : G = U3 m c (Pipeline.arrRef spec1 w) := by
  rw [RDat.ArrAt_in _ w hin] at h
  exact h.trans (A_eq1 (S c) w)

/-- The head's arrays at contents they may hold are the buffers after it. -/
theorem fin1 (c : Dev nD) (A : (w : Fin cfg1.W) → Buf (Elt F) ((cfg1.win w).arr.view.loc (c : Thread nD τ)))
    (hA : ∀ w, ((dat1 (S c)).toRRel fgt1 (Rl1 (S c))).ArrAt w cfg1.N (A w)) (γ : Γ S c) (hγ : γ.1 = (A 7, A 8, A 9, A 10)) :
    ∀ w : Fin cfg1.W, A w = U4 S c γ (Pipeline.arrRef spec1 w)
  | ⟨0, _⟩ => (in1 S c 0 rfl _ (hA 0)).trans (U4_of S c γ main_v6_2 (by decide)).symm
  | ⟨1, _⟩ => (in1 S c 1 rfl _ (hA 1)).trans (U4_of S c γ main_v0 (by decide)).symm
  | ⟨2, _⟩ => (in1 S c 2 rfl _ (hA 2)).trans (U4_of S c γ main_v7 (by decide)).symm
  | ⟨3, _⟩ => (in1 S c 3 rfl _ (hA 3)).trans (U4_of S c γ main_v6_3 (by decide)).symm
  | ⟨4, _⟩ => (in1 S c 4 rfl _ (hA 4)).trans (U4_of S c γ main_v6_4 (by decide)).symm
  | ⟨5, _⟩ => (in1 S c 5 rfl _ (hA 5)).trans (U4_of S c γ main_v6_5 (by decide)).symm
  | ⟨6, _⟩ => (in1 S c 6 rfl _ (hA 6)).trans (U4_of S c γ main_v4 (by decide)).symm
  | ⟨7, _⟩ => ((U4_main_v8_0 S c γ).trans (by rw [hγ]; rfl)).symm
  | ⟨8, _⟩ => ((U4_main_v8_1 S c γ).trans (by rw [hγ]; rfl)).symm
  | ⟨9, _⟩ => ((U4_main_v8_2 S c γ).trans (by rw [hγ]; rfl)).symm
  | ⟨10, _⟩ => ((U4_main_v8_3 S c γ).trans (by rw [hγ]; rfl)).symm

set_option backward.isDefEq.respectTransparency.types false in
theorem join1 (c : Dev nD) (A : (w : Fin cfg1.W) → Buf (Elt F) ((cfg1.win w).arr.view.loc (c : Thread nD τ)))
    (hA : ∀ w, ((dat1 (S c)).toRRel fgt1 (Rl1 (S c))).ArrAt w cfg1.N (A w)) :
    iprop((dat1 (S c)).arrays A ∗ Pipeline.unscopedRest spec1 c (fun b => U3 m c b)) ⊢ (StableHlo.held (c : Thread nD τ) (Pipeline.ucRefs τ sig)
      (U4 S c ⟨(A 7, A 8, A 9, A 10), out1_7 S c _ (hA 7), out1_8 S c _ (hA 8), out1_9 S c _ (hA 9), out1_10 S c _ (hA 10)⟩) : sProp 𝕄) := by
  have hjoin := Pipeline.unscopedBufs_of_arrays (p := 1) (pcfgs (F := F)) adm (Ix := Unit) (Name := ℕ) (U := UU nD τ) (Lvl := ℕ) launch1.win launch1.arr_whole c
      (pdats S) ((pdats S 1 c).share_full fun _ => rfl) (fun b => U3 m c b)
      (fun b => U4 S c ⟨(A 7, A 8, A 9, A 10), out1_7 S c _ (hA 7), out1_8 S c _ (hA 8), out1_9 S c _ (hA 9), out1_10 S c _ (hA 10)⟩ b) A (fin1 S c A hA _ rfl)
      (fun b hb => U4_of S c _ b (fun h => hb (sub1 b h)))
  rw [Pipeline.unscopedBufs_held] at hjoin
  exact hjoin

set_option backward.isDefEq.respectTransparency.types false in
/-- The head's region as a segment. -/
def reg1 : RDat.RegionSeg (pcfgs (F := F)) adm (rdats S) () defs₀ 𝒱₀ L lv 1 where
  win := launch1.win.to₀
  block_pos := launch1.block_pos
  stage_whole := launch1.stage_whole
  K := PEmpty
  osem k := k.elim
  ho := Pipeline.OwnSemFacts.none _
  hbody c := (body1 (S c)).toRRel
  hwaits := RDat.hwaits_of_owed_zero _ _ _ _ L lv 1 fun _ _ => rfl
  pre c := iprop(StableHlo.held (c : Thread nD τ) (Pipeline.ucRefs τ sig) (U3 m c) ∗ R c)
  post c := iprop((∃ γ, StableHlo.held (c : Thread nD τ) (Pipeline.ucRefs τ sig) (U4 S c γ)) ∗ R c)
  X _ := iprop(emp)
  Y _ := iprop(emp)
  Z c := Pipeline.unscopedRest spec1 c (fun b => U3 m c b)
  hentry c := by
    rw [Pipeline.ownSems0_none]
    have hsplit := RDat.arrays_of_unscopedBufs (p := 1) (pcfgs (F := F)) adm (rdats S) launch1.win launch1.arr_whole c
      ((pdats S 1 c).share_full fun _ => rfl) (fun b => U3 m c b) (A_eq1 (S c))
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats S 1 c).Φ 0 = Phi1 (S c) 0 from rfl]
    refine BIBase.Entails.trans ?_ (Phi1_in S c)
    iintro ⟨-, -, Hr⟩; iexact Hr
  hout c := by
    rw [Pipeline.ownSems0_none]
    change Phi1 (S c) cfg1.N ⊢ _
    refine (Phi1_out S c _).trans ?_
    iintro Hr
    isplitr; · iempintro
    isplitr; · iempintro
    iexact Hr
  hexit c := by
    have hex : (rdats S 1 c).arraysAt cfg1.N ⊢ (iprop(∃ A : (w : Fin cfg1.W) → Buf (Elt F) ((cfg1.win w).arr.view.loc (c : Thread nD τ)), ⌜∀ w, ((dat1 (S c)).toRRel fgt1 (Rl1 (S c))).ArrAt w cfg1.N (A w)⌝ ∗ (dat1 (S c)).arrays A) : sProp 𝕄) := exits1 S c
    iintro ⟨Ha, HO, -, HZ⟩
    ihave Ha := hex $$ Ha
    icases Ha with ⟨%A, %hA, Ha⟩
    imodintro
    isplitr [HO]
    · iexists (⟨(A 7, A 8, A 9, A 10), out1_7 S c _ (hA 7), out1_8 S c _ (hA 8), out1_9 S c _ (hA 9), out1_10 S c _ (hA 10)⟩ : Γ S c)
      iapply (join1 S c A hA)
      isplitl [Ha]; · iexact Ha
      iexact HZ
    · unfold RDat.owesAt Pipeline.owesWithin
      icases HO with ⟨%W, -, HO⟩; iexists W; iexact HO

/-- @main as its segments. -/
abbrev segs (c : Dev nD) : List (RDat.Seg (pcfgs (F := F)) adm (rdats S) () defs₀ 𝒱₀ L lv) :=
  [.host (hseg0 (m := m)), .region (reg0 S), .host (hseg1 (m := m)), .region (reg1 S), .host (hseg2 S)]

abbrev EP : Emb (URounds (GSem nD τ sig) Unit) 𝕄 := emb₁

set_option backward.isDefEq.respectTransparency.types false in
/-- Every run of @main ends, with every counter at zero and every unscoped buffer at what the segments compute, the head's four results
    being some contents that meet the account. -/
theorem run (ρ : Dev nD → PrngReg) : θ_run defs (onTc (τ := τ) (main (F := F))) ⟨m, fun _ => 0, ρ⟩
    (fun r => (∀ c : Dev nD, ∃ γ : Γ S c, ∀ b ∈ Pipeline.ucRefs τ sig, r.2.mem ((c : Thread nD τ).1, b) = U5 S c γ b) ∧ r.2.sem = fun _ => 0) := by
  refine RDat.θ_run_regions_kit_dev_sems (pcfgs (F := F)) adm (rdats S) () cellOf_inj EP defs₀ 𝒱₀ L lv m ρ main (segs S)
    (fun c Q => by
      rewrite [main_chain c, RDat.Seg.run_eq_chain,
        show (segs S c).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide) (O₀ := 0) (fun _ _ => rfl)
    (G := fun _ => iprop(emp)) (u₀ := initOf (Pipeline.cells cfgs cellOf_inj) (Pipeline.launchToks cfgs cellOf_inj))
    (by
      iintro Hu
      imodintro
      isplitl [Hu]
      · iapply (show (ownU (initOf (Pipeline.cells cfgs cellOf_inj) (Pipeline.launchToks cfgs cellOf_inj)) : sProp 𝕄) ⊢ BI.own (EP (initOf (Pipeline.cells (Pipeline.pin (pcfgs (F := F)) adm) cellOf_inj) (Pipeline.launchToks (Pipeline.pin (pcfgs (F := F)) adm) cellOf_inj))) from BIBase.Entails.of_eq (ownU_emb₁ _))
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(∃ γ, StableHlo.held (c : Thread nD τ) (Pipeline.ucRefs τ sig) (U5 S c γ)))
    (hch := fun c => ⟨.rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∃ γ : Γ S c, ∀ b ∈ Pipeline.ucRefs τ sig, s.mem ((c : Thread nD τ).1, b) = U5 S c γ b)
    (hfin := fun c s' => ?_) (hQ := fun _ h hz => ⟨h, funext fun g => hz g (.inr (regions_no_unscoped g.2))⟩)
  unfold StableHlo.held
  iintro ⟨⟨%γ, Hh⟩, HSI⟩
  ihave Hr := (pointsTo_read_all (Pipeline.ucRefs τ sig) (fun b => ((c : Thread nD τ).1, b)) (U5 S c γ) s') $$ [Hh HSI]
  · isplitl [Hh] <;> iassumption
  icases Hr with ⟨%h, HSI⟩
  imodintro
  isplitr; · ipureintro; exact ⟨γ, h⟩
  iexact HSI

theorem uc_mem (r : Ref sig .tc) (h : ¬ (Proc.devRef (τ := τ) .tc r).isScoped) : (Proc.devRef .tc r : DevRef τ sig) ∈ Pipeline.ucRefs τ sig :=
  Finset.mem_filter.mpr ⟨StableHlo.devRef_mem_tcRefs r, h⟩

/-- An argument reaches the end as launched. -/
theorem U5_arg (c : Dev nD) (γ : Γ S c) (r : Ref sig .tc) (h0 : r ∉ hostOps0_W) (h1 : r ∉ ([main_v6_0, main_v6_1, main_v6_2, main_v6_3, main_v6_4, main_v6_5] : List (Ref sig .tc)))
    (h2 : r ∉ hostOps1_W) (h3 : r ∉ ([main_v8_0, main_v8_1, main_v8_2, main_v8_3] : List (Ref sig .tc))) (h4 : r ∉ hostOps2_W) :
    U5 S c γ r = m ((c : Thread nD τ).loc r) :=
  (U5_of S c γ r h4).trans <| (U4_of S c γ r h3).trans <| (U3_of c r h2).trans <| (U2_of c r h1).trans <| (V1_of m c r h0).trans rfl

/-- The frame: every argument as launched and every counter at zero. -/
theorem frame_run (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    obtain ⟨γ, hγ⟩ := h.1 c
    exact ⟨(hγ _ (uc_mem main_arg0 (by decide))).trans (U5_arg _ c γ main_arg0 (by decide) (by decide) (by decide) (by decide) (by decide)), (hγ _ (uc_mem main_arg1 (by decide))).trans (U5_arg _ c γ main_arg1 (by decide) (by decide) (by decide) (by decide) (by decide)), (hγ _ (uc_mem main_arg2 (by decide))).trans (U5_arg _ c γ main_arg2 (by decide) (by decide) (by decide) (by decide) (by decide)), (hγ _ (uc_mem main_arg3 (by decide))).trans (U5_arg _ c γ main_arg3 (by decide) (by decide) (by decide) (by decide) (by decide)), (hγ _ (uc_mem main_arg4 (by decide))).trans (U5_arg _ c γ main_arg4 (by decide) (by decide) (by decide) (by decide) (by decide))⟩, h.2⟩) (run (fun c => HeadSpec.trivial m c) ρ)

end Cert.Kernel.Own

end
-- ==== Proof.Ideal.Prep.lean ====
/-
  The quantising kernel's body (`cc0_prep`), run once at symbolic operands, at any float instance. What it leaves in its six results'
  buffers is a function of what it finds in its two operands' buffers alone.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the frame kit's. -/
abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The pieces one trip of the loop over the teacher's tokens writes into the bit mask: the inner loop's, over all tiles. -/
abbrev tripMask (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (k : Fin k0_t1_loop.trips) (G : BufTy.Contents (Elt F) arg5.view.ty) : List (View.Piece (Elt F) S75x256x128 .i32) :=
  pb_k0_t2 (F := F) 𝒱₀ c none arg0 harg0 arg1 harg1 arg2 harg2 arg3 harg3 arg4 harg4 arg5 harg5 arg6 harg6 arg7 harg7 v609 k G k0_t2_loop.trips

/-- The pieces the first `k` tokens write into the mask (last first), from contents `G`. -/
def maskPieces (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (G : BufTy.Contents (Elt F) arg5.view.ty) : ℕ → List (View.Piece (Elt F) S75x256x128 .i32)
  | 0 => []
  | k + 1 => if h : k < k0_t1_loop.trips then tripMask c arg0 harg0 arg1 harg1 arg2 harg2 arg3 harg3 arg4 harg4 arg5 harg5 arg6 harg6 arg7 harg7 v609 ⟨k, h⟩ (arg5.view.writes (Elt F) G (maskPieces c arg0 harg0 arg1 harg1 arg2 harg2 arg3 harg3 arg4 harg4 arg5 harg5 arg6 harg6 arg7 harg7 v609 G k)) ++ maskPieces c arg0 harg0 arg1 harg1 arg2 harg2 arg3 harg3 arg4 harg4 arg5 harg5 arg6 harg6 arg7 harg7 v609 G k
      else maskPieces c arg0 harg0 arg1 harg1 arg2 harg2 arg3 harg3 arg4 harg4 arg5 harg5 arg6 harg6 arg7 harg7 v609 G k

theorem maskPieces_succ (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (G : BufTy.Contents (Elt F) arg5.view.ty) (k : Fin k0_t1_loop.trips) :
    maskPieces c arg0 harg0 arg1 harg1 arg2 harg2 arg3 harg3 arg4 harg4 arg5 harg5 arg6 harg6 arg7 harg7 v609 G (k.val + 1) = tripMask c arg0 harg0 arg1 harg1 arg2 harg2 arg3 harg3 arg4 harg4 arg5 harg5 arg6 harg6 arg7 harg7 v609 k (arg5.view.writes (Elt F) G (maskPieces c arg0 harg0 arg1 harg1 arg2 harg2 arg3 harg3 arg4 harg4 arg5 harg5 arg6 harg6 arg7 harg7 v609 G k.val)) ++ maskPieces c arg0 harg0 arg1 harg1 arg2 harg2 arg3 harg3 arg4 harg4 arg5 harg5 arg6 harg6 arg7 harg7 v609 G k.val := by
  rw [maskPieces.eq_2]; exact dif_pos k.isLt

set_option warn.classDefReducibility false in
/-- The loop over the teacher's tokens: before token `k` the mask holds the pieces `maskPieces … k` over what it held at entry. -/
@[sl_loop] def loopInv_k0_t1 (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (v609 : IVec S256x128 32) (G : BufTy.Contents (Elt F) arg5.view.ty) :
    LoopInvTy_k0_t1 (F := F) Unit ℕ (UU nD τ) ℕ 𝒱₀ c none Set.univ arg0 harg0 arg1 harg1 arg2 harg2 arg3 harg3 arg4 harg4 arg5 harg5 arg6 harg6 arg7 harg7 v609 where
  inv k _ := iprop(∃ f, (arg5.view.loc (c : Thread nD τ) ↦[arg5.view.set]{fullShare} f) ∗ ⌜f = arg5.view.writes (Elt F) G (maskPieces (F := F) c arg0 harg0 arg1 harg1 arg2 harg2 arg3 harg3 arg4 harg4 arg5 harg5 arg6 harg6 arg7 harg7 v609 G k)⌝)
  step k acc := by
    iintro ⟨%f, H5, %h5⟩
    subst h5
    unfold k0_t1_body
    sl_exec
    sl_step
    iexists _; isplitl [H5]; · iexact H5
    ipureintro
    rw [maskPieces_succ]

/-- What the body leaves in its six results' buffers, with the proof that from the eight buffers held whole — operands at `f0`, `f1`, results at
    anything — it runs to its return, the operands as they were and the results at these contents. -/
def prepRun (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole)
    (f0 : Bf (F := F) c arg0) (f1 : Bf (F := F) c arg1) :
    { W : Bf (F := F) c arg2 × Bf (F := F) c arg3 × Bf (F := F) c arg4 × Bf (F := F) c arg5 × Bf (F := F) c arg6 × Bf (F := F) c arg7 //
      ∀ (f2 : Bf (F := F) c arg2) (f3 : Bf (F := F) c arg3) (f4 : Bf (F := F) c arg4) (f5 : Bf (F := F) c arg5) (f6 : Bf (F := F) c arg6) (f7 : Bf (F := F) c arg7) (Q : PUnit → sProp 𝕄),
        iprop(pt c arg0 f0 ∗ pt c arg1 f1 ∗ pt c arg2 f2 ∗ pt c arg3 f3 ∗ pt c arg4 f4 ∗ pt c arg5 f5 ∗ pt c arg6 f6 ∗ pt c arg7 f7
          ∗ (iprop(pt c arg0 f0 ∗ pt c arg1 f1 ∗ pt c arg2 W.1 ∗ pt c arg3 W.2.1 ∗ pt c arg4 W.2.2.1 ∗ pt c arg5 W.2.2.2.1 ∗ pt c arg6 W.2.2.2.2.1 ∗ pt c arg7 W.2.2.2.2.2) -∗ Q ⟨⟩))
        ⊢ wp frame (wpE (defs₀ (F := F)) 𝒱₀ (c : Thread nD τ) none) Set.univ
            (cc0_prep (F := F) arg0 harg0 arg1 harg1 arg2 harg2 arg3 harg3 arg4 harg4 arg5 harg5 arg6 harg6 arg7 harg7) Q } := by
  refine ⟨⟨?_, ?_, ?_, ?_, ?_, ?_⟩, fun f2 f3 f4 f5 f6 f7 Q => ?run⟩
  case run =>
    iintro ⟨H0, H1, H2, H3, H4, H5, H6, H7, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.KernelIdeal.Own

end
-- ==== Proof.Ideal.Head.lean ====
/-
  The vocabulary kernel's body (`cc1_head`), run at symbolic operands, at any float instance: at the first tile, at a tile between, at the
  last one. What it leaves in the buffers it writes is a function of what it finds in the others alone.
-/
module

public import proofs.«01_k».proof.Proof.Ideal.Prep

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body's first condition: it is at the first tile. -/
abbrev condFirst (i : grid1.Coords) : Prop := Scalar.cmpi .ne (Scalar.extui (Scalar.cmpi .eq (BitVec.ofNat 32 (i 0).val) 0#32) : BitVec 32) 0#32 = 1#1
/-- The body's second condition: it is at the last tile. -/
abbrev condLast (i : grid1.Coords) : Prop := k1_cond2 i = 1#1

set_option maxHeartbeats 4000000 in
/-- At the first tile: what the body leaves in the buffers it writes, with the proof that from the sixteen buffers held whole it runs to its return, the
    buffers it reads as they were and those it writes at these contents. -/
def headFirst (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (h1 : condFirst i) (h2 : ¬condLast i) (f1 : Bf (F := F) c arg1) (f2 : Bf (F := F) c arg2) (f3 : Bf (F := F) c arg3) (f4 : Bf (F := F) c arg4) (f5 : Bf (F := F) c arg5) (f6 : Bf (F := F) c arg6) :
    { W : Bf (F := F) c arg12 × Bf (F := F) c arg13 × Bf (F := F) c arg14 × Bf (F := F) c arg15 × Bf (F := F) c arg16 //
      ∀ (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 W.1 ∗ pt c arg13 W.2.1 ∗ pt c arg14 W.2.2.1 ∗ pt c arg15 W.2.2.2.1 ∗ pt c arg16 W.2.2.2.2) -∗ Q ⟨⟩))
        ⊢ wp frame (wpE (defs₀ (F := F)) 𝒱₀ (c : Thread nD τ) none) Set.univ
            (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_⟩, fun f7 f8 f9 f10 f11 f12 f13 f14 f15 f16 Q => ?run⟩
  case run =>
    iintro ⟨H1, H2, H3, H4, H5, H6, H7, H8, H9, H10, H11, H12, H13, H14, H15, H16, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- At a tile between: what the body leaves in the buffers it writes, with the proof that from the sixteen buffers held whole it runs to its return, the
    buffers it reads as they were and those it writes at these contents. -/
def headMid (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (h1 : ¬condFirst i) (h2 : ¬condLast i) (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f15 : Bf (F := F) c arg15) (f16 : Bf (F := F) c arg16) :
    { W : Bf (F := F) c arg12 × Bf (F := F) c arg13 × Bf (F := F) c arg14 × Bf (F := F) c arg15 × Bf (F := F) c arg16 //
      ∀ (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 W.1 ∗ pt c arg13 W.2.1 ∗ pt c arg14 W.2.2.1 ∗ pt c arg15 W.2.2.2.1 ∗ pt c arg16 W.2.2.2.2) -∗ Q ⟨⟩))
        ⊢ wp frame (wpE (defs₀ (F := F)) 𝒱₀ (c : Thread nD τ) none) Set.univ
            (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_⟩, fun f7 f8 f9 f10 f11 f12 f13 Q => ?run⟩
  case run =>
    iintro ⟨H1, H2, H3, H4, H5, H6, H7, H8, H9, H10, H11, H12, H13, H14, H15, H16, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- At the last tile: what the body leaves in the buffers it writes, with the proof that from the sixteen buffers held whole it runs to its return, the
    buffers it reads as they were and those it writes at these contents. -/
def headLast (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (h1 : ¬condFirst i) (h2 : condLast i) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f14 : Bf (F := F) c arg14) (f15 : Bf (F := F) c arg15) (f16 : Bf (F := F) c arg16) :
    { W : Bf (F := F) c arg8 × Bf (F := F) c arg9 × Bf (F := F) c arg10 × Bf (F := F) c arg11 × Bf (F := F) c arg12 × Bf (F := F) c arg13 × Bf (F := F) c arg14 × Bf (F := F) c arg15 × Bf (F := F) c arg16 //
      ∀ (f8 : Bf (F := F) c arg8) (f9 : Bf (F := F) c arg9) (f10 : Bf (F := F) c arg10) (f11 : Bf (F := F) c arg11) (f12 : Bf (F := F) c arg12) (f13 : Bf (F := F) c arg13) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
          ∗ (iprop(pt c arg1 f1 ∗ pt c arg2 f2 ∗ pt c arg3 f3 ∗ pt c arg4 f4 ∗ pt c arg5 f5 ∗ pt c arg6 f6 ∗ pt c arg7 f7 ∗ pt c arg8 W.1 ∗ pt c arg9 W.2.1 ∗ pt c arg10 W.2.2.1 ∗ pt c arg11 W.2.2.2.1 ∗ pt c arg12 W.2.2.2.2.1 ∗ pt c arg13 W.2.2.2.2.2.1 ∗ pt c arg14 W.2.2.2.2.2.2.1 ∗ pt c arg15 W.2.2.2.2.2.2.2.1 ∗ pt c arg16 W.2.2.2.2.2.2.2.2) -∗ Q ⟨⟩))
        ⊢ wp frame (wpE (defs₀ (F := F)) 𝒱₀ (c : Thread nD τ) none) Set.univ
            (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_, ?_, ?_, ?_, ?_⟩, fun f8 f9 f10 f11 f12 f13 Q => ?run⟩
  case run =>
    iintro ⟨H1, H2, H3, H4, H5, H6, H7, H8, H9, H10, H11, H12, H13, H14, H15, H16, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Own

end
-- ==== Proof.Ideal.Triples.lean ====
/-
  The two bodies' runs, stated over what the buffers read: each takes the vectors it reads to the vectors it leaves.
-/
module

public import proofs.«01_k».proof.Proof.Ideal.Head
public import Idealize.ShloMosaic.Lib.Pipeline.FrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

attribute [local irreducible] prepRun headFirst headMid headLast

/-- What the quantising body leaves in its six results, of the two vectors it reads. -/
def prepVals (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (x0 : Vec F S256x1536 .bf16) (x1 : Vec F S48x256 .i32) : Vec F S256x1536 .fp8e4m3 × Vec F S12x256 .f32 × Vec F S256x1536 .bf16 × Vec F S75x256x128 .i32 × Vec F S256x128 .i32 × Vec F S256x128 .i32 :=
  let W := (prepRun (F := F) c arg0 harg0 arg1 harg1 arg2 harg2 arg3 harg3 arg4 harg4 arg5 harg5 arg6 harg6 arg7 harg7 (harg0.unread x0) (harg1.unread x1)).1
  (arg2.view.read (Elt F) W.1, arg3.view.read (Elt F) W.2.1, arg4.view.read (Elt F) W.2.2.1, arg5.view.read (Elt F) W.2.2.2.1, arg6.view.read (Elt F) W.2.2.2.2.1, arg7.view.read (Elt F) W.2.2.2.2.2)

set_option maxHeartbeats 1000000 in
/-- The body's triple there. -/
theorem prep_triple (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole) (x0 : Vec F S256x1536 .bf16) (x1 : Vec F S48x256 .i32) (Q : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
      ∗ (iprop(owns (c : Thread nD τ) arg0 fullShare x0 ∗ owns (c : Thread nD τ) arg1 fullShare x1 ∗ owns (c : Thread nD τ) arg2 fullShare (prepVals (F := F) c arg0 harg0 arg1 harg1 arg2 harg2 arg3 harg3 arg4 harg4 arg5 harg5 arg6 harg6 arg7 harg7 x0 x1).1 ∗ owns (c : Thread nD τ) arg3 fullShare (prepVals (F := F) c arg0 harg0 arg1 harg1 arg2 harg2 arg3 harg3 arg4 harg4 arg5 harg5 arg6 harg6 arg7 harg7 x0 x1).2.1 ∗ owns (c : Thread nD τ) arg4 fullShare (prepVals (F := F) c arg0 harg0 arg1 harg1 arg2 harg2 arg3 harg3 arg4 harg4 arg5 harg5 arg6 harg6 arg7 harg7 x0 x1).2.2.1 ∗ owns (c : Thread nD τ) arg5 fullShare (prepVals (F := F) c arg0 harg0 arg1 harg1 arg2 harg2 arg3 harg3 arg4 harg4 arg5 harg5 arg6 harg6 arg7 harg7 x0 x1).2.2.2.1 ∗ owns (c : Thread nD τ) arg6 fullShare (prepVals (F := F) c arg0 harg0 arg1 harg1 arg2 harg2 arg3 harg3 arg4 harg4 arg5 harg5 arg6 harg6 arg7 harg7 x0 x1).2.2.2.2.1 ∗ owns (c : Thread nD τ) arg7 fullShare (prepVals (F := F) c arg0 harg0 arg1 harg1 arg2 harg2 arg3 harg3 arg4 harg4 arg5 harg5 arg6 harg6 arg7 harg7 x0 x1).2.2.2.2.2) -∗ Q ⟨⟩))
    ⊢ wp frame (wpE (defs₀ (F := F)) 𝒱₀ (c : Thread nD τ) none) Set.univ (cc0_prep (F := F) arg0 harg0 arg1 harg1 arg2 harg2 arg3 harg3 arg4 harg4 arg5 harg5 arg6 harg6 arg7 harg7) Q := by
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  obtain rfl := harg0.eq_unread hf0
  obtain rfl := harg1.eq_unread hf1
  iapply ((prepRun (F := F) c arg0 harg0 arg1 harg1 arg2 harg2 arg3 harg3 arg4 harg4 arg5 harg5 arg6 harg6 arg7 harg7 (harg0.unread x0) (harg1.unread x1)).2 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  isplitl [H5]
  · iexists _; isplitr; swap; (· iexact H5); ipureintro; rfl
  isplitl [H6]
  · iexists _; isplitr; swap; (· iexact H6); ipureintro; rfl
  iexists _; isplitr; swap; (· iexact H7); ipureintro; rfl

/-- What the vocabulary body leaves in the running maximum, the running sum and the gathered logits at the first tile. -/
def firstVals (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) : Vec F S256x128 .f32 × Vec F S256x128 .f32 × Vec F S256x128 .f32 :=
  let W := (headFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6)).1
  (arg14.view.read (Elt F) W.2.2.1, arg15.view.read (Elt F) W.2.2.2.1, arg16.view.read (Elt F) W.2.2.2.2)

set_option maxHeartbeats 1000000 in
/-- The body's triple there. -/
theorem first_triple (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x7 : Vec F S48x256 .bf16) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (firstVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6).1 ∗ owns (c : Thread nD τ) arg15 fullShare (firstVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6).2.1 ∗ owns (c : Thread nD τ) arg16 fullShare (firstVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6).2.2) -∗ Q ⟨⟩))
    ⊢ wp frame (wpE (defs₀ (F := F)) 𝒱₀ (c : Thread nD τ) none) Set.univ (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  iapply ((headFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6)).2 f7 f8 f9 f10 f11 f12 f13 f14 f15 f16)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H5]
  · iexists _; isplitr; swap; (· iexact H5); ipureintro; exact hf5
  isplitl [H6]
  · iexists _; isplitr; swap; (· iexact H6); ipureintro; exact hf6
  isplitl [H7]
  · iexists _; isplitr; swap; (· iexact H7); ipureintro; exact hf7
  isplitl [H8]
  · iexists _; iexists _; isplitr; swap; (· iexact H8); ipureintro; rfl
  isplitl [H9]
  · iexists _; iexists _; isplitr; swap; (· iexact H9); ipureintro; rfl
  isplitl [H10]
  · iexists _; iexists _; isplitr; swap; (· iexact H10); ipureintro; rfl
  isplitl [H11]
  · iexists _; iexists _; isplitr; swap; (· iexact H11); ipureintro; rfl
  isplitl [H12]
  · iexists _; iexists _; isplitr; swap; (· iexact H12); ipureintro; rfl
  isplitl [H13]
  · iexists _; iexists _; isplitr; swap; (· iexact H13); ipureintro; rfl
  isplitl [H14]
  · iexists _; isplitr; swap; (· iexact H14); ipureintro; rfl
  isplitl [H15]
  · iexists _; isplitr; swap; (· iexact H15); ipureintro; rfl
  iexists _; isplitr; swap; (· iexact H16); ipureintro; rfl

/-- The same at a tile between. -/
def midVals (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x14 : Vec F S256x128 .f32) (x15 : Vec F S256x128 .f32) (x16 : Vec F S256x128 .f32) : Vec F S256x128 .f32 × Vec F S256x128 .f32 × Vec F S256x128 .f32 :=
  let W := (headMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg14.unread x14) (harg15.unread x15) (harg16.unread x16)).1
  (arg14.view.read (Elt F) W.2.2.1, arg15.view.read (Elt F) W.2.2.2.1, arg16.view.read (Elt F) W.2.2.2.2)

set_option maxHeartbeats 1000000 in
/-- The body's triple there. -/
theorem mid_triple (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : ¬condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x14 : Vec F S256x128 .f32) (x15 : Vec F S256x128 .f32) (x16 : Vec F S256x128 .f32) (x7 : Vec F S48x256 .bf16) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (midVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x14 x15 x16).1 ∗ owns (c : Thread nD τ) arg15 fullShare (midVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x14 x15 x16).2.1 ∗ owns (c : Thread nD τ) arg16 fullShare (midVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x14 x15 x16).2.2) -∗ Q ⟨⟩))
    ⊢ wp frame (wpE (defs₀ (F := F)) 𝒱₀ (c : Thread nD τ) none) Set.univ (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg14.eq_unread hf14
  obtain rfl := harg15.eq_unread hf15
  obtain rfl := harg16.eq_unread hf16
  iapply ((headMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg14.unread x14) (harg15.unread x15) (harg16.unread x16)).2 f7 f8 f9 f10 f11 f12 f13)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H5]
  · iexists _; isplitr; swap; (· iexact H5); ipureintro; exact hf5
  isplitl [H6]
  · iexists _; isplitr; swap; (· iexact H6); ipureintro; exact hf6
  isplitl [H7]
  · iexists _; isplitr; swap; (· iexact H7); ipureintro; exact hf7
  isplitl [H8]
  · iexists _; iexists _; isplitr; swap; (· iexact H8); ipureintro; rfl
  isplitl [H9]
  · iexists _; iexists _; isplitr; swap; (· iexact H9); ipureintro; rfl
  isplitl [H10]
  · iexists _; iexists _; isplitr; swap; (· iexact H10); ipureintro; rfl
  isplitl [H11]
  · iexists _; iexists _; isplitr; swap; (· iexact H11); ipureintro; rfl
  isplitl [H12]
  · iexists _; iexists _; isplitr; swap; (· iexact H12); ipureintro; rfl
  isplitl [H13]
  · iexists _; iexists _; isplitr; swap; (· iexact H13); ipureintro; rfl
  isplitl [H14]
  · iexists _; isplitr; swap; (· iexact H14); ipureintro; rfl
  isplitl [H15]
  · iexists _; isplitr; swap; (· iexact H15); ipureintro; rfl
  iexists _; isplitr; swap; (· iexact H16); ipureintro; rfl

/-- What the body leaves in its four results at the last tile. -/
def lastVals (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x7 : Vec F S48x256 .bf16) (x14 : Vec F S256x128 .f32) (x15 : Vec F S256x128 .f32) (x16 : Vec F S256x128 .f32) : Vec F S1x256 .f32 × Vec F S1x256 .f32 × Vec F S1x256 .f32 × Vec F S48x256 .f32 :=
  let W := (headLast (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg7.unread x7) (harg14.unread x14) (harg15.unread x15) (harg16.unread x16)).1
  (arg8.view.read (Elt F) W.1, arg9.view.read (Elt F) W.2.1, arg10.view.read (Elt F) W.2.2.1, arg11.view.read (Elt F) W.2.2.2.1)

set_option maxHeartbeats 1000000 in
/-- The body's triple there. -/
theorem last_triple (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : condLast i) (x1 : Vec F S256x1536 .bf16) (x2 : Vec F S2048x1536 .fp8e4m3) (x3 : Vec F S12x2048 .f32) (x4 : Vec F S1x256x128 .i32) (x5 : Vec F S256x128 .i32) (x6 : Vec F S256x128 .i32) (x7 : Vec F S48x256 .bf16) (x14 : Vec F S256x128 .f32) (x15 : Vec F S256x128 .f32) (x16 : Vec F S256x128 .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).1 ∗ owns (c : Thread nD τ) arg9 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).2.1 ∗ owns (c : Thread nD τ) arg10 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).2.2.1 ∗ owns (c : Thread nD τ) arg11 fullShare (lastVals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16).2.2.2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Q ⟨⟩))
    ⊢ wp frame (wpE (defs₀ (F := F)) 𝒱₀ (c : Thread nD τ) none) Set.univ (cc1_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg14.eq_unread hf14
  obtain rfl := harg15.eq_unread hf15
  obtain rfl := harg16.eq_unread hf16
  iapply ((headLast (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (harg1.unread x1) (harg2.unread x2) (harg3.unread x3) (harg4.unread x4) (harg5.unread x5) (harg6.unread x6) (harg7.unread x7) (harg14.unread x14) (harg15.unread x15) (harg16.unread x16)).2 f8 f9 f10 f11 f12 f13)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H5]
  · iexists _; isplitr; swap; (· iexact H5); ipureintro; exact hf5
  isplitl [H6]
  · iexists _; isplitr; swap; (· iexact H6); ipureintro; exact hf6
  isplitl [H7]
  · iexists _; isplitr; swap; (· iexact H7); ipureintro; exact hf7
  isplitl [H8]
  · iexists _; isplitr; swap; (· iexact H8); ipureintro; rfl
  isplitl [H9]
  · iexists _; isplitr; swap; (· iexact H9); ipureintro; rfl
  isplitl [H10]
  · iexists _; isplitr; swap; (· iexact H10); ipureintro; rfl
  isplitl [H11]
  · iexists _; isplitr; swap; (· iexact H11); ipureintro; rfl
  isplitl [H12]
  · iexists _; iexists _; isplitr; swap; (· iexact H12); ipureintro; rfl
  isplitl [H13]
  · iexists _; iexists _; isplitr; swap; (· iexact H13); ipureintro; rfl
  isplitl [H14]
  · iexists _; iexists _; isplitr; swap; (· iexact H14); ipureintro; rfl
  isplitl [H15]
  · iexists _; iexists _; isplitr; swap; (· iexact H15); ipureintro; rfl
  iexists _; iexists _; isplitr; swap; (· iexact H16); ipureintro; rfl

end Cert.KernelIdeal.Own

end
-- ==== Proof.Ideal.Run0.lean ====
/-
  The quantising region of @main: its proof data, its body obligation and its record as a segment.
-/
module

public import proofs.«01_k».proof.Proof.Ideal.Triples
public import proofs.«01_k».proof.Proof.Gen.KernelIdeal.Points
public import proofs.«01_k».proof.Proof.Gen.KernelIdeal.Regions
public import Idealize.ShloMosaic.Lib.Pipeline.DatRel
public import Idealize.ShloMosaic.Lib.Pipeline.ArrRel
public import Idealize.ShloMosaic.Lib.Pipeline.RegionsOwned
public import Idealize.ShloMosaic.Lib.Pipeline.FrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UU nD τ) ℕ

variable (m : (ℓ : Loc nD τ sig) → Buf (Elt F) ℓ)

/-- The quantising kernel's two operands as its region finds them: the rows to quantise and the teacher's tokens. -/
def in0_0 (c : Dev nD) : Vec F S256x1536 .bf16 := ((cfg0.win 0).blk t0_0).view.read (Elt F) (V1 m c (Pipeline.arrRef spec0 0))
def in0_1 (c : Dev nD) : Vec F S48x256 .i32 := ((cfg0.win 1).blk t0_0).view.read (Elt F) (V1 m c (Pipeline.arrRef spec0 1))

/-- What the quantising body leaves in its six results, at the pipeline's staging buffers. -/
def res0 (c : Dev nD) := prepVals (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (in0_0 m c) (in0_1 m c)

/-- The quantising region's proof data. -/
def dat0 (c : Dev nD) : Dat τ (Elt F) Unit ℕ (UU nD τ) ℕ cfg0 c where
  A w := V1 m c (Pipeline.arrRef spec0 w)
  after w _ := match w with
    | ⟨0, _⟩ => in0_0 m c
    | ⟨1, _⟩ => in0_1 m c
    | ⟨2, _⟩ => (res0 m c).1
    | ⟨3, _⟩ => (res0 m c).2.1
    | ⟨4, _⟩ => (res0 m c).2.2.1
    | ⟨5, _⟩ => (res0 m c).2.2.2.1
    | ⟨6, _⟩ => (res0 m c).2.2.2.2.1
    | ⟨7, _⟩ => (res0 m c).2.2.2.2.2
  Φ _ := Pipeline.scopedRest spec0 c
  q _ := fullShare
  owed _ := 0

theorem A_eq0 (c : Dev nD) (w : Fin cfg0.W) : (dat0 m c).A w = V1 m c (Pipeline.arrRef spec0 w) := by
  dsimp only [dat0]

theorem before0_0 (c : Dev nD) (d) : (dat0 m c).before 0 t0_0 d = in0_0 m c := by
  unfold Dat.before; rw [if_pos (by decide)]; rfl
theorem before0_1 (c : Dev nD) (d) : (dat0 m c).before 1 t0_0 d = in0_1 m c := by
  unfold Dat.before; rw [if_pos (by decide)]; rfl

/-- What the quantising body is called with, window by window, and what it returns. -/
def bodyPre0 (c : Dev nD) : sProp 𝕄 :=
  iprop((dat0 m c).Φ t0_0.castSucc ∗ (dat0 m c).owesAt () t0_0.castSucc
    ∗ (∃ d, owns (c : Thread nD τ) (st0_0 t0_0) fullShare ((dat0 m c).before 0 t0_0 d)) ∗ (∃ d, owns (c : Thread nD τ) (st0_1 t0_0) fullShare ((dat0 m c).before 1 t0_0 d)) ∗ (∃ d, owns (c : Thread nD τ) (st0_2 t0_0) fullShare ((dat0 m c).before 2 t0_0 d)) ∗ (∃ d, owns (c : Thread nD τ) (st0_3 t0_0) fullShare ((dat0 m c).before 3 t0_0 d)) ∗ (∃ d, owns (c : Thread nD τ) (st0_4 t0_0) fullShare ((dat0 m c).before 4 t0_0 d)) ∗ (∃ d, owns (c : Thread nD τ) (st0_5 t0_0) fullShare ((dat0 m c).before 5 t0_0 d)) ∗ (∃ d, owns (c : Thread nD τ) (st0_6 t0_0) fullShare ((dat0 m c).before 6 t0_0 d)) ∗ (∃ d, owns (c : Thread nD τ) (st0_7 t0_0) fullShare ((dat0 m c).before 7 t0_0 d)))
def bodyPost0 (c : Dev nD) : sProp 𝕄 :=
  iprop((dat0 m c).Φ t0_0.succ ∗ (dat0 m c).owesAt () t0_0.succ
    ∗ owns (c : Thread nD τ) (st0_0 t0_0) fullShare ((dat0 m c).after 0 t0_0) ∗ owns (c : Thread nD τ) (st0_1 t0_0) fullShare ((dat0 m c).after 1 t0_0) ∗ owns (c : Thread nD τ) (st0_2 t0_0) fullShare ((dat0 m c).after 2 t0_0) ∗ owns (c : Thread nD τ) (st0_3 t0_0) fullShare ((dat0 m c).after 3 t0_0) ∗ owns (c : Thread nD τ) (st0_4 t0_0) fullShare ((dat0 m c).after 4 t0_0) ∗ owns (c : Thread nD τ) (st0_5 t0_0) fullShare ((dat0 m c).after 5 t0_0) ∗ owns (c : Thread nD τ) (st0_6 t0_0) fullShare ((dat0 m c).after 6 t0_0) ∗ owns (c : Thread nD τ) (st0_7 t0_0) fullShare ((dat0 m c).after 7 t0_0))

theorem after0_0 (c : Dev nD) : (dat0 m c).after 0 t0_0 = in0_0 m c := rfl
theorem after0_1 (c : Dev nD) : (dat0 m c).after 1 t0_0 = in0_1 m c := rfl
theorem after0_2 (c : Dev nD) : (dat0 m c).after 2 t0_0 = (res0 m c).1 := rfl
theorem after0_3 (c : Dev nD) : (dat0 m c).after 3 t0_0 = (res0 m c).2.1 := rfl
theorem after0_4 (c : Dev nD) : (dat0 m c).after 4 t0_0 = (res0 m c).2.2.1 := rfl
theorem after0_5 (c : Dev nD) : (dat0 m c).after 5 t0_0 = (res0 m c).2.2.2.1 := rfl
theorem after0_6 (c : Dev nD) : (dat0 m c).after 6 t0_0 = (res0 m c).2.2.2.2.1 := rfl
theorem after0_7 (c : Dev nD) : (dat0 m c).after 7 t0_0 = (res0 m c).2.2.2.2.2 := rfl

theorem sound0 (c : Dev nD) : bodyPre0 m c ⊢ wp frame (wpE (defs₀ (F := F)) 𝒱₀ (c : Thread nD τ) none) Set.univ (bodyAt0 t0_0) (fun _ => bodyPost0 m c) := by
  unfold bodyPre0 bodyPost0 bodyAt0
  simp only [before0_0, before0_1]
  rw [show (dat0 m c).Φ t0_0.succ = (dat0 m c).Φ t0_0.castSucc from rfl,
    show (dat0 m c).owesAt () t0_0.succ = (dat0 m c).owesAt () t0_0.castSucc from rfl,
    after0_0, after0_1, after0_2, after0_3, after0_4, after0_5, after0_6, after0_7]
  unfold res0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (prep_triple (F := F) c _ _ _ _ _ _ _ _ _ _ _ _ _ _ _ _ (in0_0 m c) (in0_1 m c) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row0 (t : Fin cfg0.N) : defs₀ (F := F) .tc cfg0.body (cfg0.bodyArgs t (cfg0.slots t)) = bodyAt0 t := by
  unfold defs₀; rw [Defs.onTc_tc]

/-- The quantising body's obligation. -/
theorem body0 (c : Dev nD) : BodyObligation (dat0 m c) (defs₀ (F := F)) 𝒱₀ () Set.univ := fun t => by
  obtain rfl := fin_N0 t
  rw [bigSep_W0, bigSep_W0, defs₀_row0]
  exact triple_restated (sound0 m c) rfl .rfl fun _ => .rfl

/-- The unscoped buffers after the quantising region: its six results at what the proof data computes. -/
def U2 (c : Dev nD) : Valuation τ sig (Elt F) := Function.update (Function.update (Function.update (Function.update (Function.update (Function.update (V1 m c)
  main_v6_0 ((dat0 m c).arrAt 2 cfg0.N)) main_v6_1 ((dat0 m c).arrAt 3 cfg0.N)) main_v6_2 ((dat0 m c).arrAt 4 cfg0.N)) main_v6_3 ((dat0 m c).arrAt 5 cfg0.N)) main_v6_4 ((dat0 m c).arrAt 6 cfg0.N)) main_v6_5 ((dat0 m c).arrAt 7 cfg0.N)
/-- And after the host's transpose of the weights' scales. -/
def U3 (c : Dev nD) : Valuation τ sig (Elt F) := StableHlo.after hostOps1 (U2 m c)

end Cert.KernelIdeal.Own

end
-- ==== Proof.Ideal.Run1.lean ====
/-
  The projecting region of @main: its proof data over an abstract account of its tiles, and its body obligation.
-/
module

public import proofs.«01_k».proof.Proof.Ideal.Run0
public import proofs.«01_k».proof.Proof.Gen.KernelIdeal.Points
public import proofs.«01_k».proof.Proof.Gen.KernelIdeal.Regions
public import Idealize.ShloMosaic.Lib.Pipeline.DatRel
public import Idealize.ShloMosaic.Lib.Pipeline.ArrRel
public import Idealize.ShloMosaic.Lib.Pipeline.RegionsOwned
public import Idealize.ShloMosaic.Lib.Pipeline.FrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UU nD τ) ℕ

attribute [local irreducible] firstVals midVals lastVals U3

variable (m : (ℓ : Loc nD τ sig) → Buf (Elt F) ℓ)

/-- What a window of the projecting region reads of its array, as the region finds it, at a tile; the two weight windows overhang the
    array at the last tile, where the buffer keeps `d`. -/
def opd1_0 (c : Dev nD) (t : Fin cfg1.N) : Vec F S256x1536 .bf16 := ((cfg1.win 0).blk t).view.read (Elt F) (U3 m c (Pipeline.arrRef spec1 0))
def opd1_1 (c : Dev nD) (t : Fin cfg1.N) (d : Vec F S2048x1536 .fp8e4m3) : Vec F S2048x1536 .fp8e4m3 := (cfg1.win 1).fill (cfg1.grid.coords t) d (((cfg1.win 1).blk t).view.read (Elt F) (U3 m c (Pipeline.arrRef spec1 1)))
def opd1_2 (c : Dev nD) (t : Fin cfg1.N) (d : Vec F S12x2048 .f32) : Vec F S12x2048 .f32 := (cfg1.win 2).fill (cfg1.grid.coords t) d (((cfg1.win 2).blk t).view.read (Elt F) (U3 m c (Pipeline.arrRef spec1 2)))
def opd1_3 (c : Dev nD) (t : Fin cfg1.N) : Vec F S1x256x128 .i32 := ((cfg1.win 3).blk t).view.read (Elt F) (U3 m c (Pipeline.arrRef spec1 3))
def opd1_4 (c : Dev nD) (t : Fin cfg1.N) : Vec F S256x128 .i32 := ((cfg1.win 4).blk t).view.read (Elt F) (U3 m c (Pipeline.arrRef spec1 4))
def opd1_5 (c : Dev nD) (t : Fin cfg1.N) : Vec F S256x128 .i32 := ((cfg1.win 5).blk t).view.read (Elt F) (U3 m c (Pipeline.arrRef spec1 5))
def opd1_6 (c : Dev nD) (t : Fin cfg1.N) : Vec F S48x256 .bf16 := ((cfg1.win 6).blk t).view.read (Elt F) (U3 m c (Pipeline.arrRef spec1 6))

/-- An account of the head's tiles: `I n` is what the running maximum, the running sum and the gathered scores meet after `n` tiles, and
    `O7` to `O10` what the four results meet at the last, given that the bodies keep it. -/
structure HeadSpec (c : Dev nD) where
  I : ℕ → Vec F S256x128 .f32 → Vec F S256x128 .f32 → Vec F S256x128 .f32 → Prop
  O7 : Vec F S1x256 .f32 → Prop
  O8 : Vec F S1x256 .f32 → Prop
  O9 : Vec F S1x256 .f32 → Prop
  O10 : Vec F S48x256 .f32 → Prop
  first : ∀ (t : Fin cfg1.N) (h1 : condFirst (grid1.coords t)) (h2 : ¬condLast (grid1.coords t)) (d1 : Vec F S2048x1536 .fp8e4m3) (d2 : Vec F S12x2048 .f32), t.val = 0 →
    I 1 (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t)).1 (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t)).2.1 (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t)).2.2
  mid : ∀ (t : Fin cfg1.N) (h1 : ¬condFirst (grid1.coords t)) (h2 : ¬condLast (grid1.coords t)) (d1 : Vec F S2048x1536 .fp8e4m3) (d2 : Vec F S12x2048 .f32) (x14 x15 x16 : Vec F S256x128 .f32), t.val ≠ 0 → I t.val x14 x15 x16 →
    I (t.val + 1) (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) x14 x15 x16).1 (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) x14 x15 x16).2.1 (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) x14 x15 x16).2.2
  last : ∀ (t : Fin cfg1.N) (h1 : ¬condFirst (grid1.coords t)) (h2 : condLast (grid1.coords t)) (d1 : Vec F S2048x1536 .fp8e4m3) (d2 : Vec F S12x2048 .f32) (x14 x15 x16 : Vec F S256x128 .f32), t.val = 74 → I t.val x14 x15 x16 →
    O7 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).1 ∧ O8 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).2.1 ∧ O9 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).2.2.1 ∧ O10 (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t d1) (opd1_2 m c t d2) (opd1_3 m c t) (opd1_4 m c t) (opd1_5 m c t) (opd1_6 m c t) x14 x15 x16).2.2.2

/-- The account that says nothing. -/
def HeadSpec.trivial (c : Dev nD) : HeadSpec m c where
  I _ _ _ _ := True
  O7 _ := True
  O8 _ := True
  O9 _ := True
  O10 _ := True
  first _ _ _ _ _ _ := True.intro
  mid _ _ _ _ _ _ _ _ _ _ := True.intro
  last _ _ _ _ _ _ _ _ _ _ := ⟨True.intro, True.intro, True.intro, True.intro⟩

theorem condFirst_iff : ∀ t : Fin cfg1.N, condFirst (grid1.coords t) ↔ t.val = 0 := by decide +kernel
theorem condLast_iff : ∀ t : Fin cfg1.N, condLast (grid1.coords t) ↔ t.val = 74 := by decide +kernel

variable {m}
variable {c : Dev nD} (S : HeadSpec m c)

/-- The windows whose leavings are held to a predicate: the two that overhang, and the four results. -/
def fgt1 : Fin cfg1.W → Bool := fun w => match w with
  | ⟨1, _⟩ => true | ⟨2, _⟩ => true | ⟨7, _⟩ => true | ⟨8, _⟩ => true | ⟨9, _⟩ => true | ⟨10, _⟩ => true
  | _ => false

/-- What a result's window leaves at the last tile. -/
def Rl1 : (w : Fin cfg1.W) → Fin cfg1.N → ((cfg1.win w).block.Idx → Elt F (cfg1.win w).elt) → Prop := fun w => match w with
  | ⟨7, _⟩ => fun t X => t.val = 74 → S.O7 X
  | ⟨8, _⟩ => fun t X => t.val = 74 → S.O8 X
  | ⟨9, _⟩ => fun t X => t.val = 74 → S.O9 X
  | ⟨10, _⟩ => fun t X => t.val = 74 → S.O10 X
  | _ => fun _ _ => True

/-- What the scoped memory holds between the tiles: the carried buffers at what `I` says, the rest at anything. -/
def Phi1 (t : ℕ) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f)
    ∗ (∃ d, owns (c : Thread nD τ) (Memref.whole cc1_scratch0) fullShare d) ∗ (∃ d, owns (c : Thread nD τ) (Memref.whole cc1_scratch1) fullShare d)
    ∗ ∃ x14 x15 x16, ⌜t ≠ 0 → t ≤ 74 → S.I t x14 x15 x16⌝ ∗ owns (c : Thread nD τ) (Memref.whole cc1_scratch2) fullShare x14 ∗ owns (c : Thread nD τ) (Memref.whole cc1_scratch3) fullShare x15 ∗ owns (c : Thread nD τ) (Memref.whole cc1_scratch4) fullShare x16)

/-- The projecting region's proof data. -/
def dat1 : Dat τ (Elt F) Unit ℕ (UU nD τ) ℕ cfg1 c where
  A w := U3 m c (Pipeline.arrRef spec1 w)
  after w t := match w with
    | ⟨0, _⟩ => opd1_0 m c t
    | ⟨3, _⟩ => opd1_3 m c t
    | ⟨4, _⟩ => opd1_4 m c t
    | ⟨5, _⟩ => opd1_5 m c t
    | ⟨6, _⟩ => opd1_6 m c t
    | w => fun _ => Classical.choice inferInstance
  Φ t := Phi1 S t.val
  q _ := fullShare
  owed _ := 0

theorem A_eq1 (w : Fin cfg1.W) : (dat1 S).A w = U3 m c (Pipeline.arrRef spec1 w) := by
  dsimp only [dat1]

theorem before1_0 (t : Fin cfg1.N) (d) : (dat1 S).before 0 t d = opd1_0 m c t :=
  (Dat.before_in_eq_fetched (dat1 S) 0 (by decide) (by decide) (by intros; rfl) (by intros; rfl) t d).trans rfl
theorem after1_0 (t : Fin cfg1.N) : (dat1 S).after 0 t = opd1_0 m c t := rfl

theorem before1_3 (t : Fin cfg1.N) (d) : (dat1 S).before 3 t d = opd1_3 m c t :=
  (Dat.before_in_eq_fetched (dat1 S) 3 (by decide) (by decide) (by intros; rfl) (by intros; rfl) t d).trans rfl
theorem after1_3 (t : Fin cfg1.N) : (dat1 S).after 3 t = opd1_3 m c t := rfl

theorem before1_4 (t : Fin cfg1.N) (d) : (dat1 S).before 4 t d = opd1_4 m c t :=
  (Dat.before_in_eq_fetched (dat1 S) 4 (by decide) (by decide) (by intros; rfl) (by intros; rfl) t d).trans rfl
theorem after1_4 (t : Fin cfg1.N) : (dat1 S).after 4 t = opd1_4 m c t := rfl

theorem before1_5 (t : Fin cfg1.N) (d) : (dat1 S).before 5 t d = opd1_5 m c t :=
  (Dat.before_in_eq_fetched (dat1 S) 5 (by decide) (by decide) (by intros; rfl) (by intros; rfl) t d).trans rfl
theorem after1_5 (t : Fin cfg1.N) : (dat1 S).after 5 t = opd1_5 m c t := rfl

theorem before1_6 (t : Fin cfg1.N) (d) : (dat1 S).before 6 t d = opd1_6 m c t :=
  (Dat.before_in_eq_fetched (dat1 S) 6 (by decide) (by decide) (by intros; rfl) (by intros; rfl) t d).trans rfl
theorem after1_6 (t : Fin cfg1.N) : (dat1 S).after 6 t = opd1_6 m c t := rfl

theorem finds1_1 (t : Fin cfg1.N) (X) (h : ((dat1 S).toRRel fgt1 (Rl1 S)).Finds 1 t X) : ∃ d, X = opd1_1 m c t d := by
  obtain ⟨d, hd⟩ := (RDat.finds_of_fetch _ (fetch1_1 t) X).mp h
  exact ⟨d, hd⟩

theorem finds1_2 (t : Fin cfg1.N) (X) (h : ((dat1 S).toRRel fgt1 (Rl1 S)).Finds 2 t X) : ∃ d, X = opd1_2 m c t d := by
  obtain ⟨d, hd⟩ := (RDat.finds_of_fetch _ (fetch1_2 t) X).mp h
  exact ⟨d, hd⟩

/-- What the head's body is called with, window by window, and what it returns. -/
def bodyPre1 (t : Fin cfg1.N) : sProp 𝕄 :=
  iprop(Phi1 S t.val ∗ (dat1 S).owesAt () t.castSucc
    ∗ (∃ d, owns (c : Thread nD τ) (st1_0 t) fullShare ((dat1 S).before 0 t d)) ∗ (∃ Y, ⌜((dat1 S).toRRel fgt1 (Rl1 S)).Finds 1 t Y⌝ ∗ owns (c : Thread nD τ) (st1_1 t) fullShare Y) ∗ (∃ Y, ⌜((dat1 S).toRRel fgt1 (Rl1 S)).Finds 2 t Y⌝ ∗ owns (c : Thread nD τ) (st1_2 t) fullShare Y) ∗ (∃ d, owns (c : Thread nD τ) (st1_3 t) fullShare ((dat1 S).before 3 t d)) ∗ (∃ d, owns (c : Thread nD τ) (st1_4 t) fullShare ((dat1 S).before 4 t d)) ∗ (∃ d, owns (c : Thread nD τ) (st1_5 t) fullShare ((dat1 S).before 5 t d)) ∗ (∃ d, owns (c : Thread nD τ) (st1_6 t) fullShare ((dat1 S).before 6 t d)) ∗ (∃ Y, ⌜((dat1 S).toRRel fgt1 (Rl1 S)).Finds 7 t Y⌝ ∗ owns (c : Thread nD τ) (st1_7 t) fullShare Y) ∗ (∃ Y, ⌜((dat1 S).toRRel fgt1 (Rl1 S)).Finds 8 t Y⌝ ∗ owns (c : Thread nD τ) (st1_8 t) fullShare Y) ∗ (∃ Y, ⌜((dat1 S).toRRel fgt1 (Rl1 S)).Finds 9 t Y⌝ ∗ owns (c : Thread nD τ) (st1_9 t) fullShare Y) ∗ (∃ Y, ⌜((dat1 S).toRRel fgt1 (Rl1 S)).Finds 10 t Y⌝ ∗ owns (c : Thread nD τ) (st1_10 t) fullShare Y))
def bodyPost1 (t : Fin cfg1.N) : sProp 𝕄 :=
  iprop(Phi1 S (t.val + 1) ∗ (dat1 S).owesAt () t.castSucc
    ∗ owns (c : Thread nD τ) (st1_0 t) fullShare ((dat1 S).after 0 t) ∗ (∃ X, ⌜Rl1 S 1 t X⌝ ∗ owns (c : Thread nD τ) (st1_1 t) fullShare X) ∗ (∃ X, ⌜Rl1 S 2 t X⌝ ∗ owns (c : Thread nD τ) (st1_2 t) fullShare X) ∗ owns (c : Thread nD τ) (st1_3 t) fullShare ((dat1 S).after 3 t) ∗ owns (c : Thread nD τ) (st1_4 t) fullShare ((dat1 S).after 4 t) ∗ owns (c : Thread nD τ) (st1_5 t) fullShare ((dat1 S).after 5 t) ∗ owns (c : Thread nD τ) (st1_6 t) fullShare ((dat1 S).after 6 t) ∗ (∃ X, ⌜Rl1 S 7 t X⌝ ∗ owns (c : Thread nD τ) (st1_7 t) fullShare X) ∗ (∃ X, ⌜Rl1 S 8 t X⌝ ∗ owns (c : Thread nD τ) (st1_8 t) fullShare X) ∗ (∃ X, ⌜Rl1 S 9 t X⌝ ∗ owns (c : Thread nD τ) (st1_9 t) fullShare X) ∗ (∃ X, ⌜Rl1 S 10 t X⌝ ∗ owns (c : Thread nD τ) (st1_10 t) fullShare X))

set_option backward.isDefEq.respectTransparency.types false in
theorem sound1 (t : Fin cfg1.N) : bodyPre1 S t ⊢ wp frame (wpE (defs₀ (F := F)) 𝒱₀ (c : Thread nD τ) none) Set.univ (bodyAt1 t) (fun _ => bodyPost1 S t) := by
  unfold bodyPre1 bodyPost1 bodyAt1 Phi1
  simp only [before1_0, after1_0, before1_3, after1_3, before1_4, after1_4, before1_5, after1_5, before1_6, after1_6]
  iintro ⟨⟨HS0, HS1, HS2, HS3, HS4, HS5, HS6, HS7, ⟨%e12, H12⟩, ⟨%e13, H13⟩, %x14, %x15, %x16, %hI, H14, H15, H16⟩, Ho, ⟨%d0, H1⟩, ⟨%d1, %hd1, H2⟩, ⟨%d2, %hd2, H3⟩, ⟨%d3, H4⟩, ⟨%d4, H5⟩, ⟨%d5, H6⟩, ⟨%d6, H7⟩, ⟨%d7, %hd7, H8⟩, ⟨%d8, %hd8, H9⟩, ⟨%d9, %hd9, H10⟩, ⟨%d10, %hd10, H11⟩⟩
  obtain ⟨e1, rfl⟩ := finds1_1 S t _ hd1
  obtain ⟨e2, rfl⟩ := finds1_2 S t _ hd2
  by_cases ht0 : t.val = 0
  · have h1 := (condFirst_iff t).mpr ht0
    have ht74 : t.val ≠ 74 := by omega
    have h2 : ¬condLast (grid1.coords t) := fun h => ht74 ((condLast_iff t).mp h)
    iapply (first_triple (F := F) c (grid1.coords t) _ _ _ _ _ _ _ _ _ _ _ _ _ _ _ _ _ _ _ _ _ _ _ _ _ _ _ _ _ _ _ _ h1 h2 (opd1_0 m c t) (opd1_1 m c t e1) (opd1_2 m c t e2) (opd1_3 m c t) (opd1_4 m c t) (opd1_5 m c t) (opd1_6 m c t) _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H1, H2, H3, H4, H5, H6, H7, ⟨%y8, H8⟩, ⟨%y9, H9⟩, ⟨%y10, H10⟩, ⟨%y11, H11⟩, ⟨%y12, H12⟩, ⟨%y13, H13⟩, H14, H15, H16⟩
    isplitl [HS0 HS1 HS2 HS3 HS4 HS5 HS6 HS7 H12 H13 H14 H15 H16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [H12]; · iexists _; iexact H12
      isplitl [H13]; · iexists _; iexact H13
      iexists (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t)).1; iexists (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t)).2.1; iexists (firstVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t)).2.2
      isplitr [H14 H15 H16]
      · ipureintro; intro _ _; rw [ht0]; exact S.first t h1 h2 e1 e2 ht0
      isplitl [H14]; · iexact H14
      isplitl [H15]; · iexact H15
      iexact H16
    isplitl [Ho]; · iexact Ho
    isplitl [H1]
    · iexact H1
    isplitl [H2]
    · iexists (opd1_1 m c t e1); isplitr; · (ipureintro; trivial)
      iexact H2
    isplitl [H3]
    · iexists (opd1_2 m c t e2); isplitr; · (ipureintro; trivial)
      iexact H3
    isplitl [H4]
    · iexact H4
    isplitl [H5]
    · iexact H5
    isplitl [H6]
    · iexact H6
    isplitl [H7]
    · iexact H7
    isplitl [H8]
    · iexists y8; isplitr; · (ipureintro; exact (fun h => absurd h ht74))
      iexact H8
    isplitl [H9]
    · iexists y9; isplitr; · (ipureintro; exact (fun h => absurd h ht74))
      iexact H9
    isplitl [H10]
    · iexists y10; isplitr; · (ipureintro; exact (fun h => absurd h ht74))
      iexact H10
    iexists y11; isplitr; · (ipureintro; exact (fun h => absurd h ht74))
    iexact H11
  · have h1 : ¬condFirst (grid1.coords t) := fun h => ht0 ((condFirst_iff t).mp h)
    by_cases ht74 : t.val = 74
    · have h2 := (condLast_iff t).mpr ht74
      iapply (last_triple (F := F) c (grid1.coords t) _ _ _ _ _ _ _ _ _ _ _ _ _ _ _ _ _ _ _ _ _ _ _ _ _ _ _ _ _ _ _ _ h1 h2 (opd1_0 m c t) (opd1_1 m c t e1) (opd1_2 m c t e2) (opd1_3 m c t) (opd1_4 m c t) (opd1_5 m c t) (opd1_6 m c t) x14 x15 x16 _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexact H14
      isplitl [H15]; · iexact H15
      isplitl [H16]; · iexact H16
      iintro ⟨H1, H2, H3, H4, H5, H6, H7, H8, H9, H10, H11, ⟨%y12, H12⟩, ⟨%y13, H13⟩, ⟨%y14, H14⟩, ⟨%y15, H15⟩, ⟨%y16, H16⟩⟩
      isplitl [HS0 HS1 HS2 HS3 HS4 HS5 HS6 HS7 H12 H13 H14 H15 H16]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [H12]; · iexists _; iexact H12
        isplitl [H13]; · iexists _; iexact H13
        iexists y14; iexists y15; iexists y16
        isplitr [H14 H15 H16]
        · ipureintro; intro _ hle; omega
        isplitl [H14]; · iexact H14
        isplitl [H15]; · iexact H15
        iexact H16
      isplitl [Ho]; · iexact Ho
      isplitl [H1]
      · iexact H1
      isplitl [H2]
      · iexists (opd1_1 m c t e1); isplitr; · (ipureintro; trivial)
        iexact H2
      isplitl [H3]
      · iexists (opd1_2 m c t e2); isplitr; · (ipureintro; trivial)
        iexact H3
      isplitl [H4]
      · iexact H4
      isplitl [H5]
      · iexact H5
      isplitl [H6]
      · iexact H6
      isplitl [H7]
      · iexact H7
      isplitl [H8]
      · iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).1; isplitr; · (ipureintro; exact (fun _ => (S.last t h1 h2 e1 e2 x14 x15 x16 ht74 (hI ht0 (by omega))).1))
        iexact H8
      isplitl [H9]
      · iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).2.1; isplitr; · (ipureintro; exact (fun _ => (S.last t h1 h2 e1 e2 x14 x15 x16 ht74 (hI ht0 (by omega))).2.1))
        iexact H9
      isplitl [H10]
      · iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).2.2.1; isplitr; · (ipureintro; exact (fun _ => (S.last t h1 h2 e1 e2 x14 x15 x16 ht74 (hI ht0 (by omega))).2.2.1))
        iexact H10
      iexists (lastVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) (opd1_6 m c t) x14 x15 x16).2.2.2; isplitr; · (ipureintro; exact (fun _ => (S.last t h1 h2 e1 e2 x14 x15 x16 ht74 (hI ht0 (by omega))).2.2.2))
      iexact H11
    · have h2 : ¬condLast (grid1.coords t) := fun h => ht74 ((condLast_iff t).mp h)
      have hlt : t.val < 75 := N_1 ▸ t.isLt
      iapply (mid_triple (F := F) c (grid1.coords t) _ _ _ _ _ _ _ _ _ _ _ _ _ _ _ _ _ _ _ _ _ _ _ _ _ _ _ _ _ _ _ _ h1 h2 (opd1_0 m c t) (opd1_1 m c t e1) (opd1_2 m c t e2) (opd1_3 m c t) (opd1_4 m c t) (opd1_5 m c t) x14 x15 x16 (opd1_6 m c t) _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexact H14
      isplitl [H15]; · iexact H15
      isplitl [H16]; · iexact H16
      iintro ⟨H1, H2, H3, H4, H5, H6, H7, ⟨%y8, H8⟩, ⟨%y9, H9⟩, ⟨%y10, H10⟩, ⟨%y11, H11⟩, ⟨%y12, H12⟩, ⟨%y13, H13⟩, H14, H15, H16⟩
      isplitl [HS0 HS1 HS2 HS3 HS4 HS5 HS6 HS7 H12 H13 H14 H15 H16]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [H12]; · iexists _; iexact H12
        isplitl [H13]; · iexists _; iexact H13
        iexists (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) x14 x15 x16).1; iexists (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) x14 x15 x16).2.1; iexists (midVals (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) h1 h2 (opd1_0 m c t) (opd1_1 m c t e1) (opd1_2 m c t e2) (opd1_3 m c t) (opd1_4 m c t) (opd1_5 m c t) x14 x15 x16).2.2
        isplitr [H14 H15 H16]
        · ipureintro; intro _ _; exact S.mid t h1 h2 e1 e2 x14 x15 x16 ht0 (hI ht0 (by omega))
        isplitl [H14]; · iexact H14
        isplitl [H15]; · iexact H15
        iexact H16
      isplitl [Ho]; · iexact Ho
      isplitl [H1]
      · iexact H1
      isplitl [H2]
      · iexists (opd1_1 m c t e1); isplitr; · (ipureintro; trivial)
        iexact H2
      isplitl [H3]
      · iexists (opd1_2 m c t e2); isplitr; · (ipureintro; trivial)
        iexact H3
      isplitl [H4]
      · iexact H4
      isplitl [H5]
      · iexact H5
      isplitl [H6]
      · iexact H6
      isplitl [H7]
      · iexact H7
      isplitl [H8]
      · iexists y8; isplitr; · (ipureintro; exact (fun h => absurd h ht74))
        iexact H8
      isplitl [H9]
      · iexists y9; isplitr; · (ipureintro; exact (fun h => absurd h ht74))
        iexact H9
      isplitl [H10]
      · iexists y10; isplitr; · (ipureintro; exact (fun h => absurd h ht74))
        iexact H10
      iexists y11; isplitr; · (ipureintro; exact (fun h => absurd h ht74))
      iexact H11

theorem defs₀_row1 (t : Fin cfg1.N) : defs₀ (F := F) .tc cfg1.body (cfg1.bodyArgs t (cfg1.slots t)) = bodyAt1 t := by
  unfold defs₀; rw [Defs.onTc_tc]

/-- The head's body obligation. -/
theorem body1 : Pipeline.BodyObligationRel (dat1 S) (defs₀ (F := F)) 𝒱₀ () Set.univ fgt1 (Rl1 S) := fun t => by
  rw [bigSep_W1, bigSep_W1, defs₀_row1]
  exact triple_restated (sound1 S t) rfl .rfl fun _ => .rfl

end Cert.KernelIdeal.Own

end
-- ==== Proof.Ideal.Run.lean ====
/-
  @main run: its two regions as segments between the host stretches, and what every final state holds.
-/
module

public import proofs.«01_k».proof.Proof.Ideal.Run1
public import proofs.«01_k».proof.Proof.Gen.KernelIdeal.Points
public import proofs.«01_k».proof.Proof.Gen.KernelIdeal.Regions
public import Idealize.ShloMosaic.Lib.Pipeline.DatRel
public import Idealize.ShloMosaic.Lib.Pipeline.ArrRel
public import Idealize.ShloMosaic.Lib.Pipeline.RegionsOwned
public import Idealize.ShloMosaic.Lib.Pipeline.FrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)

variable {F : FTy → Type} [FloatOps F]

local notation "𝕄" => MT nD τ sig Unit (Elt F) ℕ (UU nD τ) ℕ

attribute [local irreducible] prepVals firstVals midVals lastVals

variable (m : (ℓ : Loc nD τ sig) → Buf (Elt F) ℓ)

variable {m}
variable (S : ∀ c : Dev nD, HeadSpec m c)

/-- What the head leaves in its four results: contents that meet the account. -/
def Γ (c : Dev nD) : Type :=
  {γ : Vec F S1x256 .f32 × Vec F S1x256 .f32 × Vec F S1x256 .f32 × Vec F S48x256 .f32 //
    (S c).O7 γ.1 ∧ (S c).O8 γ.2.1 ∧ (S c).O9 γ.2.2.1 ∧ (S c).O10 γ.2.2.2}

/-- The unscoped buffers after the head's region. -/
def U4 (c : Dev nD) (γ : Γ S c) : Valuation τ sig (Elt F) := Function.update (Function.update (Function.update (Function.update (U3 m c)
  main_v8_0 γ.1.1) main_v8_1 γ.1.2.1) main_v8_2 γ.1.2.2.1) main_v8_3 γ.1.2.2.2
/-- And after the last host stretch. -/
def U5 (c : Dev nD) (γ : Γ S c) : Valuation τ sig (Elt F) := StableHlo.after hostOps2 (U4 S c γ)

/-- The regions' proof data, exact and as the run takes them. -/
def pdats : (p : Fin 2) → (c : Dev nD) → Dat τ (Elt F) Unit ℕ (UU nD τ) ℕ (cfgs p) c
  | ⟨0, _⟩, c => dat0 m c
  | ⟨1, _⟩, c => dat1 (S c)
def rdats : (p : Fin 2) → (c : Dev nD) → RDat τ (Elt F) Unit ℕ (UU nD τ) ℕ (cfgs p) c
  | ⟨0, _⟩, c => (dat0 m c).toR
  | ⟨1, _⟩, c => (dat1 (S c)).toRRel fgt1 (Rl1 (S c))

abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

def hseg0 : HostSeg (Ix := Unit) (Name := ℕ) (U := UU nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def hseg1 : HostSeg (Ix := Unit) (Name := ℕ) (U := UU nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) R
def hseg2 : HostSeg (Ix := Unit) (Name := ℕ) (U := UU nD τ) (Lvl := ℕ) (pcfgs (F := F)) defs₀ 𝒱₀ L lv :=
  HostSeg.ofOpsEx _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 S) R

theorem U2_of (c : Dev nD) (r : Ref sig .tc) (h : r ∉ ([main_v6_0, main_v6_1, main_v6_2, main_v6_3, main_v6_4, main_v6_5] : List (Ref sig .tc))) : U2 m c r = V1 m c r := by
  simp only [List.mem_cons, not_or] at h
  simp only [U2, Function.update_of_ne (StableHlo.devRef_ne_of_ne (τ := τ) h.1), Function.update_of_ne (StableHlo.devRef_ne_of_ne (τ := τ) h.2.1), Function.update_of_ne (StableHlo.devRef_ne_of_ne (τ := τ) h.2.2.1), Function.update_of_ne (StableHlo.devRef_ne_of_ne (τ := τ) h.2.2.2.1), Function.update_of_ne (StableHlo.devRef_ne_of_ne (τ := τ) h.2.2.2.2.1), Function.update_of_ne (StableHlo.devRef_ne_of_ne (τ := τ) h.2.2.2.2.2.1)]
theorem U3_of (c : Dev nD) (r : Ref sig .tc) (h : r ∉ hostOps1_W) : U3 m c r = U2 m c r :=
  StableHlo.after_of_writes_sub hostOps1 _ hostOps1_writes h
theorem U4_of (c : Dev nD) (γ : Γ S c) (r : Ref sig .tc) (h : r ∉ ([main_v8_0, main_v8_1, main_v8_2, main_v8_3] : List (Ref sig .tc))) : U4 S c γ r = U3 m c r := by
  simp only [List.mem_cons, not_or] at h
  simp only [U4, Function.update_of_ne (StableHlo.devRef_ne_of_ne (τ := τ) h.1), Function.update_of_ne (StableHlo.devRef_ne_of_ne (τ := τ) h.2.1), Function.update_of_ne (StableHlo.devRef_ne_of_ne (τ := τ) h.2.2.1), Function.update_of_ne (StableHlo.devRef_ne_of_ne (τ := τ) h.2.2.2.1)]
theorem U5_of (c : Dev nD) (γ : Γ S c) (r : Ref sig .tc) (h : r ∉ hostOps2_W) : U5 S c γ r = U4 S c γ r :=
  StableHlo.after_of_writes_sub hostOps2 _ hostOps2_writes h

theorem U2_main_v6_0 (c : Dev nD) : U2 m c main_v6_0 = (dat0 m c).arrAt 2 cfg0.N := by
  simp only [U2, Function.update_of_ne (StableHlo.devRef_ne_of_ne (τ := τ) (show main_v6_0 ≠ main_v6_5 by decide)), Function.update_of_ne (StableHlo.devRef_ne_of_ne (τ := τ) (show main_v6_0 ≠ main_v6_4 by decide)), Function.update_of_ne (StableHlo.devRef_ne_of_ne (τ := τ) (show main_v6_0 ≠ main_v6_3 by decide)), Function.update_of_ne (StableHlo.devRef_ne_of_ne (τ := τ) (show main_v6_0 ≠ main_v6_2 by decide)), Function.update_of_ne (StableHlo.devRef_ne_of_ne (τ := τ) (show main_v6_0 ≠ main_v6_1 by decide)), Function.update_self]
theorem U2_main_v6_1 (c : Dev nD) : U2 m c main_v6_1 = (dat0 m c).arrAt 3 cfg0.N := by
  simp only [U2, Function.update_of_ne (StableHlo.devRef_ne_of_ne (τ := τ) (show main_v6_1 ≠ main_v6_5 by decide)), Function.update_of_ne (StableHlo.devRef_ne_of_ne (τ := τ) (show main_v6_1 ≠ main_v6_4 by decide)), Function.update_of_ne (StableHlo.devRef_ne_of_ne (τ := τ) (show main_v6_1 ≠ main_v6_3 by decide)), Function.update_of_ne (StableHlo.devRef_ne_of_ne (τ := τ) (show main_v6_1 ≠ main_v6_2 by decide)), Function.update_self]
theorem U2_main_v6_2 (c : Dev nD) : U2 m c main_v6_2 = (dat0 m c).arrAt 4 cfg0.N := by
  simp only [U2, Function.update_of_ne (StableHlo.devRef_ne_of_ne (τ := τ) (show main_v6_2 ≠ main_v6_5 by decide)), Function.update_of_ne (StableHlo.devRef_ne_of_ne (τ := τ) (show main_v6_2 ≠ main_v6_4 by decide)), Function.update_of_ne (StableHlo.devRef_ne_of_ne (τ := τ) (show main_v6_2 ≠ main_v6_3 by decide)), Function.update_self]
theorem U2_main_v6_3 (c : Dev nD) : U2 m c main_v6_3 = (dat0 m c).arrAt 5 cfg0.N := by
  simp only [U2, Function.update_of_ne (StableHlo.devRef_ne_of_ne (τ := τ) (show main_v6_3 ≠ main_v6_5 by decide)), Function.update_of_ne (StableHlo.devRef_ne_of_ne (τ := τ) (show main_v6_3 ≠ main_v6_4 by decide)), Function.update_self]
theorem U2_main_v6_4 (c : Dev nD) : U2 m c main_v6_4 = (dat0 m c).arrAt 6 cfg0.N := by
  simp only [U2, Function.update_of_ne (StableHlo.devRef_ne_of_ne (τ := τ) (show main_v6_4 ≠ main_v6_5 by decide)), Function.update_self]
theorem U2_main_v6_5 (c : Dev nD) : U2 m c main_v6_5 = (dat0 m c).arrAt 7 cfg0.N := by
  simp only [U2, Function.update_self]
theorem U4_main_v8_0 (c : Dev nD) (γ : Γ S c) : U4 S c γ main_v8_0 = γ.1.1 := by
  simp only [U4, Function.update_of_ne (StableHlo.devRef_ne_of_ne (τ := τ) (show main_v8_0 ≠ main_v8_3 by decide)), Function.update_of_ne (StableHlo.devRef_ne_of_ne (τ := τ) (show main_v8_0 ≠ main_v8_2 by decide)), Function.update_of_ne (StableHlo.devRef_ne_of_ne (τ := τ) (show main_v8_0 ≠ main_v8_1 by decide)), Function.update_self]
theorem U4_main_v8_1 (c : Dev nD) (γ : Γ S c) : U4 S c γ main_v8_1 = γ.1.2.1 := by
  simp only [U4, Function.update_of_ne (StableHlo.devRef_ne_of_ne (τ := τ) (show main_v8_1 ≠ main_v8_3 by decide)), Function.update_of_ne (StableHlo.devRef_ne_of_ne (τ := τ) (show main_v8_1 ≠ main_v8_2 by decide)), Function.update_self]
theorem U4_main_v8_2 (c : Dev nD) (γ : Γ S c) : U4 S c γ main_v8_2 = γ.1.2.2.1 := by
  simp only [U4, Function.update_of_ne (StableHlo.devRef_ne_of_ne (τ := τ) (show main_v8_2 ≠ main_v8_3 by decide)), Function.update_self]
theorem U4_main_v8_3 (c : Dev nD) (γ : Γ S c) : U4 S c γ main_v8_3 = γ.1.2.2.2 := by
  simp only [U4, Function.update_self]

theorem sub0 : ∀ b ∈ ([main_v6_0, main_v6_1, main_v6_2, main_v6_3, main_v6_4, main_v6_5] : List (Ref sig .tc)), b ∈ Finset.univ.image (Pipeline.arrRef spec0) := by decide
theorem sub1 : ∀ b ∈ ([main_v8_0, main_v8_1, main_v8_2, main_v8_3] : List (Ref sig .tc)), b ∈ Finset.univ.image (Pipeline.arrRef spec1) := by decide

/-- The quantising region's arrays at their final contents are the buffers after it. -/
theorem fin0 (c : Dev nD) : ∀ w : Fin cfg0.W, (dat0 m c).arrAt w cfg0.N = U2 m c (Pipeline.arrRef spec0 w)
  | ⟨0, _⟩ => ((dat0 m c).arrAt_in 0 rfl _).trans ((A_eq0 m c 0).trans (U2_of c main_v5 (by decide)).symm)
  | ⟨1, _⟩ => ((dat0 m c).arrAt_in 1 rfl _).trans ((A_eq0 m c 1).trans (U2_of c main_v2 (by decide)).symm)
  | ⟨2, _⟩ => (U2_main_v6_0 c).symm
  | ⟨3, _⟩ => (U2_main_v6_1 c).symm
  | ⟨4, _⟩ => (U2_main_v6_2 c).symm
  | ⟨5, _⟩ => (U2_main_v6_3 c).symm
  | ⟨6, _⟩ => (U2_main_v6_4 c).symm
  | ⟨7, _⟩ => (U2_main_v6_5 c).symm

set_option backward.isDefEq.respectTransparency.types false in
/-- The quantising region as a segment. -/
def reg0 : RDat.RegionSeg (pcfgs (F := F)) adm (rdats S) () defs₀ 𝒱₀ L lv 0 where
  win := launch0.win.to₀
  block_pos := launch0.block_pos
  stage_whole := launch0.stage_whole
  K := PEmpty
  osem k := k.elim
  ho := Pipeline.OwnSemFacts.none _
  hbody c := (body0 m c).toR
  hwaits := RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (U2 m c) ∗ R c)
  X _ := iprop(emp)
  Y _ := iprop(emp)
  Z c := Pipeline.unscopedRest spec0 c (fun b => V1 m c b)
  hentry c := by
    rw [Pipeline.ownSems0_none]
    have hsplit := RDat.arrays_of_unscopedBufs (p := 0) (pcfgs (F := F)) adm (rdats S) launch0.win launch0.arr_whole c
      ((pdats S 0 c).share_full fun _ => rfl) (fun b => V1 m c b) (A_eq0 m c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats S 0 c).Φ 0 = Pipeline.scopedRest spec0 c from rfl]
    iintro ⟨-, -, Hr⟩; iexact Hr
  hout c := by
    rw [Pipeline.ownSems0_none]
    change Pipeline.scopedRest spec0 c ⊢ _
    iintro Hr
    isplitr; · iempintro
    isplitr; · iempintro
    iexact Hr
  hexit c := by
    have hjoin := Pipeline.unscopedBufs_of_arrays (p := 0) (pcfgs (F := F)) adm (Ix := Unit) (Name := ℕ) (U := UU nD τ) (Lvl := ℕ) launch0.win launch0.arr_whole c
      (pdats S) ((pdats S 0 c).share_full fun _ => rfl) (fun b => V1 m c b) (fun b => U2 m c b) (fun w => (dat0 m c).arrAt w cfg0.N) (fin0 c)
      (fun b hb => U2_of c b (fun h => hb (sub0 b h)))
    rw [Pipeline.unscopedBufs_held] at hjoin
    have ha : (rdats S 0 c).arraysAt cfg0.N ⊢ ((dat0 m c).arrays ((dat0 m c).arrAt · cfg0.N) : sProp 𝕄) := BIBase.Entails.of_eq (Dat.toR_arraysAt_eq _ _)
    iintro ⟨Ha, HO, -, HZ⟩
    ihave Ha := ha $$ Ha
    imodintro
    isplitr [HO]
    · iapply hjoin
      isplitl [Ha]; · iexact Ha
      iexact HZ
    · unfold RDat.owesAt Pipeline.owesWithin
      icases HO with ⟨%W, -, HO⟩; iexists W; iexact HO

/-- Between the regions' scoped memory and the invariant's account of it. -/
theorem Phi1_in (c : Dev nD) : (Pipeline.scopedRest spec1 c : sProp 𝕄) ⊢ Phi1 (S c) 0 := by
  rw [scopedRest1_eq]; unfold Phi1; simp only [owns_whole_eq]
  iintro ⟨H0, H1, H2, H3, H4, H5, H6, H7, ⟨%e0, G0⟩, ⟨%e1, G1⟩, ⟨%e2, G2⟩, ⟨%e3, G3⟩, ⟨%e4, G4⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexists e0; iexists e0; isplitr; · (ipureintro; rfl)
                  iexact G0
  isplitl [G1]; · iexists e1; iexists e1; isplitr; · (ipureintro; rfl)
                  iexact G1
  iexists e2; iexists e3; iexists e4
  isplitr; · (ipureintro; exact fun h => absurd rfl h)
  isplitl [G2]; · iexists e2; isplitr; · (ipureintro; rfl)
                  iexact G2
  isplitl [G3]; · iexists e3; isplitr; · (ipureintro; rfl)
                  iexact G3
  iexists e4; isplitr; · (ipureintro; rfl)
  iexact G4

theorem Phi1_out (c : Dev nD) (t : ℕ) : Phi1 (S c) t ⊢ (Pipeline.scopedRest spec1 c : sProp 𝕄) := by
  rw [scopedRest1_eq]; unfold Phi1; simp only [owns_whole_eq]
  iintro ⟨H0, H1, H2, H3, H4, H5, H6, H7, ⟨%d0, %e0, -, G0⟩, ⟨%d1, %e1, -, G1⟩, %x2, %x3, %x4, -, ⟨%e2, -, G2⟩, ⟨%e3, -, G3⟩, ⟨%e4, -, G4⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexists _; iexact G0
  isplitl [G1]; · iexists _; iexact G1
  isplitl [G2]; · iexists _; iexact G2
  isplitl [G3]; · iexists _; iexact G3
  iexists _; iexact G4

/-- The last tile. -/
def tLast : Fin cfg1.N := ⟨74, by decide⟩

theorem whole1_7 : (cfg1.win 7).WholeAt tLast := by decide +kernel
theorem emb1_7 (j) : (cfg1.win 7).arr.view.emb j = j := rfl
theorem out1_7 (c : Dev nD) (G) (h : ((dat1 (S c)).toRRel fgt1 (Rl1 (S c))).ArrAt 7 cfg1.N G) : (S c).O7 G := by
  obtain ⟨X, hX, hG⟩ := RDat.ArrAt.emb_eq_of_wholeAt h whole1_7
  have e : G = X := funext fun j => hG j
  subst e
  exact Dat.toRRel_leaves (dat1 (S c)) (fgt := fgt1) (Rl := Rl1 (S c)) (w := 7) rfl hX rfl
theorem whole1_8 : (cfg1.win 8).WholeAt tLast := by decide +kernel
theorem emb1_8 (j) : (cfg1.win 8).arr.view.emb j = j := rfl
theorem out1_8 (c : Dev nD) (G) (h : ((dat1 (S c)).toRRel fgt1 (Rl1 (S c))).ArrAt 8 cfg1.N G) : (S c).O8 G := by
  obtain ⟨X, hX, hG⟩ := RDat.ArrAt.emb_eq_of_wholeAt h whole1_8
  have e : G = X := funext fun j => hG j
  subst e
  exact Dat.toRRel_leaves (dat1 (S c)) (fgt := fgt1) (Rl := Rl1 (S c)) (w := 8) rfl hX rfl
theorem whole1_9 : (cfg1.win 9).WholeAt tLast := by decide +kernel
theorem emb1_9 (j) : (cfg1.win 9).arr.view.emb j = j := rfl
theorem out1_9 (c : Dev nD) (G) (h : ((dat1 (S c)).toRRel fgt1 (Rl1 (S c))).ArrAt 9 cfg1.N G) : (S c).O9 G := by
  obtain ⟨X, hX, hG⟩ := RDat.ArrAt.emb_eq_of_wholeAt h whole1_9
  have e : G = X := funext fun j => hG j
  subst e
  exact Dat.toRRel_leaves (dat1 (S c)) (fgt := fgt1) (Rl := Rl1 (S c)) (w := 9) rfl hX rfl
theorem whole1_10 : (cfg1.win 10).WholeAt tLast := by decide +kernel
theorem emb1_10 (j) : (cfg1.win 10).arr.view.emb j = j := rfl
theorem out1_10 (c : Dev nD) (G) (h : ((dat1 (S c)).toRRel fgt1 (Rl1 (S c))).ArrAt 10 cfg1.N G) : (S c).O10 G := by
  obtain ⟨X, hX, hG⟩ := RDat.ArrAt.emb_eq_of_wholeAt h whole1_10
  have e : G = X := funext fun j => hG j
  subst e
  exact Dat.toRRel_leaves (dat1 (S c)) (fgt := fgt1) (Rl := Rl1 (S c)) (w := 10) rfl hX rfl

/-- The head's arrays as it leaves them, opened. -/
theorem exits1 (c : Dev nD) : ((dat1 (S c)).toRRel fgt1 (Rl1 (S c))).arraysAt cfg1.N
    ⊢ (iprop(∃ A : (w : Fin cfg1.W) → Buf (Elt F) ((cfg1.win w).arr.view.loc (c : Thread nD τ)), ⌜∀ w, ((dat1 (S c)).toRRel fgt1 (Rl1 (S c))).ArrAt w cfg1.N (A w)⌝ ∗ (dat1 (S c)).arrays A) : sProp 𝕄) := by
  unfold RDat.arraysAt Dat.arrays
  refine (BI.bigSep_exists_pi Finset.univ _).trans ?_
  iintro ⟨%A, H⟩
  iexists A
  ihave H' := (BI.bigSep_pure_sep Finset.univ _ _) $$ H
  icases H' with ⟨%hA, H⟩
  isplitr; · ipureintro; exact fun w => hA w (Finset.mem_univ w)
  rw [Dat.toRRel_share]
  iexact H

theorem in1 (c : Dev nD) (w : Fin cfg1.W) (hin : (cfg1.win w).isOut = false) (G) (h : ((dat1 (S c)).toRRel fgt1 (Rl1 (S c))).ArrAt w cfg1.N G) : G = U3 m c (Pipeline.arrRef spec1 w) := by
  rw [RDat.ArrAt_in _ w hin] at h
  exact h.trans (A_eq1 (S c) w)

/-- The head's arrays at contents they may hold are the buffers after it. -/
theorem fin1 (c : Dev nD) (A : (w : Fin cfg1.W) → Buf (Elt F) ((cfg1.win w).arr.view.loc (c : Thread nD τ)))
    (hA : ∀ w, ((dat1 (S c)).toRRel fgt1 (Rl1 (S c))).ArrAt w cfg1.N (A w)) (γ : Γ S c) (hγ : γ.1 = (A 7, A 8, A 9, A 10)) :
    ∀ w : Fin cfg1.W, A w = U4 S c γ (Pipeline.arrRef spec1 w)
  | ⟨0, _⟩ => (in1 S c 0 rfl _ (hA 0)).trans (U4_of S c γ main_v6_2 (by decide)).symm
  | ⟨1, _⟩ => (in1 S c 1 rfl _ (hA 1)).trans (U4_of S c γ main_v0 (by decide)).symm
  | ⟨2, _⟩ => (in1 S c 2 rfl _ (hA 2)).trans (U4_of S c γ main_v7 (by decide)).symm
  | ⟨3, _⟩ => (in1 S c 3 rfl _ (hA 3)).trans (U4_of S c γ main_v6_3 (by decide)).symm
  | ⟨4, _⟩ => (in1 S c 4 rfl _ (hA 4)).trans (U4_of S c γ main_v6_4 (by decide)).symm
  | ⟨5, _⟩ => (in1 S c 5 rfl _ (hA 5)).trans (U4_of S c γ main_v6_5 (by decide)).symm
  | ⟨6, _⟩ => (in1 S c 6 rfl _ (hA 6)).trans (U4_of S c γ main_v4 (by decide)).symm
  | ⟨7, _⟩ => ((U4_main_v8_0 S c γ).trans (by rw [hγ]; rfl)).symm
  | ⟨8, _⟩ => ((U4_main_v8_1 S c γ).trans (by rw [hγ]; rfl)).symm
  | ⟨9, _⟩ => ((U4_main_v8_2 S c γ).trans (by rw [hγ]; rfl)).symm
  | ⟨10, _⟩ => ((U4_main_v8_3 S c γ).trans (by rw [hγ]; rfl)).symm

set_option backward.isDefEq.respectTransparency.types false in
theorem join1 (c : Dev nD) (A : (w : Fin cfg1.W) → Buf (Elt F) ((cfg1.win w).arr.view.loc (c : Thread nD τ)))
    (hA : ∀ w, ((dat1 (S c)).toRRel fgt1 (Rl1 (S c))).ArrAt w cfg1.N (A w)) :
    iprop((dat1 (S c)).arrays A ∗ Pipeline.unscopedRest spec1 c (fun b => U3 m c b)) ⊢ (StableHlo.held (c : Thread nD τ) (Pipeline.ucRefs τ sig)
      (U4 S c ⟨(A 7, A 8, A 9, A 10), out1_7 S c _ (hA 7), out1_8 S c _ (hA 8), out1_9 S c _ (hA 9), out1_10 S c _ (hA 10)⟩) : sProp 𝕄) := by
  have hjoin := Pipeline.unscopedBufs_of_arrays (p := 1) (pcfgs (F := F)) adm (Ix := Unit) (Name := ℕ) (U := UU nD τ) (Lvl := ℕ) launch1.win launch1.arr_whole c
      (pdats S) ((pdats S 1 c).share_full fun _ => rfl) (fun b => U3 m c b)
      (fun b => U4 S c ⟨(A 7, A 8, A 9, A 10), out1_7 S c _ (hA 7), out1_8 S c _ (hA 8), out1_9 S c _ (hA 9), out1_10 S c _ (hA 10)⟩ b) A (fin1 S c A hA _ rfl)
      (fun b hb => U4_of S c _ b (fun h => hb (sub1 b h)))
  rw [Pipeline.unscopedBufs_held] at hjoin
  exact hjoin

set_option backward.isDefEq.respectTransparency.types false in
/-- The head's region as a segment. -/
def reg1 : RDat.RegionSeg (pcfgs (F := F)) adm (rdats S) () defs₀ 𝒱₀ L lv 1 where
  win := launch1.win.to₀
  block_pos := launch1.block_pos
  stage_whole := launch1.stage_whole
  K := PEmpty
  osem k := k.elim
  ho := Pipeline.OwnSemFacts.none _
  hbody c := (body1 (S c)).toRRel
  hwaits := RDat.hwaits_of_owed_zero _ _ _ _ L lv 1 fun _ _ => rfl
  pre c := iprop(StableHlo.held (c : Thread nD τ) (Pipeline.ucRefs τ sig) (U3 m c) ∗ R c)
  post c := iprop((∃ γ, StableHlo.held (c : Thread nD τ) (Pipeline.ucRefs τ sig) (U4 S c γ)) ∗ R c)
  X _ := iprop(emp)
  Y _ := iprop(emp)
  Z c := Pipeline.unscopedRest spec1 c (fun b => U3 m c b)
  hentry c := by
    rw [Pipeline.ownSems0_none]
    have hsplit := RDat.arrays_of_unscopedBufs (p := 1) (pcfgs (F := F)) adm (rdats S) launch1.win launch1.arr_whole c
      ((pdats S 1 c).share_full fun _ => rfl) (fun b => U3 m c b) (A_eq1 (S c))
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats S 1 c).Φ 0 = Phi1 (S c) 0 from rfl]
    refine BIBase.Entails.trans ?_ (Phi1_in S c)
    iintro ⟨-, -, Hr⟩; iexact Hr
  hout c := by
    rw [Pipeline.ownSems0_none]
    change Phi1 (S c) cfg1.N ⊢ _
    refine (Phi1_out S c _).trans ?_
    iintro Hr
    isplitr; · iempintro
    isplitr; · iempintro
    iexact Hr
  hexit c := by
    have hex : (rdats S 1 c).arraysAt cfg1.N ⊢ (iprop(∃ A : (w : Fin cfg1.W) → Buf (Elt F) ((cfg1.win w).arr.view.loc (c : Thread nD τ)), ⌜∀ w, ((dat1 (S c)).toRRel fgt1 (Rl1 (S c))).ArrAt w cfg1.N (A w)⌝ ∗ (dat1 (S c)).arrays A) : sProp 𝕄) := exits1 S c
    iintro ⟨Ha, HO, -, HZ⟩
    ihave Ha := hex $$ Ha
    icases Ha with ⟨%A, %hA, Ha⟩
    imodintro
    isplitr [HO]
    · iexists (⟨(A 7, A 8, A 9, A 10), out1_7 S c _ (hA 7), out1_8 S c _ (hA 8), out1_9 S c _ (hA 9), out1_10 S c _ (hA 10)⟩ : Γ S c)
      iapply (join1 S c A hA)
      isplitl [Ha]; · iexact Ha
      iexact HZ
    · unfold RDat.owesAt Pipeline.owesWithin
      icases HO with ⟨%W, -, HO⟩; iexists W; iexact HO

/-- @main as its segments. -/
abbrev segs (c : Dev nD) : List (RDat.Seg (pcfgs (F := F)) adm (rdats S) () defs₀ 𝒱₀ L lv) :=
  [.host (hseg0 (m := m)), .region (reg0 S), .host (hseg1 (m := m)), .region (reg1 S), .host (hseg2 S)]

abbrev EP : Emb (URounds (GSem nD τ sig) Unit) 𝕄 := emb₁

set_option backward.isDefEq.respectTransparency.types false in
/-- Every run of @main ends, with every counter at zero and every unscoped buffer at what the segments compute, the head's four results
    being some contents that meet the account. -/
theorem run (ρ : Dev nD → PrngReg) : θ_run defs (onTc (τ := τ) (main (F := F))) ⟨m, fun _ => 0, ρ⟩
    (fun r => (∀ c : Dev nD, ∃ γ : Γ S c, ∀ b ∈ Pipeline.ucRefs τ sig, r.2.mem ((c : Thread nD τ).1, b) = U5 S c γ b) ∧ r.2.sem = fun _ => 0) := by
  refine RDat.θ_run_regions_kit_dev_sems (pcfgs (F := F)) adm (rdats S) () cellOf_inj EP defs₀ 𝒱₀ L lv m ρ main (segs S)
    (fun c Q => by
      rewrite [main_chain c, RDat.Seg.run_eq_chain,
        show (segs S c).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide) (O₀ := 0) (fun _ _ => rfl)
    (G := fun _ => iprop(emp)) (u₀ := initOf (Pipeline.cells cfgs cellOf_inj) (Pipeline.launchToks cfgs cellOf_inj))
    (by
      iintro Hu
      imodintro
      isplitl [Hu]
      · iapply (show (ownU (initOf (Pipeline.cells cfgs cellOf_inj) (Pipeline.launchToks cfgs cellOf_inj)) : sProp 𝕄) ⊢ BI.own (EP (initOf (Pipeline.cells (Pipeline.pin (pcfgs (F := F)) adm) cellOf_inj) (Pipeline.launchToks (Pipeline.pin (pcfgs (F := F)) adm) cellOf_inj))) from BIBase.Entails.of_eq (ownU_emb₁ _))
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(∃ γ, StableHlo.held (c : Thread nD τ) (Pipeline.ucRefs τ sig) (U5 S c γ)))
    (hch := fun c => ⟨.rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∃ γ : Γ S c, ∀ b ∈ Pipeline.ucRefs τ sig, s.mem ((c : Thread nD τ).1, b) = U5 S c γ b)
    (hfin := fun c s' => ?_) (hQ := fun _ h hz => ⟨h, funext fun g => hz g (.inr (regions_no_unscoped g.2))⟩)
  unfold StableHlo.held
  iintro ⟨⟨%γ, Hh⟩, HSI⟩
  ihave Hr := (pointsTo_read_all (Pipeline.ucRefs τ sig) (fun b => ((c : Thread nD τ).1, b)) (U5 S c γ) s') $$ [Hh HSI]
  · isplitl [Hh] <;> iassumption
  icases Hr with ⟨%h, HSI⟩
  imodintro
  isplitr; · ipureintro; exact ⟨γ, h⟩
  iexact HSI

theorem uc_mem (r : Ref sig .tc) (h : ¬ (Proc.devRef (τ := τ) .tc r).isScoped) : (Proc.devRef .tc r : DevRef τ sig) ∈ Pipeline.ucRefs τ sig :=
  Finset.mem_filter.mpr ⟨StableHlo.devRef_mem_tcRefs r, h⟩

/-- An argument reaches the end as launched. -/
theorem U5_arg (c : Dev nD) (γ : Γ S c) (r : Ref sig .tc) (h0 : r ∉ hostOps0_W) (h1 : r ∉ ([main_v6_0, main_v6_1, main_v6_2, main_v6_3, main_v6_4, main_v6_5] : List (Ref sig .tc)))
    (h2 : r ∉ hostOps1_W) (h3 : r ∉ ([main_v8_0, main_v8_1, main_v8_2, main_v8_3] : List (Ref sig .tc))) (h4 : r ∉ hostOps2_W) :
    U5 S c γ r = m ((c : Thread nD τ).loc r) :=
  (U5_of S c γ r h4).trans <| (U4_of S c γ r h3).trans <| (U3_of c r h2).trans <| (U2_of c r h1).trans <| (V1_of m c r h0).trans rfl

/-- The frame: every argument as launched and every counter at zero. -/
theorem frame_run (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    obtain ⟨γ, hγ⟩ := h.1 c
    exact ⟨(hγ _ (uc_mem main_arg0 (by decide))).trans (U5_arg _ c γ main_arg0 (by decide) (by decide) (by decide) (by decide) (by decide)), (hγ _ (uc_mem main_arg1 (by decide))).trans (U5_arg _ c γ main_arg1 (by decide) (by decide) (by decide) (by decide) (by decide)), (hγ _ (uc_mem main_arg2 (by decide))).trans (U5_arg _ c γ main_arg2 (by decide) (by decide) (by decide) (by decide) (by decide)), (hγ _ (uc_mem main_arg3 (by decide))).trans (U5_arg _ c γ main_arg3 (by decide) (by decide) (by decide) (by decide) (by decide)), (hγ _ (uc_mem main_arg4 (by decide))).trans (U5_arg _ c γ main_arg4 (by decide) (by decide) (by decide) (by decide) (by decide))⟩, h.2⟩) (run (fun c => HeadSpec.trivial m c) ρ)

end Cert.KernelIdeal.Own

end
-- ==== Proof.Val.HeadRun.lean ====
module

public import proofs.«01_k».proof.Proof.Ideal.Triples
public import Idealize.ShloMosaic.Lib.Pipeline.ReadBack
public import Idealize.ShloMosaic.Lib.Pointwise

@[expose] public section

set_option maxRecDepth 16384

noncomputable section

namespace Cert.KernelIdeal.Val

open Cert.KernelIdeal Cert.KernelIdeal.Gen Cert.KernelIdeal.Own Idealize Idealize.ShloMosaic

variable {F : FTy → Type} [FloatOps F]

/-- Chunk `k` of 128 columns of a tile of logits. -/
def chunk (Z : FVec F S256x2048 .f32) (k : ℕ) : FVec F S256x128 .f32 := fun j => Z (ix2 (j 0) (⟨(128 * k + (j 1).val) % 2048, Nat.mod_lt _ (by decide)⟩ : Fin 2048))

theorem ld_chunk (Z : FVec F S256x2048 .f32) (k o : ℕ) (h : o = 128 * k) (inb : ∀ a, (![0, o] : Fin 2 → ℕ) a + S256x128.size a ≤ S256x2048.size a) :
    View.ld (S := S256x2048) (Val := Elt F) (e' := .f32) Z (Rect.unit ![0, o] S256x128.size inb) = chunk Z k := by
  subst h
  funext j
  have h1 := inb 1
  have h2 : (j 1).val < 128 := (j 1).isLt
  refine congrArg Z (funext fun a => Fin.ext ?_)
  match a with
  | ⟨0, _⟩ => show 0 + 1 * (j 0).val = (j 0).val; omega
  | ⟨1, _⟩ =>
    show 128 * k + 1 * (j 1).val = (128 * k + (j 1).val) % 2048
    have h3 : 128 * k + 128 ≤ 2048 := h1
    rw [Nat.mod_eq_of_lt (by omega)]; omega

/-- A chunk with the masked columns and those past the vocabulary's end at minus infinity. -/
def deadV (t bit off : BitVec 32) (mask : IVec S256x128 32) (z : FVec F S256x128 .f32) : FVec F S256x128 .f32 :=
  select (ori (cmpi .ne (andi mask (broadcast S256x128 bit)) (broadcast S256x128 0#32))
      (cmpi .sge (addi (iota .tc S256x128 32 [1] iota_S256x128_d1_w32) (broadcast S256x128 (Scalar.addi (Scalar.muli t 2048#32) off))) (broadcast S256x128 151936#32)))
    (broadcast S256x128 (Scalar.ofBits .f32 0xFF800000#32)) z

/-- The gathered logits after a chunk. -/
def gatV (t k : BitVec 32) (lane hi : IVec S256x128 32) (z zs : FVec F S256x128 .f32) : FVec F S256x128 .f32 :=
  select (cmpi .eq hi (broadcast S256x128 (Scalar.addi (Scalar.muli t 16#32) k)))
    (dynamicGather 1 z (shapeCast S256x128 (shapeCast S256x128x1 (select (cmpi .slt lane (broadcast S256x128 0#32)) (addi lane (broadcast S256x128 128#32)) lane)
      shapeCasts_S256x128_S256x128x1) shapeCasts_S256x128x1_S256x128)) zs

/-- Chunk `k` of a tile, masked. -/
def dk (t : BitVec 32) (mask : IVec S256x128 32) (Z : FVec F S256x2048 .f32) (k : ℕ) : FVec F S256x128 .f32 :=
  deadV t (BitVec.ofNat 32 (2 ^ k)) (BitVec.ofNat 32 (128 * k)) mask (chunk Z k)

/-- The running maximum after `k` chunks. -/
def mF (t : BitVec 32) (mask : IVec S256x128 32) (Z : FVec F S256x2048 .f32) (m : FVec F S256x128 .f32) : ℕ → FVec F S256x128 .f32
  | 0 => m
  | k + 1 => maximumf (mF t mask Z m k) (dk t mask Z k)

/-- The gathered logits after `k` chunks. -/
def gF (t : BitVec 32) (lane hi : IVec S256x128 32) (Z : FVec F S256x2048 .f32) (zs : FVec F S256x128 .f32) : ℕ → FVec F S256x128 .f32
  | 0 => zs
  | k + 1 => gatV t (BitVec.ofNat 32 k) lane hi (chunk Z k) (gF t lane hi Z zs k)

/-- The running sum after `k` chunks, at the new maximum `m'`. -/
def lF (t : BitVec 32) (mask : IVec S256x128 32) (Z : FVec F S256x2048 .f32) (m m' l : FVec F S256x128 .f32) : ℕ → FVec F S256x128 .f32
  | 0 => mulf l (exp (subf m m'))
  | k + 1 => addf (lF t mask Z m m' l k) (exp (subf (dk t mask Z k) m'))

variable (c : Dev nD) (i : grid1.Coords) (arg1 : Memref sig .tc .vmem S256x1536 .bf16) (arg2 : Memref sig .tc .vmem S2048x1536 .fp8e4m3)
  (arg3 : Memref sig .tc .vmem S12x2048 .f32) (arg4 : Memref sig .tc .vmem S1x256x128 .i32) (arg5 : Memref sig .tc .vmem S256x128 .i32)
  (arg6 : Memref sig .tc .vmem S256x128 .i32) (arg12 : Memref sig .tc .vmem S2048x1536 .bf16) (arg13 : Memref sig .tc .vmem S256x2048 .f32)
  (arg14 arg15 arg16 : Memref sig .tc .vmem S256x128 .f32)
  (f1 : Bf (F := F) c arg1) (f2 : Bf (F := F) c arg2) (f3 : Bf (F := F) c arg3) (f4 : Bf (F := F) c arg4) (f5 : Bf (F := F) c arg5) (f6 : Bf (F := F) c arg6)
  (f14 : Bf (F := F) c arg14) (f15 : Bf (F := F) c arg15) (f16 : Bf (F := F) c arg16)

/-- The tile's logits, as the body computes them. -/
def zM : FVec F S256x2048 .f32 := k1_pay31 (View.readAt (Elt F) arg1.view (Rect.unit ![0, 0] S256x1536.size inb_S256x1536_S256x1536_0_0).toLoadRect f1)
  (headMid.sl.v142 c arg2 arg3 arg12 f2 f3)

theorem v152_eq : headMid.sl.v152 c arg1 arg2 arg3 arg12 arg13 f1 f2 f3 = chunk (zM c arg1 arg2 arg3 arg12 f1 f2 f3) 0 := by
  unfold headMid.sl.v152 headMid.sl.H13_1
  rw [View.readCov_fill _ _ _ _ _ (by decide)]
  exact ld_chunk _ 0 _ rfl _

theorem v187_eq : headMid.sl.v187 c i arg1 arg2 arg3 arg4 arg12 arg13 f1 f2 f3 f4 = chunk (zM c arg1 arg2 arg3 arg12 f1 f2 f3) 1 := by
  unfold headMid.sl.v187 headMid.sl.H13_2 headMid.sl.H13_1
  rw [View.readCov_skip _ _ _ _ _ (by decide), View.readCov_fill _ _ _ _ _ (by decide)]
  exact ld_chunk _ 1 _ rfl _

theorem v222_eq : headMid.sl.v222 c i arg1 arg2 arg3 arg4 arg12 arg13 f1 f2 f3 f4 = chunk (zM c arg1 arg2 arg3 arg12 f1 f2 f3) 2 := by
  unfold headMid.sl.v222 headMid.sl.H13_3 headMid.sl.H13_2 headMid.sl.H13_1
  rw [View.readCov_skip _ _ _ _ _ (by decide), View.readCov_skip _ _ _ _ _ (by decide), View.readCov_fill _ _ _ _ _ (by decide)]
  exact ld_chunk _ 2 _ rfl _

theorem v257_eq : headMid.sl.v257 c i arg1 arg2 arg3 arg4 arg12 arg13 f1 f2 f3 f4 = chunk (zM c arg1 arg2 arg3 arg12 f1 f2 f3) 3 := by
  unfold headMid.sl.v257 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_fill _ _ _ _ _ (by decide)]
  exact ld_chunk _ 3 _ rfl _

theorem v292_eq : headMid.sl.v292 c i arg1 arg2 arg3 arg4 arg12 arg13 f1 f2 f3 f4 = chunk (zM c arg1 arg2 arg3 arg12 f1 f2 f3) 4 := by
  unfold headMid.sl.v292 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 4 _ rfl _

theorem v327_eq : headMid.sl.v327 c i arg1 arg2 arg3 arg4 arg12 arg13 f1 f2 f3 f4 = chunk (zM c arg1 arg2 arg3 arg12 f1 f2 f3) 5 := by
  unfold headMid.sl.v327 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 5 _ rfl _

theorem v362_eq : headMid.sl.v362 c i arg1 arg2 arg3 arg4 arg12 arg13 f1 f2 f3 f4 = chunk (zM c arg1 arg2 arg3 arg12 f1 f2 f3) 6 := by
  unfold headMid.sl.v362 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 6 _ rfl _

theorem v397_eq : headMid.sl.v397 c i arg1 arg2 arg3 arg4 arg12 arg13 f1 f2 f3 f4 = chunk (zM c arg1 arg2 arg3 arg12 f1 f2 f3) 7 := by
  unfold headMid.sl.v397 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 7 _ rfl _

theorem v432_eq : headMid.sl.v432 c i arg1 arg2 arg3 arg4 arg12 arg13 f1 f2 f3 f4 = chunk (zM c arg1 arg2 arg3 arg12 f1 f2 f3) 8 := by
  unfold headMid.sl.v432 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 8 _ rfl _

theorem v467_eq : headMid.sl.v467 c i arg1 arg2 arg3 arg4 arg12 arg13 f1 f2 f3 f4 = chunk (zM c arg1 arg2 arg3 arg12 f1 f2 f3) 9 := by
  unfold headMid.sl.v467 headMid.sl.H13_10 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 9 _ rfl _

theorem v502_eq : headMid.sl.v502 c i arg1 arg2 arg3 arg4 arg12 arg13 f1 f2 f3 f4 = chunk (zM c arg1 arg2 arg3 arg12 f1 f2 f3) 10 := by
  unfold headMid.sl.v502 headMid.sl.H13_11 headMid.sl.H13_10 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 10 _ rfl _

theorem v537_eq : headMid.sl.v537 c i arg1 arg2 arg3 arg4 arg12 arg13 f1 f2 f3 f4 = chunk (zM c arg1 arg2 arg3 arg12 f1 f2 f3) 11 := by
  unfold headMid.sl.v537 headMid.sl.H13_12 headMid.sl.H13_11 headMid.sl.H13_10 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 11 _ rfl _

theorem v572_eq : headMid.sl.v572 c i arg1 arg2 arg3 arg4 arg12 arg13 f1 f2 f3 f4 = chunk (zM c arg1 arg2 arg3 arg12 f1 f2 f3) 12 := by
  unfold headMid.sl.v572 headMid.sl.H13_13 headMid.sl.H13_12 headMid.sl.H13_11 headMid.sl.H13_10 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 12 _ rfl _

theorem v607_eq : headMid.sl.v607 c i arg1 arg2 arg3 arg4 arg12 arg13 f1 f2 f3 f4 = chunk (zM c arg1 arg2 arg3 arg12 f1 f2 f3) 13 := by
  unfold headMid.sl.v607 headMid.sl.H13_14 headMid.sl.H13_13 headMid.sl.H13_12 headMid.sl.H13_11 headMid.sl.H13_10 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 13 _ rfl _

theorem v642_eq : headMid.sl.v642 c i arg1 arg2 arg3 arg4 arg12 arg13 f1 f2 f3 f4 = chunk (zM c arg1 arg2 arg3 arg12 f1 f2 f3) 14 := by
  unfold headMid.sl.v642 headMid.sl.H13_15 headMid.sl.H13_14 headMid.sl.H13_13 headMid.sl.H13_12 headMid.sl.H13_11 headMid.sl.H13_10 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 14 _ rfl _

theorem v677_eq : headMid.sl.v677 c i arg1 arg2 arg3 arg4 arg12 arg13 f1 f2 f3 f4 = chunk (zM c arg1 arg2 arg3 arg12 f1 f2 f3) 15 := by
  unfold headMid.sl.v677 headMid.sl.H13_16 headMid.sl.H13_15 headMid.sl.H13_14 headMid.sl.H13_13 headMid.sl.H13_12 headMid.sl.H13_11 headMid.sl.H13_10 headMid.sl.H13_9 headMid.sl.H13_8 headMid.sl.H13_7 headMid.sl.H13_6 headMid.sl.H13_5 headMid.sl.H13_4 headMid.sl.H13_3 headMid.sl.H13_2 headMid.sl.H13_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_chunk _ 15 _ rfl _

theorem v719_eq : headMid.sl.v719 c i arg1 arg2 arg3 arg4 arg12 arg13 f1 f2 f3 f4 = dk (BitVec.ofNat 32 (i 0).val) (headMid.sl.r_5 c arg4 f4) (zM c arg1 arg2 arg3 arg12 f1 f2 f3) 0 := by
  unfold headMid.sl.v719 headMid.sl.H13_17 headMid.sl.H13_16 headMid.sl.H13_15 headMid.sl.H13_14 headMid.sl.H13_13 headMid.sl.H13_12 headMid.sl.H13_11 headMid.sl.H13_10 headMid.sl.H13_9 headMid.sl.H13_8 headMid.sl.H13_7 headMid.sl.H13_6 headMid.sl.H13_5 headMid.sl.H13_4 headMid.sl.H13_3 headMid.sl.H13_2
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v152_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v723_eq : headMid.sl.v723 c i arg1 arg2 arg3 arg4 arg12 arg13 f1 f2 f3 f4 = dk (BitVec.ofNat 32 (i 0).val) (headMid.sl.r_5 c arg4 f4) (zM c arg1 arg2 arg3 arg12 f1 f2 f3) 1 := by
  unfold headMid.sl.v723 headMid.sl.H13_17 headMid.sl.H13_16 headMid.sl.H13_15 headMid.sl.H13_14 headMid.sl.H13_13 headMid.sl.H13_12 headMid.sl.H13_11 headMid.sl.H13_10 headMid.sl.H13_9 headMid.sl.H13_8 headMid.sl.H13_7 headMid.sl.H13_6 headMid.sl.H13_5 headMid.sl.H13_4 headMid.sl.H13_3
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v187_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v727_eq : headMid.sl.v727 c i arg1 arg2 arg3 arg4 arg12 arg13 f1 f2 f3 f4 = dk (BitVec.ofNat 32 (i 0).val) (headMid.sl.r_5 c arg4 f4) (zM c arg1 arg2 arg3 arg12 f1 f2 f3) 2 := by
  unfold headMid.sl.v727 headMid.sl.H13_17 headMid.sl.H13_16 headMid.sl.H13_15 headMid.sl.H13_14 headMid.sl.H13_13 headMid.sl.H13_12 headMid.sl.H13_11 headMid.sl.H13_10 headMid.sl.H13_9 headMid.sl.H13_8 headMid.sl.H13_7 headMid.sl.H13_6 headMid.sl.H13_5 headMid.sl.H13_4
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v222_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v731_eq : headMid.sl.v731 c i arg1 arg2 arg3 arg4 arg12 arg13 f1 f2 f3 f4 = dk (BitVec.ofNat 32 (i 0).val) (headMid.sl.r_5 c arg4 f4) (zM c arg1 arg2 arg3 arg12 f1 f2 f3) 3 := by
  unfold headMid.sl.v731 headMid.sl.H13_17 headMid.sl.H13_16 headMid.sl.H13_15 headMid.sl.H13_14 headMid.sl.H13_13 headMid.sl.H13_12 headMid.sl.H13_11 headMid.sl.H13_10 headMid.sl.H13_9 headMid.sl.H13_8 headMid.sl.H13_7 headMid.sl.H13_6 headMid.sl.H13_5
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v257_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v735_eq : headMid.sl.v735 c i arg1 arg2 arg3 arg4 arg12 arg13 f1 f2 f3 f4 = dk (BitVec.ofNat 32 (i 0).val) (headMid.sl.r_5 c arg4 f4) (zM c arg1 arg2 arg3 arg12 f1 f2 f3) 4 := by
  unfold headMid.sl.v735 headMid.sl.H13_17 headMid.sl.H13_16 headMid.sl.H13_15 headMid.sl.H13_14 headMid.sl.H13_13 headMid.sl.H13_12 headMid.sl.H13_11 headMid.sl.H13_10 headMid.sl.H13_9 headMid.sl.H13_8 headMid.sl.H13_7 headMid.sl.H13_6
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v292_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v739_eq : headMid.sl.v739 c i arg1 arg2 arg3 arg4 arg12 arg13 f1 f2 f3 f4 = dk (BitVec.ofNat 32 (i 0).val) (headMid.sl.r_5 c arg4 f4) (zM c arg1 arg2 arg3 arg12 f1 f2 f3) 5 := by
  unfold headMid.sl.v739 headMid.sl.H13_17 headMid.sl.H13_16 headMid.sl.H13_15 headMid.sl.H13_14 headMid.sl.H13_13 headMid.sl.H13_12 headMid.sl.H13_11 headMid.sl.H13_10 headMid.sl.H13_9 headMid.sl.H13_8 headMid.sl.H13_7
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v327_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v743_eq : headMid.sl.v743 c i arg1 arg2 arg3 arg4 arg12 arg13 f1 f2 f3 f4 = dk (BitVec.ofNat 32 (i 0).val) (headMid.sl.r_5 c arg4 f4) (zM c arg1 arg2 arg3 arg12 f1 f2 f3) 6 := by
  unfold headMid.sl.v743 headMid.sl.H13_17 headMid.sl.H13_16 headMid.sl.H13_15 headMid.sl.H13_14 headMid.sl.H13_13 headMid.sl.H13_12 headMid.sl.H13_11 headMid.sl.H13_10 headMid.sl.H13_9 headMid.sl.H13_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v362_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v747_eq : headMid.sl.v747 c i arg1 arg2 arg3 arg4 arg12 arg13 f1 f2 f3 f4 = dk (BitVec.ofNat 32 (i 0).val) (headMid.sl.r_5 c arg4 f4) (zM c arg1 arg2 arg3 arg12 f1 f2 f3) 7 := by
  unfold headMid.sl.v747 headMid.sl.H13_17 headMid.sl.H13_16 headMid.sl.H13_15 headMid.sl.H13_14 headMid.sl.H13_13 headMid.sl.H13_12 headMid.sl.H13_11 headMid.sl.H13_10 headMid.sl.H13_9
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v751_eq : headMid.sl.v751 c i arg1 arg2 arg3 arg4 arg12 arg13 f1 f2 f3 f4 = dk (BitVec.ofNat 32 (i 0).val) (headMid.sl.r_5 c arg4 f4) (zM c arg1 arg2 arg3 arg12 f1 f2 f3) 8 := by
  unfold headMid.sl.v751 headMid.sl.H13_17 headMid.sl.H13_16 headMid.sl.H13_15 headMid.sl.H13_14 headMid.sl.H13_13 headMid.sl.H13_12 headMid.sl.H13_11 headMid.sl.H13_10
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v432_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v755_eq : headMid.sl.v755 c i arg1 arg2 arg3 arg4 arg12 arg13 f1 f2 f3 f4 = dk (BitVec.ofNat 32 (i 0).val) (headMid.sl.r_5 c arg4 f4) (zM c arg1 arg2 arg3 arg12 f1 f2 f3) 9 := by
  unfold headMid.sl.v755 headMid.sl.H13_17 headMid.sl.H13_16 headMid.sl.H13_15 headMid.sl.H13_14 headMid.sl.H13_13 headMid.sl.H13_12 headMid.sl.H13_11
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v467_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v759_eq : headMid.sl.v759 c i arg1 arg2 arg3 arg4 arg12 arg13 f1 f2 f3 f4 = dk (BitVec.ofNat 32 (i 0).val) (headMid.sl.r_5 c arg4 f4) (zM c arg1 arg2 arg3 arg12 f1 f2 f3) 10 := by
  unfold headMid.sl.v759 headMid.sl.H13_17 headMid.sl.H13_16 headMid.sl.H13_15 headMid.sl.H13_14 headMid.sl.H13_13 headMid.sl.H13_12
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, v502_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v763_eq : headMid.sl.v763 c i arg1 arg2 arg3 arg4 arg12 arg13 f1 f2 f3 f4 = dk (BitVec.ofNat 32 (i 0).val) (headMid.sl.r_5 c arg4 f4) (zM c arg1 arg2 arg3 arg12 f1 f2 f3) 11 := by
  unfold headMid.sl.v763 headMid.sl.H13_17 headMid.sl.H13_16 headMid.sl.H13_15 headMid.sl.H13_14 headMid.sl.H13_13
  rw [View.readCov_skip _ _ _ _ _ (by decide), View.readCov_skip _ _ _ _ _ (by decide), View.readCov_skip _ _ _ _ _ (by decide), View.readCov_skip _ _ _ _ _ (by decide), View.readCov_cons_toLoadRect, v537_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v767_eq : headMid.sl.v767 c i arg1 arg2 arg3 arg4 arg12 arg13 f1 f2 f3 f4 = dk (BitVec.ofNat 32 (i 0).val) (headMid.sl.r_5 c arg4 f4) (zM c arg1 arg2 arg3 arg12 f1 f2 f3) 12 := by
  unfold headMid.sl.v767 headMid.sl.H13_17 headMid.sl.H13_16 headMid.sl.H13_15 headMid.sl.H13_14
  rw [View.readCov_skip _ _ _ _ _ (by decide), View.readCov_skip _ _ _ _ _ (by decide), View.readCov_skip _ _ _ _ _ (by decide), View.readCov_cons_toLoadRect, v572_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v771_eq : headMid.sl.v771 c i arg1 arg2 arg3 arg4 arg12 arg13 f1 f2 f3 f4 = dk (BitVec.ofNat 32 (i 0).val) (headMid.sl.r_5 c arg4 f4) (zM c arg1 arg2 arg3 arg12 f1 f2 f3) 13 := by
  unfold headMid.sl.v771 headMid.sl.H13_17 headMid.sl.H13_16 headMid.sl.H13_15
  rw [View.readCov_skip _ _ _ _ _ (by decide), View.readCov_skip _ _ _ _ _ (by decide), View.readCov_cons_toLoadRect, v607_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v775_eq : headMid.sl.v775 c i arg1 arg2 arg3 arg4 arg12 arg13 f1 f2 f3 f4 = dk (BitVec.ofNat 32 (i 0).val) (headMid.sl.r_5 c arg4 f4) (zM c arg1 arg2 arg3 arg12 f1 f2 f3) 14 := by
  unfold headMid.sl.v775 headMid.sl.H13_17 headMid.sl.H13_16
  rw [View.readCov_skip _ _ _ _ _ (by decide), View.readCov_cons_toLoadRect, v642_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem v779_eq : headMid.sl.v779 c i arg1 arg2 arg3 arg4 arg12 arg13 f1 f2 f3 f4 = dk (BitVec.ofNat 32 (i 0).val) (headMid.sl.r_5 c arg4 f4) (zM c arg1 arg2 arg3 arg12 f1 f2 f3) 15 := by
  unfold headMid.sl.v779 headMid.sl.H13_17
  rw [View.readCov_cons_toLoadRect, v677_eq]
  simp only [headMid.sl.r_24, headMid.sl.r_27, headMid.sl.r_28, headMid.sl.r_31, headMid.sl.r_51, v397_eq, k1_pay34, k1_pay35, k1_pay41, k1_pay42, k1_pay46, k1_pay47, k1_pay51, k1_pay52, k1_pay55, k1_pay56, k1_pay57, k1_pay60, k1_pay61, k1_pay62, k1_pay65, k1_pay66, k1_pay67, k1_pay68, k1_pay69, k1_pay72, k1_pay73, k1_pay75, k1_pay76, k1_pay79, k1_pay80, k1_pay83, k1_pay84, k1_pay90, k1_pay91, k1_pay95, k1_pay96, k1_pay100, k1_pay101, k1_pay104, k1_pay105, k1_pay106, k1_pay109, k1_pay110, k1_pay111, shapeCast_self]
  rfl

theorem r52_eq : headMid.sl.r_52 c i arg1 arg2 arg3 arg4 arg12 arg13 arg14 f1 f2 f3 f4 f14
    = mF (BitVec.ofNat 32 (i 0).val) (headMid.sl.r_5 c arg4 f4) (zM c arg1 arg2 arg3 arg12 f1 f2 f3) (headMid.sl.r_6 c arg14 f14) 16 := by
  simp only [headMid.sl.r_52, headMid.sl.r_51, headMid.sl.r_49, headMid.sl.r_47, headMid.sl.r_44, headMid.sl.r_41, headMid.sl.r_37, headMid.sl.r_35, headMid.sl.r_33, headMid.sl.r_31, headMid.sl.r_29, headMid.sl.r_28, headMid.sl.r_27, headMid.sl.r_25, headMid.sl.r_24, headMid.sl.r_22, headMid.sl.r_20, headMid.sl.r_17, headMid.sl.r_14, headMid.sl.r_10, v152_eq, v187_eq, v222_eq, v257_eq, v292_eq, v327_eq, v362_eq, v397_eq, v432_eq, v467_eq, v502_eq, v537_eq, v572_eq, v607_eq, v642_eq, v677_eq, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, shapeCast_self]
  rfl

theorem r50_eq : headMid.sl.r_50 c i arg1 arg2 arg3 arg4 arg5 arg6 arg12 arg13 arg16 f1 f2 f3 f4 f5 f6 f16
    = gF (BitVec.ofNat 32 (i 0).val) (headMid.sl.r_8 c arg5 f5) (View.readAt (Elt F) arg6.view (Rect.unit ![0, 0] S256x128.size inb_S256x128_S256x128_0_0).toLoadRect f6)
        (zM c arg1 arg2 arg3 arg12 f1 f2 f3) (headMid.sl.r_7 c arg16 f16) 16 := by
  simp only [headMid.sl.r_50, headMid.sl.r_48, headMid.sl.r_46, headMid.sl.r_45, headMid.sl.r_43, headMid.sl.r_42, headMid.sl.r_40, headMid.sl.r_39, headMid.sl.r_38, headMid.sl.r_36, headMid.sl.r_34, headMid.sl.r_32, headMid.sl.r_30, headMid.sl.r_26, headMid.sl.r_23, headMid.sl.r_21, headMid.sl.r_19, headMid.sl.r_18, headMid.sl.r_16, headMid.sl.r_15, headMid.sl.r_13, headMid.sl.r_12, headMid.sl.r_11, headMid.sl.r_9, v152_eq, v187_eq, v222_eq, v257_eq, v292_eq, v327_eq, v362_eq, v397_eq, v432_eq, v467_eq, v502_eq, v537_eq, v572_eq, v607_eq, v642_eq, v677_eq, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, shapeCast_self]
  rfl

theorem lsum_eq : k1_pay1 (headMid.sl.r_52 c i arg1 arg2 arg3 arg4 arg12 arg13 arg14 f1 f2 f3 f4 f14)
      (headMid.sl.r_54 c i arg1 arg2 arg3 arg4 arg12 arg13 arg14 arg15 f1 f2 f3 f4 f14 f15) (headMid.sl.v779 c i arg1 arg2 arg3 arg4 arg12 arg13 f1 f2 f3 f4)
    = lF (BitVec.ofNat 32 (i 0).val) (headMid.sl.r_5 c arg4 f4) (zM c arg1 arg2 arg3 arg12 f1 f2 f3) (headMid.sl.r_6 c arg14 f14)
        (headMid.sl.r_52 c i arg1 arg2 arg3 arg4 arg12 arg13 arg14 f1 f2 f3 f4 f14)
        (View.readAt (Elt F) arg15.view (Rect.unit ![0, 0] S256x128.size inb_S256x128_S256x128_0_0).toLoadRect f15) 16 := by
  simp only [headMid.sl.r_54, headMid.sl.r_53, v719_eq, v723_eq, v727_eq, v731_eq, v735_eq, v739_eq, v743_eq, v747_eq, v751_eq, v755_eq, v759_eq, v763_eq, v767_eq, v771_eq, v775_eq, v779_eq, k1_pay1, k1_pay114, k1_pay115, shapeCast_self]
  rfl

end Cert.KernelIdeal.Val
-- ==== Proof.Val.HeadW.lean ====
module

public import proofs.«01_k».proof.Proof.Val.HeadRun
public import Idealize.ShloMosaic.Lib.VecWindow

@[expose] public section

set_option maxRecDepth 16384

noncomputable section

namespace Cert.KernelIdeal.Val

open Cert.KernelIdeal Cert.KernelIdeal.Gen Cert.KernelIdeal.Own Idealize Idealize.ShloMosaic

theorem st_apply (x3 : Vec Ideal S12x2048 .f32) (n : Fin 2048) (k : Fin 16) :
    k1_pay14 x3 (ix2 n k) = if h : k.val < 12 then x3 (ix2 (⟨k.val, h⟩ : Fin 12) n) else 0 := by
  pointwise [k1_pay14]

/-- One 128-lane block of the weights, scaled by its column of scales. -/
theorem wcol_apply (k : Fin 16) (st : FVec Ideal S2048x16 .f32) (h : S2048x16.Slices ![0, k.val] S2048x1) (w : FVec Ideal S2048x128 .fp8e4m3) (n : Fin 2048) (l : Fin 128) :
    mulf (extf .bf16 w bitsLt_fp8e4m3_bf16) (truncf .bf16 (broadcastTo S2048x128 (extractStridedSlice S2048x1 ![0, k.val] st h) broadcasts_S2048x1_S2048x128) bitsLt_bf16_f32) (ix2 n l)
      = w (ix2 n l) * st (ix2 n k) := by
  pointwise

/-- The scaled weights of a tile. -/
def wbV (x2 : Vec Ideal S2048x1536 .fp8e4m3) (x3 : Vec Ideal S12x2048 .f32) : Vec Ideal S2048x1536 .bf16 :=
  fun y => (x2 y : EReal) * (x3 (ix2 (⟨(y 1).val / 128, Nat.div_lt_of_lt_mul (y 1).isLt⟩ : Fin 12) (y 0)) : EReal)

theorem piece_apply (k : Fin 12) (off : ℕ) (ho : off = 128 * k.val) (x2 : Vec Ideal S2048x1536 .fp8e4m3) (x3 : Vec Ideal S12x2048 .f32)
    (inb : ∀ a, (![0, off] : Fin 2 → ℕ) a + S2048x128.size a ≤ S2048x1536.size a) (h : S2048x16.Slices ![0, k.val] S2048x1)
    (x : S2048x128.Idx) :
    mulf (extf .bf16 (View.ld (S := S2048x1536) (Val := Elt Ideal) (e' := .fp8e4m3) x2 (Rect.unit ![0, off] S2048x128.size inb)) bitsLt_fp8e4m3_bf16)
      (truncf .bf16 (broadcastTo S2048x128 (extractStridedSlice S2048x1 ![0, k.val] (k1_pay14 x3) h) broadcasts_S2048x1_S2048x128) bitsLt_bf16_f32) x
      = wbV x2 x3 ((Rect.unit (s := S2048x1536) ![0, off] S2048x128.size inb).emb x) := by
  subst ho
  obtain ⟨n, l, rfl⟩ : ∃ (n : Fin 2048) (l : Fin 128), x = ix2 n l := ⟨x 0, x 1, by funext a; fin_cases a <;> rfl⟩
  refine (wcol_apply ⟨k.val, by omega⟩ _ h _ n l).trans ?_
  rw [st_apply, dif_pos k.isLt]
  refine congrArg₂ (· * ·) rfl (congrArg x3 ?_)
  funext a
  fin_cases a
  · refine Fin.ext ?_
    show k.val = (128 * k.val + 1 * l.val) / 128
    omega
  · refine Fin.ext ?_
    show n.val = 0 + 1 * n.val
    omega

theorem canon_step {s : Shape} {e : EltTy} (G : s.Idx → Elt Ideal e) (r : Rect s) (w : r.shape.Idx → Elt Ideal e) (L : List (View.Piece (Elt Ideal) s e))
    (hp : ∀ x, w x = G (r.emb x)) (y : s.Idx) (h : y ∉ r.set → View.canon L y = G y) : View.canon ((⟨r, w⟩ : View.Piece (Elt Ideal) s e) :: L) y = G y := by
  by_cases hm : y ∈ r.set
  · obtain ⟨x, rfl⟩ := r.exists_idx_of_mem hm
    exact (View.canon_cons_emb r w L x).trans (hp x)
  · exact (View.canon_cons_of_not_mem _ L hm).trans (h hm)

theorem not_col (off : ℕ) (inb : ∀ a, (![0, off] : Fin 2 → ℕ) a + S2048x128.size a ≤ S2048x1536.size a) (y : S2048x1536.Idx)
    (h : y ∉ (Rect.unit (s := S2048x1536) ![0, off] S2048x128.size inb).set) : (y 1).val < off ∨ off + 128 ≤ (y 1).val := by
  by_contra hc
  push Not at hc
  refine h (Rect.mem_set_unit.mpr fun a => ?_)
  fin_cases a
  · exact ⟨Nat.zero_le _, by show (y 0).val < 0 + 2048; have := (y 0).isLt; exact lt_of_lt_of_eq this (by rfl)⟩
  · exact hc

theorem z_apply (x1 : Vec Ideal S256x1536 .bf16) (wb : FVec Ideal S2048x1536 .bf16) (r : Fin 256) (n : Fin 2048) :
    k1_pay31 x1 wb (ix2 r n) = ∑ ch : Fin 1536, x1 (ix2 r ch) * wb (ix2 n ch) := by
  pointwise [k1_pay31]

/-- What the body of a tile reads back of the scaled weights it stored block by block. -/
theorem v142_eq (c : Dev nD) (arg2 : Memref sig .tc .vmem S2048x1536 .fp8e4m3) (harg2 : arg2.IsWhole) (arg3 : Memref sig .tc .vmem S12x2048 .f32) (harg3 : arg3.IsWhole)
    (arg12 : Memref sig .tc .vmem S2048x1536 .bf16) (x2 : Vec Ideal S2048x1536 .fp8e4m3) (x3 : Vec Ideal S12x2048 .f32) :
    headMid.sl.v142 (F := Ideal) c arg2 arg3 arg12 (harg2.unread x2) (harg3.unread x3) = wbV x2 x3 := by
  have e2 := harg2.read_unread x2
  have e3 := harg3.read_unread x3
  have e3' : ∀ inb, View.readAt (Elt Ideal) arg3.view (Rect.unit ![0, 0] S12x2048.size inb).toLoadRect (harg3.unread x3) = x3 :=
    fun inb => (View.readAt_full _ _ _).trans e3
  have e2' : ∀ r : Rect S2048x1536, View.readAt (Elt Ideal) arg2.view r.toLoadRect (harg2.unread x2) = View.ld (S := S2048x1536) (Val := Elt Ideal) (e' := .fp8e4m3) x2 r :=
    fun r => (View.readAt_eq_ld _ _ _).trans (congrArg (fun z => View.ld z r) e2)
  unfold headMid.sl.v142
  rw [View.readCov_eq_canon']
  funext y
  have hy : (Rect.unit (s := S2048x1536) ![0, 0] S2048x1536.size inb_S2048x1536_S2048x1536_0_0).toLoadRect.idx y = y := by
    funext a
    refine Fin.ext ?_
    fin_cases a
    · show 0 + 1 * (y 0).val = (y 0).val
      omega
    · show 0 + 1 * (y 1).val = (y 1).val
      omega
  show View.canon _ ((Rect.unit (s := S2048x1536) ![0, 0] S2048x1536.size inb_S2048x1536_S2048x1536_0_0).toLoadRect.idx y) = _
  rw [hy]
  unfold headMid.sl.H12_12 headMid.sl.H12_10 headMid.sl.H12_6 headMid.sl.H12_2
  refine canon_step (wbV x2 x3) _ _ _ (fun x => ?_) y (fun h11 => ?_)
  · simp only [k1_pay30, headMid.sl.r, shapeCast_self, e2', e3']
    exact piece_apply 11 _ rfl x2 x3 _ _ x
  refine canon_step (wbV x2 x3) _ _ _ (fun x => ?_) y (fun h10 => ?_)
  · simp only [k1_pay29, headMid.sl.r_4, k1_pay28, headMid.sl.r, shapeCast_self, e2', e3']
    exact piece_apply 10 _ rfl x2 x3 _ _ x
  refine canon_step (wbV x2 x3) _ _ _ (fun x => ?_) y (fun h9 => ?_)
  · simp only [k1_pay27, headMid.sl.r, shapeCast_self, e2', e3']
    exact piece_apply 9 _ rfl x2 x3 _ _ x
  refine canon_step (wbV x2 x3) _ _ _ (fun x => ?_) y (fun h8 => ?_)
  · simp only [k1_pay26, headMid.sl.r, shapeCast_self, e2', e3']
    exact piece_apply 8 _ rfl x2 x3 _ _ x
  refine canon_step (wbV x2 x3) _ _ _ (fun x => ?_) y (fun h7 => ?_)
  · simp only [k1_pay25, headMid.sl.r, shapeCast_self, e2', e3']
    exact piece_apply 7 _ rfl x2 x3 _ _ x
  refine canon_step (wbV x2 x3) _ _ _ (fun x => ?_) y (fun h6 => ?_)
  · simp only [k1_pay24, headMid.sl.r_2, headMid.sl.r_3, k1_pay22, k1_pay23, headMid.sl.r, shapeCast_self, e2', e3']
    exact piece_apply 6 _ rfl x2 x3 _ _ x
  refine canon_step (wbV x2 x3) _ _ _ (fun x => ?_) y (fun h5 => ?_)
  · simp only [k1_pay21, headMid.sl.r, shapeCast_self, e2', e3']
    exact piece_apply 5 _ rfl x2 x3 _ _ x
  refine canon_step (wbV x2 x3) _ _ _ (fun x => ?_) y (fun h4 => ?_)
  · simp only [k1_pay20, headMid.sl.r, shapeCast_self, e2', e3']
    exact piece_apply 4 _ rfl x2 x3 _ _ x
  refine canon_step (wbV x2 x3) _ _ _ (fun x => ?_) y (fun h3 => ?_)
  · simp only [k1_pay19, headMid.sl.r, shapeCast_self, e2', e3']
    exact piece_apply 3 _ rfl x2 x3 _ _ x
  refine canon_step (wbV x2 x3) _ _ _ (fun x => ?_) y (fun h2 => ?_)
  · simp only [k1_pay18, headMid.sl.r_1, k1_pay17, shapeCast_self, e2', e3']
    exact piece_apply 2 _ rfl x2 x3 _ _ x
  refine canon_step (wbV x2 x3) _ _ _ (fun x => ?_) y (fun h1 => ?_)
  · simp only [k1_pay16, shapeCast_self, e2', e3']
    exact piece_apply 1 _ rfl x2 x3 _ _ x
  refine canon_step (wbV x2 x3) _ _ _ (fun x => ?_) y (fun h0 => ?_)
  · simp only [k1_pay15, shapeCast_self, e2', e3']
    exact piece_apply 0 _ rfl x2 x3 _ _ x
  exfalso
  have := not_col _ _ y h0
  have := not_col _ _ y h1
  have := not_col _ _ y h2
  have := not_col _ _ y h3
  have := not_col _ _ y h4
  have := not_col _ _ y h5
  have := not_col _ _ y h6
  have := not_col _ _ y h7
  have := not_col _ _ y h8
  have := not_col _ _ y h9
  have := not_col _ _ y h10
  have := not_col _ _ y h11
  have hlt : (y 1).val < 1536 := lt_of_lt_of_eq (y 1).isLt (by rfl)
  omega

end Cert.KernelIdeal.Val
-- ==== Proof.Val.Spec.lean ====
module

public import Idealize.ShloMosaic.PureOps.Ideal.Laws
public import Idealize.ShloMosaic.Lib.Pointwise

@[expose] public section

noncomputable section

namespace Cert.Val

open Idealize Idealize.ShloMosaic
open scoped BigOperators

/-- The largest magnitude of a block of 128 channels. -/
def amax (f : Fin 128 → EReal) : EReal :=
  (Finset.univ : Finset (Fin 128)).fold max (Ideal.ofBits .f32 0xFF800000#32) (fun l => max (f l) (-f l))

/-- The power of two `2^(i - 126)`. -/
def pw (i : ℕ) : EReal := Ideal.exp2 (((IntOp.subi (BitVec.ofNat 32 i) 126#32).toInt : ℝ) : EReal)

/-- The scale of a block of largest magnitude `a`: the least power of two above `a / 448`, one for a block of zeros. -/
def scl (a : EReal) : EReal :=
  if a = 0 then 1 else (Finset.univ : Finset (Fin 254)).fold min (Ideal.ofBits .f32 0x7F800000#32)
    (fun i => if a * Ideal.ofBits .f32 0x3B124925#32 < pw i.val then pw i.val else Ideal.ofBits .f32 0x7F800000#32)

/-- The code of the value `x` at the scale `s`. -/
def cd (s x : EReal) : EReal := min (Ideal.ofBits .f32 0x43E00000#32) (max (Ideal.ofBits .f32 0xC3E00000#32) (x * Ideal.div 1 s))

variable (X : Fin 256 → Fin 1536 → EReal) (W : Fin 151936 → Fin 1536 → EReal) (S : Fin 151936 → Fin 12 → EReal)

/-- Block `b` of row `r`. -/
def blk (r : Fin 256) (b : Fin 12) : Fin 128 → EReal := fun l => X r ⟨b.val * 128 + l.val, by omega⟩

/-- The scale of block `b` of row `r`. -/
def sc (r : Fin 256) (b : Fin 12) : EReal := scl (amax (blk X r b))

/-- The code of channel `n` of row `r`. -/
def code (r : Fin 256) (n : Fin 1536) : EReal := cd (sc X r ⟨n.val / 128, by omega⟩) (X r n)

/-- The quantised value of channel `n` of row `r`. -/
def xq (r : Fin 256) (n : Fin 1536) : EReal := code X r n * sc X r ⟨n.val / 128, by omega⟩

/-- The logit of row `r` at the vocabulary entry `v`. -/
def zg (r : Fin 256) (v : Fin 151936) : EReal := ∑ n : Fin 1536, xq X r n * (W v n * S v ⟨n.val / 128, by omega⟩)

/-- The logarithm of the sum of the exponentials. -/
def lseF {n : ℕ} (f : Fin n → EReal) : EReal :=
  (Finset.univ : Finset (Fin n)).fold max (Ideal.ofBits .f32 0xFF800000#32) f
    + Ideal.log (∑ v : Fin n, Ideal.exp (f v - (Finset.univ : Finset (Fin n)).fold max (Ideal.ofBits .f32 0xFF800000#32) f))

open scoped Classical in
/-- The logits of a row with the supported ones masked. -/
def rest (z : Fin 151936 → EReal) (ids : Fin 48 → BitVec 32) (v : Fin 151936) : EReal :=
  if ∃ k, ids k = BitVec.ofNat 32 v.val then ⊥ else z v

/-- The logit of the token `i`. -/
def pick (z : Fin 151936 → EReal) (i : BitVec 32) : EReal := ∑ v : Fin 151936, if i = BitVec.ofNat 32 v.val then z v else 0

/-- One minus the teacher's supported mass. -/
def rt (t : Fin 48 → EReal) : EReal := 0 - (Ideal.exp (lseF t) - 1)

/-- The divergence of a row: the supported tokens' terms and the term of the remainder. -/
def klF (t zs : Fin 48 → EReal) (L R : EReal) : EReal :=
  (∑ k : Fin 48, Ideal.exp (t k) * (t k - (zs k - L))) + rt t * (Ideal.log (rt t) - (R - L))

/-- A choice by an equality test. -/
theorem sel_eq {α : Type} {n : ℕ} (a b : BitVec n) (x y : α) : Scalar.select (IntOp.cmpi .eq a b) x y = if a = b then x else y := by
  by_cases h : a = b
  · subst h; simp [Scalar.select, IntOp.cmpi]
  · have hb : (a == b) = false := beq_eq_false_iff_ne.mpr h
    simp [Scalar.select, IntOp.cmpi, h, hb]

theorem sel_bool {α : Type} (p : Bool) (x y : α) : Scalar.select (BitVec.ofBool p) x y = if p then x else y := by
  cases p <;> rfl

theorem ofBits_ninf : Ideal.ofBits .f32 0xFF800000#32 = ⊥ := by simp [Ideal.ofBits, Ideal.ieee]

end Cert.Val
-- ==== Proof.Val.Num.lean ====
module

public import Idealize.ShloMosaic.Lib.Pointwise
public import proofs.«01_k».proof.Proof.Val.Spec

@[expose] public section

set_option maxRecDepth 16384

noncomputable section

namespace Cert.Val

open Idealize Idealize.ShloMosaic

/-- A count over a finite index, as a word. -/
theorem fold_count {n : ℕ} (P : Fin n → Prop) [DecidablePred P] (s : Finset (Fin n)) :
    s.fold IntOp.addi 0#32 (fun k => if P k then 0#32 else 1#32) = BitVec.ofNat 32 (s.filter (fun k => ¬ P k)).card := by
  induction s using Finset.induction_on with
  | empty => rfl
  | insert a s ha ih =>
    rw [Finset.fold_insert ha, ih, Finset.filter_insert]
    by_cases hp : P a
    · rw [if_pos hp, if_neg (not_not.mpr hp)]
      show 0#32 + _ = _
      rw [BitVec.zero_add]
    · rw [if_neg hp, if_pos hp, Finset.card_insert_of_notMem (by simp [ha])]
      show 1#32 + _ = _
      rw [BitVec.add_comm, ← BitVec.ofNat_add]

/-- The float whose exponent field is `i` and whose other fields are zero. -/
def tb (i : ℕ) : EReal := Ideal.ofBits .f32 (IntOp.shli .vector (BitVec.ofNat 32 i) 23#32)

theorem tb_bits : ∀ i : Fin 256, ((IntOp.shli .vector (BitVec.ofNat 32 i.val) 23#32).extractLsb' 23 8).toNat = i.val ∧
    ((IntOp.shli .vector (BitVec.ofNat 32 i.val) 23#32).extractLsb' 0 23).toNat = 0 ∧
    ((IntOp.shli .vector (BitVec.ofNat 32 i.val) 23#32).extractLsb' 31 1 == 1#1) = false := by decide +kernel

theorem tb_pow (i : ℕ) (h1 : 1 ≤ i) (h2 : i ≤ 254) : tb i = (((2 : ℝ) ^ ((i : ℤ) - 127) : ℝ) : EReal) := by
  obtain ⟨b1, b2, b3⟩ := tb_bits ⟨i, by omega⟩
  unfold tb Ideal.ofBits Ideal.ieee
  rw [show (8 + 23 : ℕ) = 31 from rfl]
  simp only [b1, b2, b3]
  rw [if_neg (by omega), if_neg (by omega), if_neg (by simp)]
  refine congrArg (fun r : ℝ => (r : EReal)) ?_
  rw [show (i : ℤ) - 127 = 23 + ((i : ℤ) - (2 ^ (8 - 1) - 1) - ((23 : ℕ) : ℤ)) by norm_num, zpow_add₀ (by norm_num : (2 : ℝ) ≠ 0)]
  try norm_num

theorem tb_zero : tb 0 = 0 := by
  obtain ⟨b1, b2, b3⟩ := tb_bits ⟨0, by omega⟩
  unfold tb Ideal.ofBits Ideal.ieee
  simp only [b1, b2, b3]
  simp

theorem tb_top : tb 255 = ⊤ := by
  obtain ⟨b1, b2, b3⟩ := tb_bits ⟨255, by omega⟩
  unfold tb Ideal.ofBits Ideal.ieee
  rw [show (8 + 23 : ℕ) = 31 from rfl]
  simp only [b1, b2, b3]
  rw [if_pos (by rfl), if_pos trivial, if_neg (by decide +kernel)]

theorem pw_eq (i : Fin 254) : pw i.val = (((2 : ℝ) ^ ((i.val : ℤ) - 126) : ℝ) : EReal) := by
  have h : ∀ i : Fin 254, (IntOp.subi (BitVec.ofNat 32 i.val) 126#32).toInt = (i.val : ℤ) - 126 := by decide +kernel
  unfold pw
  rw [h]
  show ((Real.rpow 2 _ : ℝ) : EReal) = _
  rw [show Real.rpow 2 ((((i.val : ℤ) - 126 : ℤ) : ℝ)) = (2 : ℝ) ^ ((((i.val : ℤ) - 126 : ℤ) : ℝ)) from rfl, Real.rpow_intCast]

/-- The kernel's exponent of a quotient, as a word. -/
def ec (q : EReal) : BitVec 32 := IntOp.subi (IntOp.subi (Finset.univ.fold IntOp.addi 0#32 (fun i : Fin 256 => if q < tb i.val then 0#32 else 1#32)) 1#32) 126#32

/-- The kernel's scale and its inverse. -/
def ks (q : EReal) : EReal := Ideal.ofBits .f32 (IntOp.shli .vector (IntOp.addi (if q = 0 then 0#32 else ec q) 127#32) 23#32)
def ki (q : EReal) : EReal := Ideal.ofBits .f32 (IntOp.shli .vector (IntOp.subi 127#32 (if q = 0 then 0#32 else ec q)) 23#32)

/-- One over 448, as both programs round it. -/
def c448 : ℝ := (2 ^ 23 + 1198373) * (2 : ℝ) ^ (-32 : ℤ)
theorem c448_eq : Ideal.ofBits .f32 0x3B124925#32 = (c448 : EReal) := by
  simp [Ideal.ofBits, Ideal.ieee, -EReal.coe_mul, c448]
  try norm_num
theorem c448_pos : 0 < c448 := by unfold c448; positivity

theorem scale_eq (a : ℝ) (ha : 0 ≤ a) (hq : a * c448 < 2 ^ 120) : ∃ e : ℤ, scl (a : EReal) = (((2 : ℝ) ^ e : ℝ) : EReal) ∧
    ks ((a : EReal) * Ideal.ofBits .f32 0x3B124925#32) = (((2 : ℝ) ^ e : ℝ) : EReal) ∧ ki ((a : EReal) * Ideal.ofBits .f32 0x3B124925#32) = (((2 : ℝ) ^ (-e) : ℝ) : EReal) := by
  classical
  by_cases h0 : a = 0
  · subst h0
    refine ⟨0, ?_, ?_, ?_⟩
    · unfold scl; rw [if_pos (by simp)]; simp
    · unfold ks
      rw [if_pos (by simp)]
      exact (tb_pow 127 (by norm_num) (by norm_num)).trans (by simp)
    · unfold ki
      rw [if_pos (by simp)]
      exact (tb_pow 127 (by norm_num) (by norm_num)).trans (by simp)
  have hc := c448_pos
  have hq0 : 0 < a * c448 := mul_pos (lt_of_le_of_ne ha (Ne.symm h0)) hc
  have hex : ∃ i : ℕ, a * c448 < (2 : ℝ) ^ ((i : ℤ) - 126) := ⟨246, by norm_num at hq ⊢; exact hq⟩
  obtain ⟨K, hK, hmin⟩ : ∃ K : ℕ, a * c448 < (2 : ℝ) ^ ((K : ℤ) - 126) ∧ ∀ m < K, ¬ a * c448 < (2 : ℝ) ^ ((m : ℤ) - 126) :=
    ⟨Nat.find hex, Nat.find_spec hex, fun m hm => Nat.find_min hex hm⟩
  have hK246 : K ≤ 246 := by
    by_contra hlt
    exact hmin 246 (by omega) (by norm_num at hq ⊢; exact hq)
  have hmono : ∀ i j : ℤ, i ≤ j → (2 : ℝ) ^ i ≤ (2 : ℝ) ^ j := fun i j h => zpow_le_zpow_right₀ (by norm_num) h
  have hP : ∀ i : ℕ, a * c448 < (2 : ℝ) ^ ((i : ℤ) - 126) ↔ K ≤ i := fun i =>
    ⟨fun h => by by_contra hlt; exact hmin i (by omega) h, fun h => lt_of_lt_of_le hK (hmono _ _ (by omega))⟩
  have hqe : (a : EReal) * Ideal.ofBits .f32 0x3B124925#32 = ((a * c448 : ℝ) : EReal) := by rw [c448_eq, EReal.coe_mul]
  have hqne : ((a * c448 : ℝ) : EReal) ≠ 0 := by
    intro h; exact hq0.ne' (EReal.coe_eq_zero.mp h)
  have hcount : (Finset.univ.fold IntOp.addi 0#32 (fun i : Fin 256 => if ((a * c448 : ℝ) : EReal) < tb i.val then 0#32 else 1#32)) = BitVec.ofNat 32 (K + 1) := by
    rw [fold_count]
    congr 1
    have : (Finset.univ.filter (fun k : Fin 256 => ¬ ((a * c448 : ℝ) : EReal) < tb k.val)) = Finset.univ.filter (fun k : Fin 256 => k.val < K + 1) := by
      refine Finset.filter_congr fun k _ => ?_
      rcases Nat.eq_zero_or_pos k.val with hz | hp
      · rw [hz, tb_zero]
        refine iff_of_true ?_ (by omega)
        rw [not_lt, ← EReal.coe_zero, EReal.coe_le_coe_iff]
        exact hq0.le
      · by_cases h255 : k.val = 255
        · rw [h255, tb_top]
          refine iff_of_false ?_ (by omega)
          rw [not_not]
          exact EReal.coe_lt_top _
        · rw [tb_pow k.val hp (by omega), EReal.coe_lt_coe_iff]
          have := hP (k.val - 1)
          rw [show ((k.val - 1 : ℕ) : ℤ) - 126 = (k.val : ℤ) - 127 by omega] at this
          rw [this]
          omega
    rw [this]
    rw [Fin.card_filter_val_lt]
    omega
  have hec : ec ((a * c448 : ℝ) : EReal) = IntOp.subi (IntOp.subi (BitVec.ofNat 32 (K + 1)) 1#32) 126#32 := by
    unfold ec; rw [hcount]
  have hadd : ∀ K : Fin 247, IntOp.addi (IntOp.subi (IntOp.subi (BitVec.ofNat 32 (K.val + 1)) 1#32) 126#32) 127#32 = BitVec.ofNat 32 (K.val + 1) ∧
      IntOp.subi 127#32 (IntOp.subi (IntOp.subi (BitVec.ofNat 32 (K.val + 1)) 1#32) 126#32) = BitVec.ofNat 32 (253 - K.val) := by decide +kernel
  obtain ⟨hA, hB⟩ := hadd ⟨K, by omega⟩
  refine ⟨(K : ℤ) - 126, ?_, ?_, ?_⟩
  · unfold scl
    rw [if_neg (fun h => h0 (EReal.coe_eq_zero.mp h)), hqe]
    have htop : Ideal.ofBits .f32 0x7F800000#32 = ⊤ := by simp [Ideal.ofBits, Ideal.ieee]
    rw [htop]
    apply le_antisymm
    · rw [Finset.fold_min_le]
      refine Or.inr ⟨⟨K, by omega⟩, Finset.mem_univ _, ?_⟩
      rw [pw_eq, if_pos (EReal.coe_lt_coe_iff.mpr hK)]
    · rw [Finset.le_fold_min]
      refine ⟨le_top, fun i _ => ?_⟩
      rw [pw_eq]
      split
      · rename_i h
        rw [EReal.coe_le_coe_iff]
        exact hmono _ _ (by have := (hP i.val).mp (EReal.coe_lt_coe_iff.mp h); omega)
      · exact le_top
  · unfold ks
    rw [hqe, if_neg hqne, hec, hA]
    refine (tb_pow (K + 1) (by omega) (by omega)).trans ?_
    congr 2
    push_cast
    ring
  · unfold ki
    rw [hqe, if_neg hqne, hec, hB]
    refine (tb_pow (253 - K) (by omega) (by omega)).trans ?_
    congr 2
    omega

/-- The kernel's scale is the reference's, -/
theorem ks_eq (a : ℝ) (ha : 0 ≤ a) (hq : a * c448 < 2 ^ 120) : ks ((a : EReal) * Ideal.ofBits .f32 0x3B124925#32) = scl (a : EReal) := by
  obtain ⟨e, h1, h2, _⟩ := scale_eq a ha hq
  rw [h1, h2]

/-- and its inverse the reference's. -/
theorem ki_eq (a : ℝ) (ha : 0 ≤ a) (hq : a * c448 < 2 ^ 120) : ki ((a : EReal) * Ideal.ofBits .f32 0x3B124925#32) = Ideal.div 1 (scl (a : EReal)) := by
  obtain ⟨e, h1, _, h3⟩ := scale_eq a ha hq
  have hp : (0 : ℝ) < 2 ^ e := by positivity
  rw [h1, h3]
  unfold Ideal.div
  rw [if_neg (fun h => hp.ne' (EReal.coe_eq_zero.mp h)), one_mul, ← EReal.coe_inv, zpow_neg]

/-- The scale is a number. -/
theorem scl_real (a : ℝ) (ha : 0 ≤ a) (hq : a * c448 < 2 ^ 120) : ∃ s : ℝ, scl (a : EReal) = (s : EReal) := by
  obtain ⟨e, h1, _⟩ := scale_eq a ha hq
  exact ⟨_, h1⟩

end Cert.Val
-- ==== Proof.Val.PrepPay.lean ====
module

public import Idealize.ShloMosaic.Lib.Pointwise
public import proofs.«01_k».proof.Proof.Val.HeadW
public import proofs.«01_k».proof.Proof.Val.Num

@[expose] public section

set_option maxRecDepth 16384

noncomputable section

namespace Cert.KernelIdeal.Val

open Cert.KernelIdeal Cert.KernelIdeal.Gen Cert.KernelIdeal.Own Idealize Idealize.ShloMosaic Cert.Val

/-- One channel block: its scales, -/
def scaleV (v : Vec Ideal S256x128 .bf16) : Vec Ideal S256x1 .f32 := k0_pay4 v
/-- its codes, -/
def codeV (v : Vec Ideal S256x128 .bf16) : Vec Ideal S256x128 .fp8e4m3 := k0_pay7 (k0_pay5 v) k0_pay6
/-- and the block dequantised. -/
def xbV (v : Vec Ideal S256x128 .bf16) : Vec Ideal S256x128 .bf16 := k0_pay8 (k0_pay4 v) (k0_pay5 v) k0_pay6

theorem code1 (v : Vec Ideal S256x128 .bf16) : k0_pay12 (k0_pay9 v) (k0_pay10 v) = codeV v := rfl
theorem code2 (v : Vec Ideal S256x128 .bf16) : k0_pay21 (k0_pay14 v) (k0_pay16 v) (k0_pay17 v) k0_pay18 = codeV v := rfl
theorem code3 (v : Vec Ideal S256x128 .bf16) : k0_pay29 (k0_pay23 v) (k0_pay24 v) (k0_pay25 v) prepRun.sl.v160 k0_pay26 = codeV v := rfl
theorem code4 (v : Vec Ideal S256x128 .bf16) : k0_pay35 (F := Ideal) (k0_pay31 v) = codeV v := rfl
theorem code5 (v : Vec Ideal S256x128 .bf16) : k0_pay41 (k0_pay37 v) (k0_pay40 v) 23#32 = codeV v := rfl
theorem code6 (v : Vec Ideal S256x128 .bf16) : k0_pay49 (k0_pay43 v) (k0_pay45 v) (k0_pay46 v) = codeV v := rfl
theorem code7 (v : Vec Ideal S256x128 .bf16) : k0_pay57 (k0_pay51 v) (k0_pay53 v) (k0_pay54 v) = codeV v := rfl
theorem code8 (v : Vec Ideal S256x128 .bf16) : k0_pay63 (k0_pay59 v) (k0_pay60 v) = codeV v := rfl
theorem code9 (v : Vec Ideal S256x128 .bf16) : k0_pay71 (k0_pay67 v) (k0_pay70 v) = codeV v := rfl
theorem code10 (v : Vec Ideal S256x128 .bf16) : k0_pay76 (k0_pay73 v) (k0_pay74 v) = codeV v := rfl
theorem code11 (v : Vec Ideal S256x128 .bf16) : k0_pay86 (k0_pay78 v) (k0_pay80 v) (k0_pay81 v) k0_pay82 k0_pay83 = codeV v := rfl

theorem xb1 (v : Vec Ideal S256x128 .bf16) : k0_pay13 (k0_pay9 v) (k0_pay10 v) (k0_pay11 v) = xbV v := rfl
theorem xb2 (v : Vec Ideal S256x128 .bf16) : k0_pay22 (k0_pay14 v) (k0_pay16 v) (k0_pay17 v) k0_pay18 = xbV v := rfl
theorem xb3 (v : Vec Ideal S256x128 .bf16) : k0_pay30 (k0_pay23 v) (k0_pay24 v) (k0_pay25 v) prepRun.sl.v160 k0_pay26 = xbV v := rfl
theorem xb4 (v : Vec Ideal S256x128 .bf16) : k0_pay36 (F := Ideal) (k0_pay34 (k0_pay31 v)) (k0_pay35 (k0_pay31 v)) = xbV v := rfl
theorem xb5 (v : Vec Ideal S256x128 .bf16) : k0_pay42 (k0_pay37 v) (k0_pay39 v) (k0_pay40 v) 23#32 = xbV v := rfl
theorem xb6 (v : Vec Ideal S256x128 .bf16) : k0_pay50 (k0_pay43 v) (k0_pay45 v) (k0_pay46 v) = xbV v := rfl
theorem xb7 (v : Vec Ideal S256x128 .bf16) : k0_pay58 (k0_pay51 v) (k0_pay53 v) (k0_pay54 v) = xbV v := rfl
theorem xb8 (v : Vec Ideal S256x128 .bf16) : k0_pay66 (k0_pay64 (k0_pay59 v) (k0_pay60 v)) (k0_pay65 (k0_pay60 v)) = xbV v := rfl
theorem xb9 (v : Vec Ideal S256x128 .bf16) : k0_pay72 (k0_pay67 v) (k0_pay69 v) (k0_pay70 v) = xbV v := rfl
theorem xb10 (v : Vec Ideal S256x128 .bf16) : k0_pay77 (k0_pay73 v) (k0_pay74 v) 127#32 = xbV v := rfl
theorem xb11 (v : Vec Ideal S256x128 .bf16) : k0_pay87 (k0_pay78 v) (k0_pay80 v) (k0_pay81 v) k0_pay82 k0_pay83 = xbV v := rfl

theorem sc1 (v : Vec Ideal S256x128 .bf16) : k0_pay11 v = scaleV v := rfl
theorem sc2 (v : Vec Ideal S256x128 .bf16) : k0_pay20 (F := Ideal) (k0_pay16 v) (k0_pay17 v) k0_pay18 = scaleV v := rfl
theorem sc3 (v : Vec Ideal S256x128 .bf16) : k0_pay28 (k0_pay24 v) (k0_pay25 v) prepRun.sl.v160 k0_pay26 = scaleV v := rfl
theorem sc4 (v : Vec Ideal S256x128 .bf16) : k0_pay34 (F := Ideal) (k0_pay31 v) = scaleV v := rfl
theorem sc5 (v : Vec Ideal S256x128 .bf16) : k0_pay39 v = scaleV v := rfl
theorem sc6 (v : Vec Ideal S256x128 .bf16) : k0_pay48 (F := Ideal) (k0_pay45 v) (k0_pay46 v) = scaleV v := rfl
theorem sc7 (v : Vec Ideal S256x128 .bf16) : k0_pay56 (F := Ideal) (k0_pay53 v) (k0_pay54 v) = scaleV v := rfl
theorem sc8 (v : Vec Ideal S256x128 .bf16) : k0_pay62 (k0_pay60 v) = scaleV v := rfl
theorem sc9 (v : Vec Ideal S256x128 .bf16) : k0_pay69 v = scaleV v := rfl
theorem sc10 (v : Vec Ideal S256x128 .bf16) : k0_pay75 (F := Ideal) (k0_pay74 v) 127#32 = scaleV v := rfl
theorem sc11 (v : Vec Ideal S256x128 .bf16) : k0_pay85 (F := Ideal) (k0_pay80 v) (k0_pay81 v) k0_pay82 k0_pay83 = scaleV v := rfl

theorem pay2_eq (v : Vec Ideal S256x128 .bf16) (r : Fin 256) (l : Fin 128) : k0_pay2 v (ix2 r l) = v (ix2 r l) := by
  pointwise [k0_pay2]
theorem scaleV_ks (v : Vec Ideal S256x128 .bf16) (r : Fin 256) :
    scaleV v (ix2 r (0 : Fin 1)) = ks (amax (fun l : Fin 128 => v (ix2 r l)) * Ideal.ofBits .f32 0x3B124925#32) := by
  unfold scaleV ks ec tb amax
  pointwise [k0_pay4, k0_pay3, k0_pay2]
  rfl
theorem codeV_ki (v : Vec Ideal S256x128 .bf16) (r : Fin 256) (l : Fin 128) :
    codeV v (ix2 r l) = min (Ideal.ofBits .f32 0x43E00000#32) (max (Ideal.ofBits .f32 0xC3E00000#32) (v (ix2 r l) * ki (amax (fun l : Fin 128 => v (ix2 r l)) * Ideal.ofBits .f32 0x3B124925#32))) := by
  unfold codeV ki ec tb amax
  pointwise [k0_pay7, k0_pay5, k0_pay6, k0_pay3, k0_pay2]
  rfl
theorem xbV_eq (v : Vec Ideal S256x128 .bf16) (r : Fin 256) (l : Fin 128) : xbV v (ix2 r l) = codeV v (ix2 r l) * scaleV v (ix2 r (0 : Fin 1)) := by
  unfold xbV codeV scaleV
  pointwise [k0_pay8]

/-- The largest magnitude of a block of bounded numbers is a number. -/
theorem amax_real (B : ℝ) (hB : 0 ≤ B) (f : Fin 128 → EReal) (h : ∀ l, max (f l) (-f l) ≤ (B : EReal)) :
    ∃ a : ℝ, 0 ≤ a ∧ a ≤ B ∧ amax f = (a : EReal) := by
  have hle : amax f ≤ (B : EReal) := by
    unfold amax
    rw [Finset.fold_max_le]
    refine ⟨?_, fun l _ => h l⟩
    rw [ofBits_ninf]
    exact bot_le
  have hge : (0 : EReal) ≤ amax f := by
    unfold amax
    rw [Finset.le_fold_max]
    refine Or.inr ⟨0, Finset.mem_univ _, ?_⟩
    rcases le_total 0 (f 0) with h0 | h0
    · exact le_max_of_le_left h0
    · refine le_max_of_le_right ?_
      rw [EReal.le_neg, neg_zero]
      exact h0
  have ht : amax f ≠ ⊤ := ne_of_lt (lt_of_le_of_lt hle (EReal.coe_lt_top _))
  have hb : amax f ≠ ⊥ := ne_of_gt (lt_of_lt_of_le (EReal.bot_lt_coe 0) hge)
  have e := EReal.coe_toReal ht hb
  refine ⟨(amax f).toReal, ?_, ?_, e.symm⟩
  · rw [← EReal.coe_nonneg, e]; exact hge
  · rw [← EReal.coe_le_coe_iff, e]; exact hle

/-- The bound of an operand's magnitude: bf16's largest number. -/
def bmax : ℝ := 338953138925153547590470800371487866880

theorem bmax_lt (a : ℝ) (h : a ≤ bmax) : a * c448 < 2 ^ 120 := by
  refine lt_of_le_of_lt (mul_le_mul_of_nonneg_right h c448_pos.le) ?_
  unfold bmax c448
  norm_num

/-- A block of bounded values. -/
def Bounded (f : Fin 128 → EReal) : Prop := ∀ l, max (f l) (-f l) ≤ ((bmax : ℝ) : EReal)

theorem scaleV_eq (v : Vec Ideal S256x128 .bf16) (r : Fin 256) (h : Bounded fun l => v (ix2 r l)) :
    scaleV v (ix2 r (0 : Fin 1)) = scl (amax (fun l : Fin 128 => v (ix2 r l))) := by
  obtain ⟨a, h0, h1, e⟩ := amax_real bmax (by unfold bmax; norm_num) _ h
  rw [scaleV_ks, e]
  exact ks_eq a h0 (bmax_lt a h1)

theorem codeV_eq (v : Vec Ideal S256x128 .bf16) (r : Fin 256) (l : Fin 128) (h : Bounded fun l => v (ix2 r l)) :
    codeV v (ix2 r l) = cd (scl (amax (fun l : Fin 128 => v (ix2 r l)))) (v (ix2 r l)) := by
  obtain ⟨a, h0, h1, e⟩ := amax_real bmax (by unfold bmax; norm_num) _ h
  rw [codeV_ki, e, ki_eq a h0 (bmax_lt a h1)]
  rfl

end Cert.KernelIdeal.Val
-- ==== Proof.Val.Mask.lean ====
/- The bit mask of the supported tokens that the quantising kernel builds. -/
module

public import Idealize.ShloMosaic.Lib.Pointwise
public import Idealize.ShloMosaic.Lib.VecWindow
public import Idealize.ShloMosaic.Lib.WordArith
public import proofs.«01_k».proof.Proof.Ideal.Triples
public import proofs.«01_k».proof.Proof.Val.PrepPay

@[expose] public section

set_option maxRecDepth 16384

noncomputable section

namespace Cert.KernelIdeal.Val

open Cert.KernelIdeal Cert.KernelIdeal.Gen Cert.KernelIdeal.Own Idealize Idealize.ShloMosaic Cert.Val

/-- A sum with one term. -/
theorem fold_pick {n : ℕ} (g : Fin n → BitVec 32) (k : Fin n) (s : Finset (Fin n)) :
    s.fold IntOp.addi 0#32 (fun x => if x = k then g x else 0#32) = if k ∈ s then g k else 0#32 := by
  induction s using Finset.induction_on with
  | empty => rfl
  | insert a s ha ih =>
    rw [Finset.fold_insert ha, ih]
    by_cases h : a = k
    · subst h
      rw [if_pos rfl, if_neg ha, if_pos (Finset.mem_insert_self _ _)]
      exact BitVec.add_zero _
    · rw [if_neg h]
      have e : k ∈ insert a s ↔ k ∈ s := by rw [Finset.mem_insert]; exact or_iff_right (fun e => h e.symm)
      by_cases hk : k ∈ s
      · rw [if_pos hk, if_pos (e.mpr hk)]; exact BitVec.zero_add _
      · rw [if_neg hk, if_neg (fun h => hk (e.mp h))]; exact BitVec.zero_add _

theorem shr_nat (n k : ℕ) (hn : n < 2 ^ 31) (hk : k < 32) : IntOp.shrsi .vector (BitVec.ofNat 32 n) (BitVec.ofNat 32 k) = BitVec.ofNat 32 (n / 2 ^ k) := by
  have e : (BitVec.ofNat 32 k).toNat = k := by rw [BitVec.toNat_ofNat]; exact Nat.mod_eq_of_lt (by omega)
  unfold IntOp.shrsi
  rw [if_pos (by rw [e]; exact hk)]
  show (BitVec.ofNat 32 n).sshiftRight (BitVec.ofNat 32 k).toNat = _
  rw [e, BitVec.sshiftRight_eq_of_msb_false]
  · apply BitVec.eq_of_toNat_eq
    rw [BitVec.toNat_ushiftRight, BitVec.toNat_ofNat, BitVec.toNat_ofNat, Nat.shiftRight_eq_div_pow, Nat.mod_eq_of_lt (by omega), Nat.mod_eq_of_lt]
    exact lt_of_le_of_lt (Nat.div_le_self _ _) (by omega)
  · rw [BitVec.msb_eq_decide, BitVec.toNat_ofNat]
    apply decide_eq_false
    omega

theorem and_nat (n k : ℕ) (hn : n < 2 ^ 32) (hk : k < 32) : IntOp.andi (BitVec.ofNat 32 n) (BitVec.ofNat 32 (2 ^ k - 1)) = BitVec.ofNat 32 (n % 2 ^ k) := by
  have h2 : 2 ^ k < 2 ^ 32 := Nat.pow_lt_pow_right (by norm_num) hk
  apply BitVec.eq_of_toNat_eq
  show (BitVec.ofNat 32 n &&& BitVec.ofNat 32 (2 ^ k - 1)).toNat = _
  rw [BitVec.toNat_and, BitVec.toNat_ofNat, BitVec.toNat_ofNat, BitVec.toNat_ofNat, Nat.mod_eq_of_lt hn, Nat.mod_eq_of_lt (by omega), Nat.and_two_pow_sub_one_eq_mod]
  exact (Nat.mod_eq_of_lt (lt_of_le_of_lt (Nat.mod_le _ _) hn)).symm

theorem shl_nat (k : ℕ) (hk : k < 32) : IntOp.shli .vector 1#32 (BitVec.ofNat 32 k) = BitVec.twoPow 32 k := by
  have e : (BitVec.ofNat 32 k).toNat = k := by rw [BitVec.toNat_ofNat]; exact Nat.mod_eq_of_lt (by omega)
  unfold IntOp.shli
  rw [if_pos (by rw [e]; exact hk)]
  show 1#32 <<< (BitVec.ofNat 32 k).toNat = _
  rw [e]
  rfl

theorem pow_bit (x : BitVec 32) (k : ℕ) (hk : k < 32) : x &&& BitVec.ofNat 32 (2 ^ k) ≠ 0#32 ↔ x.getLsbD k = true := by
  have e : BitVec.ofNat 32 (2 ^ k) = BitVec.twoPow 32 k := by
    apply BitVec.eq_of_toNat_eq
    rw [BitVec.toNat_twoPow, BitVec.toNat_ofNat]
  rw [e, BitVec.and_twoPow]
  by_cases h : x.getLsbD k = true
  · rw [if_pos h]
    refine iff_of_true (fun h0 => ?_) h
    have := congrArg (fun y : BitVec 32 => y.getLsbD k) h0
    simp [hk] at this
  · rw [if_neg h]
    exact iff_of_false (fun h => h rfl) h

/-- The word that the token `n` adds at lane `c` of tile `t`. -/
def kb (n t c : ℕ) : BitVec 32 := if n / 2048 = t ∧ n % 128 = c then BitVec.twoPow 32 (n / 128 % 16) else 0#32

theorem kb_bit (n t c k : ℕ) (hc : c < 128) (hk : k < 16) : (kb n t c).getLsbD k = true ↔ n = 2048 * t + 128 * k + c := by
  unfold kb
  by_cases h : n / 2048 = t ∧ n % 128 = c
  · rw [if_pos h, BitVec.getLsbD_twoPow]
    simp only [Bool.and_eq_true, decide_eq_true_eq]
    omega
  · rw [if_neg h]
    simp only [BitVec.getLsbD_zero, Bool.false_eq_true, false_iff]
    omega

theorem trips2 : k0_t2_loop.trips = 75 := by decide
theorem trips1 : k0_t1_loop.trips = 48 := by decide

theorem lt75 (k : Fin k0_t2_loop.trips) : k.val < 75 := lt_of_lt_of_eq k.isLt trips2
theorem lt48 (k : Fin k0_t1_loop.trips) : k.val < 48 := lt_of_lt_of_eq k.isLt trips1
/-- The column of a trip's token. -/
def q1 (k : Fin k0_t1_loop.trips) : Fin 128 := ⟨k.val, lt_trans (lt48 k) (by norm_num)⟩

theorem iv_nat (k : ℕ) : Scf.iv 0#32 1#32 k = BitVec.ofNat 32 k := by
  show 0#32 + BitVec.ofNat 32 k * 1#32 = _
  rw [BitVec.mul_one, BitVec.zero_add]

/-- One trip's payload. -/
theorem pay1_apply (v : IVec S256x128 32) (hv : ∀ r c, c.val < 48 → (v (ix2 r c)).toNat < 151936) (k1 : Fin k0_t1_loop.trips) (g : Fin k0_t2_loop.trips) (x : Vec Ideal S1x256x128 .i32) (r : Fin 256) (c : Fin 128) :
    k0_pay1 (F := Ideal) v k1 g x (ix3 0 r c) = x (ix3 0 r c) ||| kb (v (ix2 r (q1 k1))).toNat g.val c.val := by
  have h1 : k1.val < 48 := lt48 k1
  have h2 : g.val < 75 := lt75 g
  have hs : (Finset.univ : Finset (Fin 128)).fold IntOp.addi 0#32 (fun x => Scalar.select (IntOp.cmpi .eq (BitVec.ofNat 32 x.val) (Scf.iv 0#32 1#32 k1.val)) (v (ix2 r x)) 0#32)
      = v (ix2 r (q1 k1)) := by
    refine Eq.trans ?_ ((fold_pick (fun x => v (ix2 r x)) (q1 k1) Finset.univ).trans (if_pos (Finset.mem_univ _)))
    refine congrArg (fun f => Finset.fold IntOp.addi 0#32 f Finset.univ) (funext fun x => ?_)
    rw [sel_eq, iv_nat]
    refine if_congr ?_ rfl rfl
    constructor
    · intro h
      have := congrArg BitVec.toNat h
      rw [BitVec.toNat_ofNat, BitVec.toNat_ofNat] at this
      exact Fin.ext (by have := x.isLt; show x.val = k1.val; omega)
    · rintro rfl; rfl
  pointwise [k0_pay1]
  rw [hs, sel_eq]
  obtain ⟨n, hn, e⟩ : ∃ n : ℕ, n < 151936 ∧ v (ix2 r (q1 k1)) = BitVec.ofNat 32 n :=
    ⟨_, hv r (q1 k1) h1, BitVec.eq_of_toNat_eq (by rw [BitVec.toNat_ofNat, Nat.mod_eq_of_lt (BitVec.isLt _)])⟩
  rw [e]
  have en : (BitVec.ofNat 32 n).toNat = n := by rw [BitVec.toNat_ofNat]; omega
  rw [en, iv_nat]
  rw [shr_nat n 11 (by omega) (by norm_num), shr_nat n 7 (by omega) (by norm_num), show (127#32) = BitVec.ofNat 32 (2 ^ 7 - 1) from rfl, and_nat n 7 (by omega) (by norm_num),
    show (15#32) = BitVec.ofNat 32 (2 ^ 4 - 1) from rfl, and_nat _ 4 (by omega) (by norm_num), shl_nat _ (by omega)]
  show x (ix3 0 r c) ||| _ = _
  refine congrArg (x (ix3 0 r c) ||| ·) ?_
  unfold kb
  refine if_congr ?_ rfl rfl
  show BitVec.ofNat 32 (n / 2 ^ 11) * BitVec.ofNat 32 128 + BitVec.ofNat 32 (n % 2 ^ 7) = BitVec.ofNat 32 c.val + BitVec.ofNat 32 g.val * BitVec.ofNat 32 128 ↔ _
  rw [← BitVec.ofNat_mul, ← BitVec.ofNat_add, ← BitVec.ofNat_mul, ← BitVec.ofNat_add]
  have hc := c.isLt
  constructor
  · intro h
    have := congrArg BitVec.toNat h
    rw [BitVec.toNat_ofNat, BitVec.toNat_ofNat] at this
    omega
  · rintro ⟨h, h'⟩
    congr 1
    omega

section
variable (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole)
  (v : IVec S256x128 32) (hv : ∀ r c, c.val < 48 → (v (ix2 r c)).toNat < 151936)

/-- The mask's contents as an array. -/
abbrev Rd (f : BufTy.Contents (Elt Ideal) arg5.view.ty) : Vec Ideal S75x256x128 .i32 := arg5.view.read (Elt Ideal) f

theorem off1_eq (k : Fin k0_t2_loop.trips) : k0_off1 k = ![k.val, 0, 0] := by
  have h2 : k.val < 75 := lt75 k
  show ![(Scf.iv 0#32 1#32 k.val).toNat, 0, 0] = _
  rw [iv_nat, BitVec.toNat_ofNat, Nat.mod_eq_of_lt (by omega)]

include hv in
theorem trip_read (k1 : Fin k0_t1_loop.trips) (g : Fin k0_t2_loop.trips) (f : BufTy.Contents (Elt Ideal) arg5.view.ty) (t : Fin 75) (r : Fin 256) (l : Fin 128) :
    Rd arg5 (arg5.view.writes (Elt Ideal) f (tripL_k0_t2 (F := Ideal) 𝒱₀ c none arg0 harg0 arg1 harg1 arg2 harg2 arg3 harg3 arg4 harg4 arg5 harg5 arg6 harg6 arg7 harg7 v k1 g f)) (ix3 t r l)
      = if t.val = g.val then Rd arg5 f (ix3 t r l) ||| kb (v (ix2 r (q1 k1))).toNat g.val l.val else Rd arg5 f (ix3 t r l) := by
  unfold tripL_k0_t2 trip_k0_t2
  dsimp only
  by_cases h : t.val = g.val
  · rw [if_pos h]
    refine (View.read_writes_cons_unit_of_mem arg5.view f _ _ _ _ (ix3 (0 : Fin 1) r l) (off1_eq g) ?_).trans ?_
    · intro a
      fin_cases a
      · show t.val = g.val + 0; omega
      · show r.val = 0 + r.val; omega
      · show l.val = 0 + l.val; omega
    · refine (pay1_apply v hv k1 g _ r l).trans ?_
      refine congrArg (· ||| _) ?_
      show arg5.view.read (Elt Ideal) f _ = _
      refine congrArg _ (funext fun a => Fin.ext ?_)
      fin_cases a
      · show k0_off1 g 0 + 1 * 0 = t.val; rw [off1_eq]; show g.val + 1 * 0 = t.val; omega
      · show k0_off1 g 1 + 1 * r.val = r.val; rw [off1_eq]; show 0 + 1 * r.val = r.val; omega
      · show k0_off1 g 2 + 1 * l.val = l.val; rw [off1_eq]; show 0 + 1 * l.val = l.val; omega
  · rw [if_neg h]
    refine (View.read_writes_cons_unit_of_not_mem arg5.view f _ _ _ _ (off1_eq g) (0 : Fin 3) ?_).trans ?_
    · show t.val < g.val ∨ g.val + 1 ≤ t.val; omega
    · rfl

include hv in
theorem inner_read (k1 : Fin k0_t1_loop.trips) (G : BufTy.Contents (Elt Ideal) arg5.view.ty) (t : Fin 75) (r : Fin 256) (l : Fin 128) : ∀ n, n ≤ 75 →
    Rd arg5 (arg5.view.writes (Elt Ideal) G (pb_k0_t2 (F := Ideal) 𝒱₀ c none arg0 harg0 arg1 harg1 arg2 harg2 arg3 harg3 arg4 harg4 arg5 harg5 arg6 harg6 arg7 harg7 v k1 G n)) (ix3 t r l)
      = if t.val < n then Rd arg5 G (ix3 t r l) ||| kb (v (ix2 r (q1 k1))).toNat t.val l.val else Rd arg5 G (ix3 t r l)
  | 0, _ => by rw [if_neg (by omega)]; rfl
  | n + 1, h => by
    have ih := inner_read k1 G t r l n (by omega)
    have e := pb_k0_t2_succ (F := Ideal) 𝒱₀ c none arg0 harg0 arg1 harg1 arg2 harg2 arg3 harg3 arg4 harg4 arg5 harg5 arg6 harg6 arg7 harg7 v k1 G ⟨n, lt_of_lt_of_eq (by omega) trips2.symm⟩
    rw [e, View.writes_append, trip_read c arg0 harg0 arg1 harg1 arg2 harg2 arg3 harg3 arg4 harg4 arg5 harg5 arg6 harg6 arg7 harg7 v hv]
    dsimp only
    rw [ih]
    by_cases h1 : t.val = n
    · rw [if_pos h1, if_neg (by omega), if_pos (by omega), h1]
    · rw [if_neg h1]
      exact if_congr (by omega) rfl rfl

include hv in
theorem outer_bit (G : BufTy.Contents (Elt Ideal) arg5.view.ty) (t : Fin 75) (r : Fin 256) (l : Fin 128) (hG : Rd arg5 G (ix3 t r l) = 0#32) (k : ℕ) (hk : k < 16) : ∀ n (hn : n ≤ 48),
    (Rd arg5 (arg5.view.writes (Elt Ideal) G (maskPieces (F := Ideal) c arg0 harg0 arg1 harg1 arg2 harg2 arg3 harg3 arg4 harg4 arg5 harg5 arg6 harg6 arg7 harg7 v G n)) (ix3 t r l)).getLsbD k = true
      ↔ ∃ q : Fin 48, q.val < n ∧ (v (ix2 r ⟨q.val, by omega⟩)).toNat = 2048 * t.val + 128 * k + l.val
  | 0, _ => by
    have e : Rd arg5 (arg5.view.writes (Elt Ideal) G (maskPieces (F := Ideal) c arg0 harg0 arg1 harg1 arg2 harg2 arg3 harg3 arg4 harg4 arg5 harg5 arg6 harg6 arg7 harg7 v G 0)) (ix3 t r l) = 0#32 := hG
    rw [e]
    simp
  | n + 1, hn => by
    have ih := outer_bit G t r l hG k hk n (by omega)
    have e := maskPieces_succ (F := Ideal) c arg0 harg0 arg1 harg1 arg2 harg2 arg3 harg3 arg4 harg4 arg5 harg5 arg6 harg6 arg7 harg7 v G ⟨n, lt_of_lt_of_eq (by omega) trips1.symm⟩
    rw [e, View.writes_append]
    have e2 := inner_read c arg0 harg0 arg1 harg1 arg2 harg2 arg3 harg3 arg4 harg4 arg5 harg5 arg6 harg6 arg7 harg7 v hv ⟨n, lt_of_lt_of_eq (by omega) trips1.symm⟩
      (arg5.view.writes (Elt Ideal) G (maskPieces (F := Ideal) c arg0 harg0 arg1 harg1 arg2 harg2 arg3 harg3 arg4 harg4 arg5 harg5 arg6 harg6 arg7 harg7 v G n)) t r l 75 le_rfl
    rw [if_pos t.isLt] at e2
    unfold tripMask
    rw [trips2]
    dsimp only at e2 ⊢
    rw [e2, BitVec.getLsbD_or, Bool.or_eq_true, ih, kb_bit _ _ _ _ l.isLt hk]
    constructor
    · rintro (⟨q, h1, h2⟩ | h)
      · exact ⟨q, by omega, h2⟩
      · exact ⟨⟨n, by omega⟩, by show n < n + 1; omega, h⟩
    · rintro ⟨q, h1, h2⟩
      by_cases hq : q.val < n
      · exact Or.inl ⟨q, hq, h2⟩
      · have hq' : q.val = n := by omega
        refine Or.inr ?_
        have : (⟨q.val, by omega⟩ : Fin 128) = q1 ⟨n, lt_of_lt_of_eq (by omega) trips1.symm⟩ := Fin.ext hq'
        rw [this] at h2; exact h2

theorem zero_slab {k : ℕ} (inb : ∀ a, (![k, 0, 0] : Fin 3 → ℕ) a + S1x256x128.size a ≤ S75x256x128.size a) (f : BufTy.Contents (Elt Ideal) arg5.view.ty)
    (w : (Rect.unit (s := S75x256x128) ![k, 0, 0] S1x256x128.size inb).shape.Idx → Elt Ideal .i32) (L : List (View.Piece (Elt Ideal) S75x256x128 .i32)) (hw : ∀ x, w x = 0#32)
    (y : S75x256x128.Idx) (h : (y 0).val ≠ k → Rd arg5 (arg5.view.writes (Elt Ideal) f L) y = 0#32) :
    Rd arg5 (arg5.view.writes (Elt Ideal) f (⟨Rect.unit (s := S75x256x128) ![k, 0, 0] S1x256x128.size inb, w⟩ :: L)) y = 0#32 := by
  show arg5.view.read (Elt Ideal) _ y = _
  rw [View.read_writes_cons_unit arg5.view f inb w L y rfl]
  split
  · exact hw _
  · next hn =>
    refine h fun e => hn fun a => ?_
    fin_cases a
    · show k ≤ (y 0).val ∧ (y 0).val < k + 1; omega
    · have := (y 1).isLt; exact ⟨Nat.zero_le _, by show (y 1).val < 0 + 256; exact lt_of_lt_of_eq this (by rfl)⟩
    · have := (y 2).isLt; exact ⟨Nat.zero_le _, by show (y 2).val < 0 + 128; exact lt_of_lt_of_eq this (by rfl)⟩

theorem zero_read (f : BufTy.Contents (Elt Ideal) arg5.view.ty) (y : S75x256x128.Idx) : Rd arg5 (arg5.view.writes (Elt Ideal) f (prepRun.sl.H5_75 (F := Ideal))) y = 0#32 := by
  have hy : (y 0).val < 75 := (y 0).isLt
  iterate 75 refine zero_slab arg5 _ f _ _ (fun _ => rfl) y (fun _ => ?_)
  omega

end

end Cert.KernelIdeal.Val

end
-- ==== Proof.Val.HeadRunFirst.lean ====
module

public import proofs.«01_k».proof.Proof.Val.HeadRun

@[expose] public section

set_option maxRecDepth 16384

noncomputable section

namespace Cert.KernelIdeal.Val

open Cert.KernelIdeal Cert.KernelIdeal.Gen Cert.KernelIdeal.Own Idealize Idealize.ShloMosaic

variable {F : FTy → Type} [FloatOps F]
variable (c : Dev nD) (i : grid1.Coords) (arg1 : Memref sig .tc .vmem S256x1536 .bf16) (arg2 : Memref sig .tc .vmem S2048x1536 .fp8e4m3)
  (arg3 : Memref sig .tc .vmem S12x2048 .f32) (arg4 : Memref sig .tc .vmem S1x256x128 .i32) (arg5 : Memref sig .tc .vmem S256x128 .i32)
  (arg6 : Memref sig .tc .vmem S256x128 .i32) (arg12 : Memref sig .tc .vmem S2048x1536 .bf16) (arg13 : Memref sig .tc .vmem S256x2048 .f32)
  (arg14 arg15 arg16 : Memref sig .tc .vmem S256x128 .f32)
  (f1 : Bf (F := F) c arg1) (f2 : Bf (F := F) c arg2) (f3 : Bf (F := F) c arg3) (f4 : Bf (F := F) c arg4) (f5 : Bf (F := F) c arg5) (f6 : Bf (F := F) c arg6)
  (f14 : Bf (F := F) c arg14) (f15 : Bf (F := F) c arg15) (f16 : Bf (F := F) c arg16)

theorem v152F_eq : headFirst.sl.v152 c arg1 arg2 arg3 arg12 arg13 f1 f2 f3
    = headMid.sl.v152 c arg1 arg2 arg3 arg12 arg13 f1 f2 f3 := rfl

theorem v187F_eq : headFirst.sl.v187 c i arg1 arg2 arg3 arg4 arg12 arg13 f1 f2 f3 f4
    = headMid.sl.v187 c i arg1 arg2 arg3 arg4 arg12 arg13 f1 f2 f3 f4 := rfl

theorem v222F_eq : headFirst.sl.v222 c i arg1 arg2 arg3 arg4 arg12 arg13 f1 f2 f3 f4
    = headMid.sl.v222 c i arg1 arg2 arg3 arg4 arg12 arg13 f1 f2 f3 f4 := rfl

theorem v257F_eq : headFirst.sl.v257 c i arg1 arg2 arg3 arg4 arg12 arg13 f1 f2 f3 f4
    = headMid.sl.v257 c i arg1 arg2 arg3 arg4 arg12 arg13 f1 f2 f3 f4 := rfl

theorem v292F_eq : headFirst.sl.v292 c i arg1 arg2 arg3 arg4 arg12 arg13 f1 f2 f3 f4
    = headMid.sl.v292 c i arg1 arg2 arg3 arg4 arg12 arg13 f1 f2 f3 f4 := rfl

theorem v327F_eq : headFirst.sl.v327 c i arg1 arg2 arg3 arg4 arg12 arg13 f1 f2 f3 f4
    = headMid.sl.v327 c i arg1 arg2 arg3 arg4 arg12 arg13 f1 f2 f3 f4 := rfl

theorem v362F_eq : headFirst.sl.v362 c i arg1 arg2 arg3 arg4 arg12 arg13 f1 f2 f3 f4
    = headMid.sl.v362 c i arg1 arg2 arg3 arg4 arg12 arg13 f1 f2 f3 f4 := rfl

theorem v397F_eq : headFirst.sl.v397 c i arg1 arg2 arg3 arg4 arg12 arg13 f1 f2 f3 f4
    = headMid.sl.v397 c i arg1 arg2 arg3 arg4 arg12 arg13 f1 f2 f3 f4 := rfl

theorem v432F_eq : headFirst.sl.v432 c i arg1 arg2 arg3 arg4 arg12 arg13 f1 f2 f3 f4
    = headMid.sl.v432 c i arg1 arg2 arg3 arg4 arg12 arg13 f1 f2 f3 f4 := rfl

theorem v467F_eq : headFirst.sl.v467 c i arg1 arg2 arg3 arg4 arg12 arg13 f1 f2 f3 f4
    = headMid.sl.v467 c i arg1 arg2 arg3 arg4 arg12 arg13 f1 f2 f3 f4 := rfl

theorem v502F_eq : headFirst.sl.v502 c i arg1 arg2 arg3 arg4 arg12 arg13 f1 f2 f3 f4
    = headMid.sl.v502 c i arg1 arg2 arg3 arg4 arg12 arg13 f1 f2 f3 f4 := rfl

theorem v537F_eq : headFirst.sl.v537 c i arg1 arg2 arg3 arg4 arg12 arg13 f1 f2 f3 f4
    = headMid.sl.v537 c i arg1 arg2 arg3 arg4 arg12 arg13 f1 f2 f3 f4 := rfl

theorem v572F_eq : headFirst.sl.v572 c i arg1 arg2 arg3 arg4 arg12 arg13 f1 f2 f3 f4
    = headMid.sl.v572 c i arg1 arg2 arg3 arg4 arg12 arg13 f1 f2 f3 f4 := rfl

theorem v607F_eq : headFirst.sl.v607 c i arg1 arg2 arg3 arg4 arg12 arg13 f1 f2 f3 f4
    = headMid.sl.v607 c i arg1 arg2 arg3 arg4 arg12 arg13 f1 f2 f3 f4 := rfl

theorem v642F_eq : headFirst.sl.v642 c i arg1 arg2 arg3 arg4 arg12 arg13 f1 f2 f3 f4
    = headMid.sl.v642 c i arg1 arg2 arg3 arg4 arg12 arg13 f1 f2 f3 f4 := rfl

theorem v677F_eq : headFirst.sl.v677 c i arg1 arg2 arg3 arg4 arg12 arg13 f1 f2 f3 f4
    = headMid.sl.v677 c i arg1 arg2 arg3 arg4 arg12 arg13 f1 f2 f3 f4 := rfl

theorem v719F_eq : headFirst.sl.v719 c i arg1 arg2 arg3 arg4 arg12 arg13 f1 f2 f3 f4
    = headMid.sl.v719 c i arg1 arg2 arg3 arg4 arg12 arg13 f1 f2 f3 f4 := rfl

theorem v723F_eq : headFirst.sl.v723 c i arg1 arg2 arg3 arg4 arg12 arg13 f1 f2 f3 f4
    = headMid.sl.v723 c i arg1 arg2 arg3 arg4 arg12 arg13 f1 f2 f3 f4 := rfl

theorem v727F_eq : headFirst.sl.v727 c i arg1 arg2 arg3 arg4 arg12 arg13 f1 f2 f3 f4
    = headMid.sl.v727 c i arg1 arg2 arg3 arg4 arg12 arg13 f1 f2 f3 f4 := rfl

theorem v731F_eq : headFirst.sl.v731 c i arg1 arg2 arg3 arg4 arg12 arg13 f1 f2 f3 f4
    = headMid.sl.v731 c i arg1 arg2 arg3 arg4 arg12 arg13 f1 f2 f3 f4 := rfl

theorem v735F_eq : headFirst.sl.v735 c i arg1 arg2 arg3 arg4 arg12 arg13 f1 f2 f3 f4
    = headMid.sl.v735 c i arg1 arg2 arg3 arg4 arg12 arg13 f1 f2 f3 f4 := rfl

theorem v739F_eq : headFirst.sl.v739 c i arg1 arg2 arg3 arg4 arg12 arg13 f1 f2 f3 f4
    = headMid.sl.v739 c i arg1 arg2 arg3 arg4 arg12 arg13 f1 f2 f3 f4 := rfl

theorem v743F_eq : headFirst.sl.v743 c i arg1 arg2 arg3 arg4 arg12 arg13 f1 f2 f3 f4
    = headMid.sl.v743 c i arg1 arg2 arg3 arg4 arg12 arg13 f1 f2 f3 f4 := rfl

theorem v747F_eq : headFirst.sl.v747 c i arg1 arg2 arg3 arg4 arg12 arg13 f1 f2 f3 f4
    = headMid.sl.v747 c i arg1 arg2 arg3 arg4 arg12 arg13 f1 f2 f3 f4 := rfl

theorem v751F_eq : headFirst.sl.v751 c i arg1 arg2 arg3 arg4 arg12 arg13 f1 f2 f3 f4
    = headMid.sl.v751 c i arg1 arg2 arg3 arg4 arg12 arg13 f1 f2 f3 f4 := rfl

theorem v755F_eq : headFirst.sl.v755 c i arg1 arg2 arg3 arg4 arg12 arg13 f1 f2 f3 f4
    = headMid.sl.v755 c i arg1 arg2 arg3 arg4 arg12 arg13 f1 f2 f3 f4 := rfl

theorem v759F_eq : headFirst.sl.v759 c i arg1 arg2 arg3 arg4 arg12 arg13 f1 f2 f3 f4
    = headMid.sl.v759 c i arg1 arg2 arg3 arg4 arg12 arg13 f1 f2 f3 f4 := rfl

theorem v763F_eq : headFirst.sl.v763 c i arg1 arg2 arg3 arg4 arg12 arg13 f1 f2 f3 f4
    = headMid.sl.v763 c i arg1 arg2 arg3 arg4 arg12 arg13 f1 f2 f3 f4 := rfl

theorem v767F_eq : headFirst.sl.v767 c i arg1 arg2 arg3 arg4 arg12 arg13 f1 f2 f3 f4
    = headMid.sl.v767 c i arg1 arg2 arg3 arg4 arg12 arg13 f1 f2 f3 f4 := rfl

theorem v771F_eq : headFirst.sl.v771 c i arg1 arg2 arg3 arg4 arg12 arg13 f1 f2 f3 f4
    = headMid.sl.v771 c i arg1 arg2 arg3 arg4 arg12 arg13 f1 f2 f3 f4 := rfl

theorem v775F_eq : headFirst.sl.v775 c i arg1 arg2 arg3 arg4 arg12 arg13 f1 f2 f3 f4
    = headMid.sl.v775 c i arg1 arg2 arg3 arg4 arg12 arg13 f1 f2 f3 f4 := rfl

theorem v779F_eq : headFirst.sl.v779 c i arg1 arg2 arg3 arg4 arg12 arg13 f1 f2 f3 f4
    = headMid.sl.v779 c i arg1 arg2 arg3 arg4 arg12 arg13 f1 f2 f3 f4 := rfl

theorem r50F_eq : headFirst.sl.r_50 c i arg1 arg2 arg3 arg4 arg12 arg13 arg14 f1 f2 f3 f4
    = mF (BitVec.ofNat 32 (i 0).val) (headFirst.sl.r_5 c arg4 f4) (zM c arg1 arg2 arg3 arg12 f1 f2 f3) (headFirst.sl.v150 arg14) 16 := by
  simp only [v152F_eq, v187F_eq, v222F_eq, v257F_eq, v292F_eq, v327F_eq, v362F_eq, v397F_eq, v432F_eq, v467F_eq, v502F_eq, v537F_eq, v572F_eq, v607F_eq, v642F_eq, v677F_eq, v719F_eq, v723F_eq, v727F_eq, v731F_eq, v735F_eq, v739F_eq, v743F_eq, v747F_eq, v751F_eq, v755F_eq, v759F_eq, v763F_eq, v767F_eq, v771F_eq, v775F_eq, v779F_eq, headFirst.sl.r_50, headFirst.sl.r_49, headFirst.sl.r_47, headFirst.sl.r_45, headFirst.sl.r_42, headFirst.sl.r_39, headFirst.sl.r_35, headFirst.sl.r_33, headFirst.sl.r_31, headFirst.sl.r_29, headFirst.sl.r_27, headFirst.sl.r_26, headFirst.sl.r_25, headFirst.sl.r_23, headFirst.sl.r_22, headFirst.sl.r_20, headFirst.sl.r_18, headFirst.sl.r_15, headFirst.sl.r_12, headFirst.sl.r_8, v152_eq, v187_eq, v222_eq, v257_eq, v292_eq, v327_eq, v362_eq, v397_eq, v432_eq, v467_eq, v502_eq, v537_eq, v572_eq, v607_eq, v642_eq, v677_eq, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, shapeCast_self]
  rfl

theorem r48F_eq : headFirst.sl.r_48 c i arg1 arg2 arg3 arg4 arg5 arg6 arg12 arg13 arg16 f1 f2 f3 f4 f5 f6
    = gF (BitVec.ofNat 32 (i 0).val) (headFirst.sl.r_6 c arg5 f5) (View.readAt (Elt F) arg6.view (Rect.unit ![0, 0] S256x128.size inb_S256x128_S256x128_0_0).toLoadRect f6)
        (zM c arg1 arg2 arg3 arg12 f1 f2 f3) (headFirst.sl.v151 arg16) 16 := by
  simp only [v152F_eq, v187F_eq, v222F_eq, v257F_eq, v292F_eq, v327F_eq, v362F_eq, v397F_eq, v432F_eq, v467F_eq, v502F_eq, v537F_eq, v572F_eq, v607F_eq, v642F_eq, v677F_eq, v719F_eq, v723F_eq, v727F_eq, v731F_eq, v735F_eq, v739F_eq, v743F_eq, v747F_eq, v751F_eq, v755F_eq, v759F_eq, v763F_eq, v767F_eq, v771F_eq, v775F_eq, v779F_eq, headFirst.sl.r_48, headFirst.sl.r_46, headFirst.sl.r_44, headFirst.sl.r_43, headFirst.sl.r_41, headFirst.sl.r_40, headFirst.sl.r_38, headFirst.sl.r_37, headFirst.sl.r_36, headFirst.sl.r_34, headFirst.sl.r_32, headFirst.sl.r_30, headFirst.sl.r_28, headFirst.sl.r_24, headFirst.sl.r_21, headFirst.sl.r_19, headFirst.sl.r_17, headFirst.sl.r_16, headFirst.sl.r_14, headFirst.sl.r_13, headFirst.sl.r_11, headFirst.sl.r_10, headFirst.sl.r_9, headFirst.sl.r_7, v152_eq, v187_eq, v222_eq, v257_eq, v292_eq, v327_eq, v362_eq, v397_eq, v432_eq, v467_eq, v502_eq, v537_eq, v572_eq, v607_eq, v642_eq, v677_eq, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, shapeCast_self]
  rfl

theorem lsumF_eq : k1_pay1 (headFirst.sl.r_50 c i arg1 arg2 arg3 arg4 arg12 arg13 arg14 f1 f2 f3 f4)
      (headFirst.sl.r_52 c i arg1 arg2 arg3 arg4 arg12 arg13 arg14 arg15 f1 f2 f3 f4) (headFirst.sl.v779 c i arg1 arg2 arg3 arg4 arg12 arg13 f1 f2 f3 f4)
    = lF (BitVec.ofNat 32 (i 0).val) (headFirst.sl.r_5 c arg4 f4) (zM c arg1 arg2 arg3 arg12 f1 f2 f3) (headFirst.sl.v150 arg14)
        (headFirst.sl.r_50 c i arg1 arg2 arg3 arg4 arg12 arg13 arg14 f1 f2 f3 f4)
        (headFirst.sl.v715 arg15) 16 := by
  simp only [v152F_eq, v187F_eq, v222F_eq, v257F_eq, v292F_eq, v327F_eq, v362F_eq, v397F_eq, v432F_eq, v467F_eq, v502F_eq, v537F_eq, v572F_eq, v607F_eq, v642F_eq, v677F_eq, v719F_eq, v723F_eq, v727F_eq, v731F_eq, v735F_eq, v739F_eq, v743F_eq, v747F_eq, v751F_eq, v755F_eq, v759F_eq, v763F_eq, v767F_eq, v771F_eq, v775F_eq, v779F_eq, headFirst.sl.r_52, headFirst.sl.r_51, v719_eq, v723_eq, v727_eq, v731_eq, v735_eq, v739_eq, v743_eq, v747_eq, v751_eq, v755_eq, v759_eq, v763_eq, v767_eq, v771_eq, v775_eq, v779_eq, k1_pay1, k1_pay114, k1_pay115, shapeCast_self]
  rfl

end Cert.KernelIdeal.Val
-- ==== Proof.Val.HeadVals.lean ====
module

public import proofs.«01_k».proof.Proof.Val.HeadRunFirst
public import proofs.«01_k».proof.Proof.Val.HeadW

@[expose] public section

set_option maxRecDepth 16384

noncomputable section

namespace Cert.KernelIdeal.Val

open Cert.KernelIdeal Cert.KernelIdeal.Gen Cert.KernelIdeal.Own Idealize Idealize.ShloMosaic

/-- The logits of a tile. -/
def zT (x1 : Vec Ideal S256x1536 .bf16) (x2 : Vec Ideal S2048x1536 .fp8e4m3) (x3 : Vec Ideal S12x2048 .f32) : FVec Ideal S256x2048 .f32 := k1_pay31 x1 (wbV x2 x3)

/-- What one tile makes of the running maximum, -/
def stepM (i : grid1.Coords) (x1 : Vec Ideal S256x1536 .bf16) (x2 : Vec Ideal S2048x1536 .fp8e4m3) (x3 : Vec Ideal S12x2048 .f32) (x4 : Vec Ideal S1x256x128 .i32)
    (m : Vec Ideal S256x128 .f32) : Vec Ideal S256x128 .f32 := mF (BitVec.ofNat 32 (i 0).val) (k1_pay32 (F := Ideal) x4) (zT x1 x2 x3) m 16
/-- of the running sum, -/
def stepL (i : grid1.Coords) (x1 : Vec Ideal S256x1536 .bf16) (x2 : Vec Ideal S2048x1536 .fp8e4m3) (x3 : Vec Ideal S12x2048 .f32) (x4 : Vec Ideal S1x256x128 .i32)
    (m l : Vec Ideal S256x128 .f32) : Vec Ideal S256x128 .f32 :=
  lF (BitVec.ofNat 32 (i 0).val) (k1_pay32 (F := Ideal) x4) (zT x1 x2 x3) m (stepM i x1 x2 x3 x4 m) l 16
/-- and of the gathered logits. -/
def stepG (i : grid1.Coords) (x1 : Vec Ideal S256x1536 .bf16) (x2 : Vec Ideal S2048x1536 .fp8e4m3) (x3 : Vec Ideal S12x2048 .f32) (x5 x6 : Vec Ideal S256x128 .i32)
    (zs : Vec Ideal S256x128 .f32) : Vec Ideal S256x128 .f32 := gF (BitVec.ofNat 32 (i 0).val) x5 x6 (zT x1 x2 x3) zs 16

theorem readAt_whole2 {e : EltTy} {s : Shape} (arg : Memref sig .tc .vmem s e) (harg : arg.IsWhole) (x : Vec Ideal s e) {off : Fin s.rank → ℕ}
    (inb : ∀ a, off a + s.size a ≤ s.size a) :
    View.readAt (Elt Ideal) arg.view (Rect.unit off s.size inb).toLoadRect (harg.unread x) = x :=
  (View.readAt_full _ _ _).trans (harg.read_unread x)

theorem zM_eq (c : Dev nD) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole)
    (arg12 : Memref sig .tc .vmem S2048x1536 .bf16) (x1 : Vec Ideal S256x1536 .bf16) (x2 : Vec Ideal S2048x1536 .fp8e4m3) (x3 : Vec Ideal S12x2048 .f32) :
    zM (F := Ideal) c arg1 arg2 arg3 arg12 (harg1.unread x1) (harg2.unread x2) (harg3.unread x3) = zT x1 x2 x3 := by
  unfold zM zT
  rw [v142_eq, readAt_whole2]

theorem canon_whole {s : Shape} {e : EltTy} {off : Fin s.rank → ℕ} (inb : ∀ a, off a + s.size a ≤ s.size a) (w : Vec Ideal s e) (L : List (View.Piece (Elt Ideal) s e)) (h : ∀ a, off a = 0) :
    View.canon ((⟨Rect.unit off s.size inb, w⟩ : View.Piece (Elt Ideal) s e) :: L) = w := View.canon_cons_unit_zero (funext h) inb w L

theorem mid_m (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg12 : Memref sig .tc .vmem S2048x1536 .bf16) (arg13 : Memref sig .tc .vmem S256x2048 .f32) (arg14 : Memref sig .tc .vmem S256x128 .f32) (harg14 : arg14.IsWhole) (x1 : Vec Ideal S256x1536 .bf16) (x2 : Vec Ideal S2048x1536 .fp8e4m3) (x3 : Vec Ideal S12x2048 .f32) (x4 : Vec Ideal S1x256x128 .i32) (x14 : Vec Ideal S256x128 .f32) :
    headMid.sl.r_52 (F := Ideal) c i arg1 arg2 arg3 arg4 arg12 arg13 arg14 (harg1.unread x1) (harg2.unread x2) (harg3.unread x3) (harg4.unread x4) (harg14.unread x14) = stepM i x1 x2 x3 x4 x14 := by
  refine (r52_eq ..).trans ?_
  unfold headMid.sl.r_5 headMid.sl.r_6
  rw [zM_eq, readAt_whole2, readAt_whole2]
  rfl

theorem mid_l (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg12 : Memref sig .tc .vmem S2048x1536 .bf16) (arg13 : Memref sig .tc .vmem S256x2048 .f32) (arg14 : Memref sig .tc .vmem S256x128 .f32) (harg14 : arg14.IsWhole) (arg15 : Memref sig .tc .vmem S256x128 .f32) (harg15 : arg15.IsWhole) (x1 : Vec Ideal S256x1536 .bf16) (x2 : Vec Ideal S2048x1536 .fp8e4m3) (x3 : Vec Ideal S12x2048 .f32) (x4 : Vec Ideal S1x256x128 .i32) (x14 : Vec Ideal S256x128 .f32) (x15 : Vec Ideal S256x128 .f32) :
    k1_pay1 (F := Ideal) (headMid.sl.r_52 (F := Ideal) c i arg1 arg2 arg3 arg4 arg12 arg13 arg14 (harg1.unread x1) (harg2.unread x2) (harg3.unread x3) (harg4.unread x4) (harg14.unread x14)) (headMid.sl.r_54 (F := Ideal) c i arg1 arg2 arg3 arg4 arg12 arg13 arg14 arg15 (harg1.unread x1) (harg2.unread x2) (harg3.unread x3) (harg4.unread x4) (harg14.unread x14) (harg15.unread x15)) (headMid.sl.v779 (F := Ideal) c i arg1 arg2 arg3 arg4 arg12 arg13 (harg1.unread x1) (harg2.unread x2) (harg3.unread x3) (harg4.unread x4)) = stepL i x1 x2 x3 x4 x14 x15 := by
  refine (lsum_eq ..).trans ?_
  rw [mid_m, zM_eq]
  unfold headMid.sl.r_5 headMid.sl.r_6
  rw [readAt_whole2, readAt_whole2, readAt_whole2]
  rfl

theorem mid_g (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg12 : Memref sig .tc .vmem S2048x1536 .bf16) (arg13 : Memref sig .tc .vmem S256x2048 .f32) (arg16 : Memref sig .tc .vmem S256x128 .f32) (harg16 : arg16.IsWhole) (x1 : Vec Ideal S256x1536 .bf16) (x2 : Vec Ideal S2048x1536 .fp8e4m3) (x3 : Vec Ideal S12x2048 .f32) (x4 : Vec Ideal S1x256x128 .i32) (x5 : Vec Ideal S256x128 .i32) (x6 : Vec Ideal S256x128 .i32) (x16 : Vec Ideal S256x128 .f32) :
    headMid.sl.r_50 (F := Ideal) c i arg1 arg2 arg3 arg4 arg5 arg6 arg12 arg13 arg16 (harg1.unread x1) (harg2.unread x2) (harg3.unread x3) (harg4.unread x4) (harg5.unread x5) (harg6.unread x6) (harg16.unread x16) = stepG i x1 x2 x3 x5 x6 x16 := by
  refine (r50_eq ..).trans ?_
  unfold headMid.sl.r_8 headMid.sl.r_7
  rw [zM_eq, readAt_whole2, readAt_whole2, readAt_whole2]
  rfl

theorem pay2_id (v : FVec Ideal S256x128 .f32) : k1_pay2 v = v := shapeCast_self _ _
theorem pay113_id (v : FVec Ideal S256x128 .f32) : k1_pay113 v = v := shapeCast_self _ _

theorem v150F_eq (arg14 : Memref sig .tc .vmem S256x128 .f32) : headFirst.sl.v150 (F := Ideal) arg14 = k1_pay11 (F := Ideal) := by
  unfold headFirst.sl.v150 headFirst.sl.H14_1
  exact View.readCov_cons_toLoadRect (Val := Elt Ideal) _ _ _ _

theorem v715F_eq (arg15 : Memref sig .tc .vmem S256x128 .f32) : headFirst.sl.v715 (F := Ideal) arg15 = k1_pay12 (F := Ideal) := by
  unfold headFirst.sl.v715 headFirst.sl.H15_1
  exact View.readCov_cons_toLoadRect (Val := Elt Ideal) _ _ _ _

theorem v151F_eq (arg16 : Memref sig .tc .vmem S256x128 .f32) : headFirst.sl.v151 (F := Ideal) arg16 = k1_pay13 (F := Ideal) := by
  unfold headFirst.sl.v151 headFirst.sl.H16_1
  exact View.readCov_cons_toLoadRect (Val := Elt Ideal) _ _ _ _

theorem first_m (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg12 : Memref sig .tc .vmem S2048x1536 .bf16) (arg13 : Memref sig .tc .vmem S256x2048 .f32) (arg14 : Memref sig .tc .vmem S256x128 .f32) (x1 : Vec Ideal S256x1536 .bf16) (x2 : Vec Ideal S2048x1536 .fp8e4m3) (x3 : Vec Ideal S12x2048 .f32) (x4 : Vec Ideal S1x256x128 .i32) :
    headFirst.sl.r_50 (F := Ideal) c i arg1 arg2 arg3 arg4 arg12 arg13 arg14 (harg1.unread x1) (harg2.unread x2) (harg3.unread x3) (harg4.unread x4) = stepM i x1 x2 x3 x4 (k1_pay11 (F := Ideal)) := by
  refine (r50F_eq ..).trans ?_
  unfold headFirst.sl.r_5
  rw [zM_eq, readAt_whole2, v150F_eq]
  rfl

theorem first_l (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg12 : Memref sig .tc .vmem S2048x1536 .bf16) (arg13 : Memref sig .tc .vmem S256x2048 .f32) (arg14 : Memref sig .tc .vmem S256x128 .f32) (arg15 : Memref sig .tc .vmem S256x128 .f32) (x1 : Vec Ideal S256x1536 .bf16) (x2 : Vec Ideal S2048x1536 .fp8e4m3) (x3 : Vec Ideal S12x2048 .f32) (x4 : Vec Ideal S1x256x128 .i32) :
    k1_pay1 (F := Ideal) (headFirst.sl.r_50 (F := Ideal) c i arg1 arg2 arg3 arg4 arg12 arg13 arg14 (harg1.unread x1) (harg2.unread x2) (harg3.unread x3) (harg4.unread x4)) (headFirst.sl.r_52 (F := Ideal) c i arg1 arg2 arg3 arg4 arg12 arg13 arg14 arg15 (harg1.unread x1) (harg2.unread x2) (harg3.unread x3) (harg4.unread x4)) (headFirst.sl.v779 (F := Ideal) c i arg1 arg2 arg3 arg4 arg12 arg13 (harg1.unread x1) (harg2.unread x2) (harg3.unread x3) (harg4.unread x4)) = stepL i x1 x2 x3 x4 (k1_pay11 (F := Ideal)) (k1_pay12 (F := Ideal)) := by
  refine (lsumF_eq ..).trans ?_
  rw [first_m, zM_eq]
  unfold headFirst.sl.r_5
  rw [readAt_whole2, v150F_eq, v715F_eq]
  rfl

theorem first_g (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg12 : Memref sig .tc .vmem S2048x1536 .bf16) (arg13 : Memref sig .tc .vmem S256x2048 .f32) (arg16 : Memref sig .tc .vmem S256x128 .f32) (x1 : Vec Ideal S256x1536 .bf16) (x2 : Vec Ideal S2048x1536 .fp8e4m3) (x3 : Vec Ideal S12x2048 .f32) (x4 : Vec Ideal S1x256x128 .i32) (x5 : Vec Ideal S256x128 .i32) (x6 : Vec Ideal S256x128 .i32) :
    headFirst.sl.r_48 (F := Ideal) c i arg1 arg2 arg3 arg4 arg5 arg6 arg12 arg13 arg16 (harg1.unread x1) (harg2.unread x2) (harg3.unread x3) (harg4.unread x4) (harg5.unread x5) (harg6.unread x6) = stepG i x1 x2 x3 x5 x6 (k1_pay13 (F := Ideal)) := by
  refine (r48F_eq ..).trans ?_
  unfold headFirst.sl.r_6
  rw [zM_eq, readAt_whole2, readAt_whole2, v151F_eq]
  rfl

set_option maxHeartbeats 1000000 in
theorem midVals_eq (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : ¬condLast i) (x1 : Vec Ideal S256x1536 .bf16) (x2 : Vec Ideal S2048x1536 .fp8e4m3) (x3 : Vec Ideal S12x2048 .f32) (x4 : Vec Ideal S1x256x128 .i32) (x5 : Vec Ideal S256x128 .i32) (x6 : Vec Ideal S256x128 .i32) (x14 : Vec Ideal S256x128 .f32) (x15 : Vec Ideal S256x128 .f32) (x16 : Vec Ideal S256x128 .f32) :
    midVals (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x14 x15 x16 = (stepM i x1 x2 x3 x4 x14, stepL i x1 x2 x3 x4 x14 x15, stepG i x1 x2 x3 x5 x6 x16) := by
  unfold midVals headMid
  dsimp only
  rw [View.read_writes_junk_eq_canon, View.read_writes_junk_eq_canon, View.read_writes_junk_eq_canon]
  unfold headMid.sl.H14_1 headMid.sl.H15_1 headMid.sl.H16_1
  refine Prod.ext ((canon_whole _ _ _ (by decide)).trans ?_) (Prod.ext ((canon_whole _ _ _ (by decide)).trans ?_) ((canon_whole _ _ _ (by decide)).trans ?_))
  · exact (pay2_id _).trans (mid_m (c := c) ..)
  · exact mid_l (c := c) ..
  · exact (pay113_id _).trans (mid_g (c := c) ..)

set_option maxHeartbeats 1000000 in
theorem firstVals_eq (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : condFirst i) (h2 : ¬condLast i) (x1 : Vec Ideal S256x1536 .bf16) (x2 : Vec Ideal S2048x1536 .fp8e4m3) (x3 : Vec Ideal S12x2048 .f32) (x4 : Vec Ideal S1x256x128 .i32) (x5 : Vec Ideal S256x128 .i32) (x6 : Vec Ideal S256x128 .i32) :
    firstVals (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 = (stepM i x1 x2 x3 x4 (k1_pay11 (F := Ideal)), stepL i x1 x2 x3 x4 (k1_pay11 (F := Ideal)) (k1_pay12 (F := Ideal)), stepG i x1 x2 x3 x5 x6 (k1_pay13 (F := Ideal))) := by
  unfold firstVals headFirst
  dsimp only
  rw [View.read_writes_junk_eq_canon, View.read_writes_junk_eq_canon, View.read_writes_junk_eq_canon]
  unfold headFirst.sl.H14_2 headFirst.sl.H15_2 headFirst.sl.H16_2
  refine Prod.ext ((canon_whole _ _ _ (by decide)).trans ?_) (Prod.ext ((canon_whole _ _ _ (by decide)).trans ?_) ((canon_whole _ _ _ (by decide)).trans ?_))
  · exact (pay2_id _).trans (first_m ..)
  · exact first_l ..
  · exact (pay113_id _).trans (first_g ..)

/-- The rows' results, from the scratch left by the last tile. -/
def fin7 (x7 : Vec Ideal S48x256 .bf16) (m l zs : Vec Ideal S256x128 .f32) : Vec Ideal S1x256 .f32 :=
  k1_pay3 (F := Ideal) (k1_pay4 m l) (k1_pay5 zs) (k1_pay6 m l zs) (k1_pay7 x7) (k1_pay8 x7) (k1_pay9 x7) (k1_pay10 x7)

set_option maxHeartbeats 2000000 in
theorem lastVals_eq (c : Dev nD) (i : grid1.Coords) (arg1 : Memref sig .tc .vmem S256x1536 .bf16) (harg1 : arg1.IsWhole) (arg2 : Memref sig .tc .vmem S2048x1536 .fp8e4m3) (harg2 : arg2.IsWhole) (arg3 : Memref sig .tc .vmem S12x2048 .f32) (harg3 : arg3.IsWhole) (arg4 : Memref sig .tc .vmem S1x256x128 .i32) (harg4 : arg4.IsWhole) (arg5 : Memref sig .tc .vmem S256x128 .i32) (harg5 : arg5.IsWhole) (arg6 : Memref sig .tc .vmem S256x128 .i32) (harg6 : arg6.IsWhole) (arg7 : Memref sig .tc .vmem S48x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S48x256 .f32) (harg11 : arg11.IsWhole) (arg12 : Memref sig .tc .vmem S2048x1536 .bf16) (harg12 : arg12.IsWhole) (arg13 : Memref sig .tc .vmem S256x2048 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (h1 : ¬condFirst i) (h2 : condLast i) (x1 : Vec Ideal S256x1536 .bf16) (x2 : Vec Ideal S2048x1536 .fp8e4m3) (x3 : Vec Ideal S12x2048 .f32) (x4 : Vec Ideal S1x256x128 .i32) (x5 : Vec Ideal S256x128 .i32) (x6 : Vec Ideal S256x128 .i32) (x7 : Vec Ideal S48x256 .bf16) (x14 : Vec Ideal S256x128 .f32) (x15 : Vec Ideal S256x128 .f32) (x16 : Vec Ideal S256x128 .f32) :
    lastVals (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x1 x2 x3 x4 x5 x6 x7 x14 x15 x16 =
      (fin7 x7 (stepM i x1 x2 x3 x4 x14) (stepL i x1 x2 x3 x4 x14 x15) (stepG i x1 x2 x3 x5 x6 x16),
        k1_pay6 (F := Ideal) (stepM i x1 x2 x3 x4 x14) (stepL i x1 x2 x3 x4 x14 x15) (stepG i x1 x2 x3 x5 x6 x16),
        k1_pay4 (F := Ideal) (stepM i x1 x2 x3 x4 x14) (stepL i x1 x2 x3 x4 x14 x15),
        k1_pay5 (F := Ideal) (stepG i x1 x2 x3 x5 x6 x16)) := by
  have a14 : headLast.sl.v792 (F := Ideal) c i arg1 arg2 arg3 arg4 arg12 arg13 arg14 (harg1.unread x1) (harg2.unread x2) (harg3.unread x3) (harg4.unread x4) (harg14.unread x14) = stepM i x1 x2 x3 x4 x14 := by
    unfold headLast.sl.v792 headLast.sl.H14_1
    refine (View.readCov_cons_toLoadRect _ _ _ _).trans ?_
    exact (pay2_id _).trans (mid_m (c := c) ..)
  have a15 : headLast.sl.v794 (F := Ideal) c i arg1 arg2 arg3 arg4 arg12 arg13 arg14 arg15 (harg1.unread x1) (harg2.unread x2) (harg3.unread x3) (harg4.unread x4) (harg14.unread x14) (harg15.unread x15) = stepL i x1 x2 x3 x4 x14 x15 := by
    unfold headLast.sl.v794 headLast.sl.H15_1
    refine (View.readCov_cons_toLoadRect _ _ _ _).trans ?_
    exact mid_l (c := c) ..
  have a16 : headLast.sl.v806 (F := Ideal) c i arg1 arg2 arg3 arg4 arg5 arg6 arg12 arg13 arg16 (harg1.unread x1) (harg2.unread x2) (harg3.unread x3) (harg4.unread x4) (harg5.unread x5) (harg6.unread x6) (harg16.unread x16) = stepG i x1 x2 x3 x5 x6 x16 := by
    unfold headLast.sl.v806 headLast.sl.H16_1
    refine (View.readCov_cons_toLoadRect _ _ _ _).trans ?_
    exact (pay113_id _).trans (mid_g (c := c) ..)
  unfold lastVals headLast
  dsimp only
  rw [View.read_writes_junk_eq_canon, View.read_writes_junk_eq_canon, View.read_writes_junk_eq_canon, View.read_writes_junk_eq_canon]
  unfold headLast.sl.H8_1 headLast.sl.H9_1 headLast.sl.H10_1 headLast.sl.H11_1
  refine Prod.ext ((canon_whole _ _ _ (by decide)).trans ?_) (Prod.ext ((canon_whole _ _ _ (by decide)).trans ?_) (Prod.ext ((canon_whole _ _ _ (by decide)).trans ?_) ((canon_whole _ _ _ (by decide)).trans ?_)))
  · unfold headLast.sl.r_55 headLast.sl.r_56 headLast.sl.r_57 headLast.sl.r_58 headLast.sl.r_59 headLast.sl.r_60 headLast.sl.r_61
    rw [a14, a15, a16, readAt_whole2]
    rfl
  · unfold headLast.sl.r_57
    rw [a14, a15, a16]
  · unfold headLast.sl.r_55
    rw [a14, a15]
  · unfold headLast.sl.r_56
    rw [a16]

end Cert.KernelIdeal.Val
-- ==== Proof.Val.PrepVals.lean ====
/- What the quantising kernel leaves in its six results. -/
module

public import Idealize.ShloMosaic.Lib.Pointwise
public import proofs.«01_k».proof.Proof.Val.Mask
public import proofs.«01_k».proof.Proof.Val.HeadVals

@[expose] public section

set_option maxRecDepth 16384

noncomputable section

namespace Cert.KernelIdeal.Val

open Cert.KernelIdeal Cert.KernelIdeal.Gen Cert.KernelIdeal.Own Idealize Idealize.ShloMosaic Cert.Val

/-- One channel block of the operand. -/
def colV (x : Vec Ideal S256x1536 .bf16) (b : Fin 12) : Vec Ideal S256x128 .bf16 := fun i => x (ix2 (i 0) ⟨b.val * 128 + (i 1).val, by have h : (i 1).val < 128 := (i 1).isLt; omega⟩)

/-- A function of the blocks, laid side by side. -/
def side {α : Type} (g : Vec Ideal S256x128 .bf16 → S256x128.Idx → α) (x : Vec Ideal S256x1536 .bf16) : S256x1536.Idx → α := fun y =>
  g (colV x ⟨(y 1).val / 128, by have h : (y 1).val < 1536 := (y 1).isLt; omega⟩) (ix2 (y 0) ⟨(y 1).val % 128, by omega⟩)

theorem not_col2 (off : ℕ) (inb : ∀ a, (![0, off] : Fin 2 → ℕ) a + S256x128.size a ≤ S256x1536.size a) (y : S256x1536.Idx)
    (h : y ∉ (Rect.unit (s := S256x1536) ![0, off] S256x128.size inb).set) : (y 1).val < off ∨ off + 128 ≤ (y 1).val := by
  by_contra hc
  push Not at hc
  refine h (Rect.mem_set_unit.mpr fun a => ?_)
  fin_cases a
  · exact ⟨Nat.zero_le _, by show (y 0).val < 0 + 256; have := (y 0).isLt; exact lt_of_lt_of_eq this (by rfl)⟩
  · exact hc

theorem ld_col (arg0 : Memref sig .tc .vmem S256x1536 .bf16) (harg0 : arg0.IsWhole) (x : Vec Ideal S256x1536 .bf16) (k : Fin 12) (off : ℕ) (ho : off = k.val * 128)
    (inb : ∀ a, (![0, off] : Fin 2 → ℕ) a + S256x128.size a ≤ S256x1536.size a) :
    View.readAt (Elt Ideal) arg0.view (Rect.unit (s := S256x1536) ![0, off] S256x128.size inb).toLoadRect (harg0.unread x) = colV x k := by
  subst ho
  rw [View.readAt_eq_ld, harg0.read_unread]
  funext i
  refine congrArg x (funext fun a => Fin.ext ?_)
  fin_cases a
  · show 0 + 1 * (i 0).val = (i 0).val; omega
  · show k.val * 128 + 1 * (i 1).val = k.val * 128 + (i 1).val; omega

theorem side_at {α : Type} (g : Vec Ideal S256x128 .bf16 → S256x128.Idx → α) (x : Vec Ideal S256x1536 .bf16) (k : Fin 12) (off : ℕ) (ho : off = k.val * 128)
    (inb : ∀ a, (![0, off] : Fin 2 → ℕ) a + S256x128.size a ≤ S256x1536.size a) (w : S256x128.Idx → α) (hw : w = g (colV x k)) (i : S256x128.Idx) :
    w i = side g x ((Rect.unit (s := S256x1536) ![0, off] S256x128.size inb).emb i) := by
  subst hw
  subst ho
  have hi : (i 1).val < 128 := (i 1).isLt
  have hk := k.isLt
  unfold side
  have e1 : (⟨((Rect.unit (s := S256x1536) ![0, k.val * 128] S256x128.size inb).emb i 1).val / 128, by
      have h : ((Rect.unit (s := S256x1536) ![0, k.val * 128] S256x128.size inb).emb i 1).val < 1536 := ((Rect.unit (s := S256x1536) ![0, k.val * 128] S256x128.size inb).emb i 1).isLt
      omega⟩ : Fin 12) = k := Fin.ext (by show (k.val * 128 + 1 * (i 1).val) / 128 = k.val; omega)
  rw [e1]
  refine congrArg _ (funext fun a => Fin.ext ?_)
  fin_cases a
  · show (i 0).val = 0 + 1 * (i 0).val; omega
  · show (i 1).val = (k.val * 128 + 1 * (i 1).val) % 128; omega

/-- Twelve blocks stored side by side read as the whole. -/
theorem side12 {e : EltTy} (g : Vec Ideal S256x128 .bf16 → S256x128.Idx → Elt Ideal e) (x : Vec Ideal S256x1536 .bf16)
    (w0 : S256x128.Idx → Elt Ideal e) (h0 : w0 = g (colV x 0))
    (w1 : S256x128.Idx → Elt Ideal e) (h1 : w1 = g (colV x 1))
    (w2 : S256x128.Idx → Elt Ideal e) (h2 : w2 = g (colV x 2))
    (w3 : S256x128.Idx → Elt Ideal e) (h3 : w3 = g (colV x 3))
    (w4 : S256x128.Idx → Elt Ideal e) (h4 : w4 = g (colV x 4))
    (w5 : S256x128.Idx → Elt Ideal e) (h5 : w5 = g (colV x 5))
    (w6 : S256x128.Idx → Elt Ideal e) (h6 : w6 = g (colV x 6))
    (w7 : S256x128.Idx → Elt Ideal e) (h7 : w7 = g (colV x 7))
    (w8 : S256x128.Idx → Elt Ideal e) (h8 : w8 = g (colV x 8))
    (w9 : S256x128.Idx → Elt Ideal e) (h9 : w9 = g (colV x 9))
    (w10 : S256x128.Idx → Elt Ideal e) (h10 : w10 = g (colV x 10))
    (w11 : S256x128.Idx → Elt Ideal e) (h11 : w11 = g (colV x 11))
    (y : S256x1536.Idx) : View.canon ([
      ⟨Rect.unit (s := S256x1536) ![0, 1408] S256x128.size inb_S256x1536_S256x128_0_1408, w11⟩,
      ⟨Rect.unit (s := S256x1536) ![0, 1280] S256x128.size inb_S256x1536_S256x128_0_1280, w10⟩,
      ⟨Rect.unit (s := S256x1536) ![0, 1152] S256x128.size inb_S256x1536_S256x128_0_1152, w9⟩,
      ⟨Rect.unit (s := S256x1536) ![0, 1024] S256x128.size inb_S256x1536_S256x128_0_1024, w8⟩,
      ⟨Rect.unit (s := S256x1536) ![0, 896] S256x128.size inb_S256x1536_S256x128_0_896, w7⟩,
      ⟨Rect.unit (s := S256x1536) ![0, 768] S256x128.size inb_S256x1536_S256x128_0_768, w6⟩,
      ⟨Rect.unit (s := S256x1536) ![0, 640] S256x128.size inb_S256x1536_S256x128_0_640, w5⟩,
      ⟨Rect.unit (s := S256x1536) ![0, 512] S256x128.size inb_S256x1536_S256x128_0_512, w4⟩,
      ⟨Rect.unit (s := S256x1536) ![0, 384] S256x128.size inb_S256x1536_S256x128_0_384, w3⟩,
      ⟨Rect.unit (s := S256x1536) ![0, 256] S256x128.size inb_S256x1536_S256x128_0_256, w2⟩,
      ⟨Rect.unit (s := S256x1536) ![0, 128] S256x128.size inb_S256x1536_S256x128_0_128, w1⟩,
      ⟨Rect.unit (s := S256x1536) ![0, 0] S256x128.size inb_S256x1536_S256x128_0_0, w0⟩] : List (View.Piece (Elt Ideal) S256x1536 e)) y = side g x y := by
  have hy : (y 1).val < 1536 := (y 1).isLt
  refine canon_step _ _ _ _ (side_at g x 11 1408 rfl _ w11 h11) y fun m11 => ?_
  refine canon_step _ _ _ _ (side_at g x 10 1280 rfl _ w10 h10) y fun m10 => ?_
  refine canon_step _ _ _ _ (side_at g x 9 1152 rfl _ w9 h9) y fun m9 => ?_
  refine canon_step _ _ _ _ (side_at g x 8 1024 rfl _ w8 h8) y fun m8 => ?_
  refine canon_step _ _ _ _ (side_at g x 7 896 rfl _ w7 h7) y fun m7 => ?_
  refine canon_step _ _ _ _ (side_at g x 6 768 rfl _ w6 h6) y fun m6 => ?_
  refine canon_step _ _ _ _ (side_at g x 5 640 rfl _ w5 h5) y fun m5 => ?_
  refine canon_step _ _ _ _ (side_at g x 4 512 rfl _ w4 h4) y fun m4 => ?_
  refine canon_step _ _ _ _ (side_at g x 3 384 rfl _ w3 h3) y fun m3 => ?_
  refine canon_step _ _ _ _ (side_at g x 2 256 rfl _ w2 h2) y fun m2 => ?_
  refine canon_step _ _ _ _ (side_at g x 1 128 rfl _ w1 h1) y fun m1 => ?_
  refine canon_step _ _ _ _ (side_at g x 0 0 rfl _ w0 h0) y fun m0 => ?_
  exfalso
  have n0 := not_col2 _ _ _ m0
  have n1 := not_col2 _ _ _ m1
  have n2 := not_col2 _ _ _ m2
  have n3 := not_col2 _ _ _ m3
  have n4 := not_col2 _ _ _ m4
  have n5 := not_col2 _ _ _ m5
  have n6 := not_col2 _ _ _ m6
  have n7 := not_col2 _ _ _ m7
  have n8 := not_col2 _ _ _ m8
  have n9 := not_col2 _ _ _ m9
  have n10 := not_col2 _ _ _ m10
  have n11 := not_col2 _ _ _ m11
  omega

section
variable (c : Dev nD) (arg0 : Memref sig .tc .vmem S256x1536 .bf16) (harg0 : arg0.IsWhole) (x : Vec Ideal S256x1536 .bf16)

theorem codes_canon (y : S256x1536.Idx) : View.canon (prepRun.sl.H2_12 (F := Ideal) c arg0 (harg0.unread x)) y = side codeV x y :=
  side12 codeV x
    _ (congrArg codeV (ld_col arg0 harg0 x 0 0 rfl inb_S256x1536_S256x128_0_0))
    _ ((code1 _).trans (congrArg codeV (ld_col arg0 harg0 x 1 128 rfl inb_S256x1536_S256x128_0_128)))
    _ ((code2 _).trans (congrArg codeV (ld_col arg0 harg0 x 2 256 rfl inb_S256x1536_S256x128_0_256)))
    _ ((code3 _).trans (congrArg codeV (ld_col arg0 harg0 x 3 384 rfl inb_S256x1536_S256x128_0_384)))
    _ ((code4 _).trans (congrArg codeV (ld_col arg0 harg0 x 4 512 rfl inb_S256x1536_S256x128_0_512)))
    _ ((code5 _).trans (congrArg codeV (ld_col arg0 harg0 x 5 640 rfl inb_S256x1536_S256x128_0_640)))
    _ ((code6 _).trans (congrArg codeV (ld_col arg0 harg0 x 6 768 rfl inb_S256x1536_S256x128_0_768)))
    _ ((code7 _).trans (congrArg codeV (ld_col arg0 harg0 x 7 896 rfl inb_S256x1536_S256x128_0_896)))
    _ ((code8 _).trans (congrArg codeV (ld_col arg0 harg0 x 8 1024 rfl inb_S256x1536_S256x128_0_1024)))
    _ ((code9 _).trans (congrArg codeV (ld_col arg0 harg0 x 9 1152 rfl inb_S256x1536_S256x128_0_1152)))
    _ ((code10 _).trans (congrArg codeV (ld_col arg0 harg0 x 10 1280 rfl inb_S256x1536_S256x128_0_1280)))
    _ ((code11 _).trans (congrArg codeV (ld_col arg0 harg0 x 11 1408 rfl inb_S256x1536_S256x128_0_1408)))
    y

theorem xb_canon (y : S256x1536.Idx) : View.canon (prepRun.sl.H4_12 (F := Ideal) c arg0 (harg0.unread x)) y = side xbV x y :=
  side12 xbV x
    _ (congrArg xbV (ld_col arg0 harg0 x 0 0 rfl inb_S256x1536_S256x128_0_0))
    _ ((xb1 _).trans (congrArg xbV (ld_col arg0 harg0 x 1 128 rfl inb_S256x1536_S256x128_0_128)))
    _ ((xb2 _).trans (congrArg xbV (ld_col arg0 harg0 x 2 256 rfl inb_S256x1536_S256x128_0_256)))
    _ ((xb3 _).trans (congrArg xbV (ld_col arg0 harg0 x 3 384 rfl inb_S256x1536_S256x128_0_384)))
    _ ((xb4 _).trans (congrArg xbV (ld_col arg0 harg0 x 4 512 rfl inb_S256x1536_S256x128_0_512)))
    _ ((xb5 _).trans (congrArg xbV (ld_col arg0 harg0 x 5 640 rfl inb_S256x1536_S256x128_0_640)))
    _ ((xb6 _).trans (congrArg xbV (ld_col arg0 harg0 x 6 768 rfl inb_S256x1536_S256x128_0_768)))
    _ ((xb7 _).trans (congrArg xbV (ld_col arg0 harg0 x 7 896 rfl inb_S256x1536_S256x128_0_896)))
    _ ((xb8 _).trans (congrArg xbV (ld_col arg0 harg0 x 8 1024 rfl inb_S256x1536_S256x128_0_1024)))
    _ ((xb9 _).trans (congrArg xbV (ld_col arg0 harg0 x 9 1152 rfl inb_S256x1536_S256x128_0_1152)))
    _ ((xb10 _).trans (congrArg xbV (ld_col arg0 harg0 x 10 1280 rfl inb_S256x1536_S256x128_0_1280)))
    _ ((xb11 _).trans (congrArg xbV (ld_col arg0 harg0 x 11 1408 rfl inb_S256x1536_S256x128_0_1408)))
    y

theorem pay88_apply (a : Fin 12 → Vec Ideal S256x1 .f32) (b c d e) (h : k0_pay85 (F := Ideal) b c d e = a 11) (k : Fin 12) (r : Fin 256) :
    k0_pay88 (F := Ideal) (a 0) (a 1) (a 2) (a 3) (a 4) (a 5) (a 6) (a 7) (a 8) (a 9) (a 10) b c d e (ix2 k r) = a k (ix2 r 0) := by
  pointwise [k0_pay88]
  rw [h]
  fin_cases k <;> rfl

theorem sc_canon (b : Fin 12) (r : Fin 256) : View.canon (prepRun.sl.H3_1 (F := Ideal) c arg0 (harg0.unread x)) (ix2 b r) = scaleV (colV x b) (ix2 r 0) := by
  unfold prepRun.sl.H3_1
  rw [View.canon_cons_unit_zero (by funext a; fin_cases a <;> rfl)]
  refine Eq.trans (congrFun ?_ _) (pay88_apply (fun b => scaleV (colV x b)) _ _ _ _ ((sc11 _).trans (congrArg scaleV (ld_col arg0 harg0 x 11 1408 rfl inb_S256x1536_S256x128_0_1408))) b r)
  have s0 : prepRun.sl.r (F := Ideal) c arg0 (harg0.unread x) = scaleV (colV x 0) := congrArg scaleV (ld_col arg0 harg0 x 0 0 rfl inb_S256x1536_S256x128_0_0)
  have s1 : prepRun.sl.r_4 (F := Ideal) c arg0 (harg0.unread x) = scaleV (colV x 1) := (sc1 _).trans (congrArg scaleV (ld_col arg0 harg0 x 1 128 rfl inb_S256x1536_S256x128_0_128))
  have s2 : prepRun.sl.r_8 (F := Ideal) c arg0 (harg0.unread x) = scaleV (colV x 2) := (sc2 _).trans (congrArg scaleV (ld_col arg0 harg0 x 2 256 rfl inb_S256x1536_S256x128_0_256))
  have s3 : prepRun.sl.r_12 (F := Ideal) c arg0 (harg0.unread x) = scaleV (colV x 3) := (sc3 _).trans (congrArg scaleV (ld_col arg0 harg0 x 3 384 rfl inb_S256x1536_S256x128_0_384))
  have s4 : prepRun.sl.r_14 (F := Ideal) c arg0 (harg0.unread x) = scaleV (colV x 4) := (sc4 _).trans (congrArg scaleV (ld_col arg0 harg0 x 4 512 rfl inb_S256x1536_S256x128_0_512))
  have s5 : prepRun.sl.r_17 (F := Ideal) c arg0 (harg0.unread x) = scaleV (colV x 5) := (sc5 _).trans (congrArg scaleV (ld_col arg0 harg0 x 5 640 rfl inb_S256x1536_S256x128_0_640))
  have s6 : prepRun.sl.r_22 (F := Ideal) c arg0 (harg0.unread x) = scaleV (colV x 6) := (sc6 _).trans (congrArg scaleV (ld_col arg0 harg0 x 6 768 rfl inb_S256x1536_S256x128_0_768))
  have s7 : prepRun.sl.r_26 (F := Ideal) c arg0 (harg0.unread x) = scaleV (colV x 7) := (sc7 _).trans (congrArg scaleV (ld_col arg0 harg0 x 7 896 rfl inb_S256x1536_S256x128_0_896))
  have s8 : prepRun.sl.r_29 (F := Ideal) c arg0 (harg0.unread x) = scaleV (colV x 8) := (sc8 _).trans (congrArg scaleV (ld_col arg0 harg0 x 8 1024 rfl inb_S256x1536_S256x128_0_1024))
  have s9 : prepRun.sl.r_33 (F := Ideal) c arg0 (harg0.unread x) = scaleV (colV x 9) := (sc9 _).trans (congrArg scaleV (ld_col arg0 harg0 x 9 1152 rfl inb_S256x1536_S256x128_0_1152))
  have s10 : prepRun.sl.r_37 (F := Ideal) c arg0 (harg0.unread x) = scaleV (colV x 10) := (sc10 _).trans (congrArg scaleV (ld_col arg0 harg0 x 10 1280 rfl inb_S256x1536_S256x128_0_1280))
  rw [s0, s1, s2, s3, s4, s5, s6, s7, s8, s9, s10]
  rfl

theorem pay89_apply (v : Vec Ideal S48x256 .i32) (r : Fin 256) (k : Fin 128) : k0_pay89 (F := Ideal) v (ix2 r k) = if h : k.val < 48 then v (ix2 ⟨k.val, h⟩ r) else 4294967295#32 := by
  pointwise [k0_pay89]

end

section
variable (c : Dev nD) (arg0 : Memref sig .tc .vmem S256x1536 .bf16) (harg0 : arg0.IsWhole) (arg1 : Memref sig .tc .vmem S48x256 .i32) (harg1 : arg1.IsWhole) (arg2 : Memref sig .tc .vmem S256x1536 .fp8e4m3) (harg2 : arg2.IsWhole) (arg3 : Memref sig .tc .vmem S12x256 .f32) (harg3 : arg3.IsWhole) (arg4 : Memref sig .tc .vmem S256x1536 .bf16) (harg4 : arg4.IsWhole) (arg5 : Memref sig .tc .vmem S75x256x128 .i32) (harg5 : arg5.IsWhole) (arg6 : Memref sig .tc .vmem S256x128 .i32) (harg6 : arg6.IsWhole) (arg7 : Memref sig .tc .vmem S256x128 .i32) (harg7 : arg7.IsWhole)
  (x0 : Vec Ideal S256x1536 .bf16) (x1 : Vec Ideal S48x256 .i32)

theorem v609_eq : prepRun.sl.v609 (F := Ideal) c arg1 (harg1.unread x1) = k0_pay89 (F := Ideal) x1 := by
  have h : prepRun.sl.r_41 (F := Ideal) c arg1 (harg1.unread x1) = x1 := by
    unfold prepRun.sl.r_41
    exact readAt_whole2 arg1 harg1 x1 _
  refine Eq.trans ?_ (congrArg (k0_pay89 (F := Ideal)) h)
  rfl

theorem prep_codes (y : S256x1536.Idx) : (prepVals (F := Ideal) c arg0 harg0 arg1 harg1 arg2 harg2 arg3 harg3 arg4 harg4 arg5 harg5 arg6 harg6 arg7 harg7 x0 x1).1 y = side codeV x0 y := by
  unfold prepVals prepRun
  dsimp only
  rw [View.read_writes_junk_eq_canon]
  exact codes_canon c arg0 harg0 x0 y

theorem prep_xb (y : S256x1536.Idx) : (prepVals (F := Ideal) c arg0 harg0 arg1 harg1 arg2 harg2 arg3 harg3 arg4 harg4 arg5 harg5 arg6 harg6 arg7 harg7 x0 x1).2.2.1 y = side xbV x0 y := by
  unfold prepVals prepRun
  dsimp only
  rw [View.read_writes_junk_eq_canon]
  exact xb_canon c arg0 harg0 x0 y

theorem prep_sc (b : Fin 12) (r : Fin 256) : (prepVals (F := Ideal) c arg0 harg0 arg1 harg1 arg2 harg2 arg3 harg3 arg4 harg4 arg5 harg5 arg6 harg6 arg7 harg7 x0 x1).2.1 (ix2 b r) = scaleV (colV x0 b) (ix2 r 0) := by
  unfold prepVals prepRun
  dsimp only
  rw [View.read_writes_junk_eq_canon]
  exact sc_canon c arg0 harg0 x0 b r

theorem prep_lane (y : S256x128.Idx) : (prepVals (F := Ideal) c arg0 harg0 arg1 harg1 arg2 harg2 arg3 harg3 arg4 harg4 arg5 harg5 arg6 harg6 arg7 harg7 x0 x1).2.2.2.2.1 y = IntOp.andi (k0_pay89 (F := Ideal) x1 y) 127#32 := by
  unfold prepVals prepRun
  dsimp only
  rw [View.read_writes_junk_eq_canon]
  unfold prepRun.sl.H6_1
  rw [View.canon_cons_unit_zero (by funext a; fin_cases a <;> rfl)]
  unfold prepRun.sl.v611
  rw [v609_eq]
  rfl

theorem prep_hi (y : S256x128.Idx) : (prepVals (F := Ideal) c arg0 harg0 arg1 harg1 arg2 harg2 arg3 harg3 arg4 harg4 arg5 harg5 arg6 harg6 arg7 harg7 x0 x1).2.2.2.2.2 y = IntOp.shrsi .vector (k0_pay89 (F := Ideal) x1 y) 7#32 := by
  unfold prepVals prepRun
  dsimp only
  rw [View.read_writes_junk_eq_canon]
  unfold prepRun.sl.H7_1
  rw [View.canon_cons_unit_zero (by funext a; fin_cases a <;> rfl)]
  unfold prepRun.sl.v614
  rw [v609_eq]
  rfl

theorem prep_mask (hx : ∀ q r, (x1 (ix2 q r)).toNat < 151936) (t : Fin 75) (r : Fin 256) (l : Fin 128) (k : ℕ) (hk : k < 16) :
    (prepVals (F := Ideal) c arg0 harg0 arg1 harg1 arg2 harg2 arg3 harg3 arg4 harg4 arg5 harg5 arg6 harg6 arg7 harg7 x0 x1).2.2.2.1 (ix3 t r l) &&& BitVec.ofNat 32 (2 ^ k) ≠ 0#32 ↔ ∃ q : Fin 48, (x1 (ix2 q r)).toNat = 2048 * t.val + 128 * k + l.val := by
  rw [pow_bit _ k (by omega)]
  have hv : ∀ (r : Fin 256) (c : Fin 128), c.val < 48 → (k0_pay89 (F := Ideal) x1 (ix2 r c)).toNat < 151936 := fun r c h => by
    rw [pay89_apply, dif_pos h]; exact hx _ _
  have h := outer_bit c arg0 harg0 arg1 harg1 arg2 harg2 arg3 harg3 arg4 harg4 arg5 harg5 arg6 harg6 arg7 harg7 (k0_pay89 (F := Ideal) x1) hv
    (arg5.view.writes (Elt Ideal) arg5.view.junk (prepRun.sl.H5_75 (F := Ideal))) t r l (zero_read arg5 _ _) k hk 48 le_rfl
  have e : (prepVals (F := Ideal) c arg0 harg0 arg1 harg1 arg2 harg2 arg3 harg3 arg4 harg4 arg5 harg5 arg6 harg6 arg7 harg7 x0 x1).2.2.2.1 (ix3 t r l) = Rd arg5 (arg5.view.writes (Elt Ideal) (arg5.view.writes (Elt Ideal) arg5.view.junk (prepRun.sl.H5_75 (F := Ideal))) (maskPieces (F := Ideal) c arg0 harg0 arg1 harg1 arg2 harg2 arg3 harg3 arg4 harg4 arg5 harg5 arg6 harg6 arg7 harg7 (k0_pay89 (F := Ideal) x1) (arg5.view.writes (Elt Ideal) arg5.view.junk (prepRun.sl.H5_75 (F := Ideal))) 48)) (ix3 t r l) := by
    unfold prepVals prepRun
    dsimp only
    rw [View.writes_append, v609_eq]
    have ht : Scf.trips (0#32) (Scalar.addi 0#32 48#32) 1#32 = 48 := trips1
    rw [ht]
  rw [e, h]
  refine exists_congr fun q => ?_
  rw [pay89_apply, dif_pos q.isLt]
  exact and_iff_right q.isLt

end

end Cert.KernelIdeal.Val

end
-- ==== Proof.Val.Host.lean ====
/- What the host's operations and the windows hand the two kernels, and what the last host stretch makes of the results. -/
module

public import proofs.«01_k».proof.Proof.Ideal.Run
public import Idealize.ShloMosaic.Lib.Pipeline.Value
public import Idealize.ShloMosaic.Lib.Pointwise
public import proofs.«01_k».proof.Proof.Val.PrepVals

@[expose] public section

set_option maxRecDepth 16384

noncomputable section

namespace Cert.KernelIdeal.Val

open Cert.KernelIdeal Cert.KernelIdeal.Gen Cert.KernelIdeal.Own Idealize Idealize.ShloMosaic Idealize.ShloMosaic.TcCoe Idealize.SL.Sem Cert.Val
open Idealize.ShloMosaic.Pipeline (Dat)

attribute [local irreducible] prepVals firstVals midVals lastVals

variable (m : (ℓ : Loc nD τ sig) → Buf (Elt Ideal) ℓ)

/-- The five arguments. -/
abbrev A0 (c : Dev nD) : Vec Ideal S2x128x1536 .bf16 := m ((c : Thread nD τ).loc main_arg0)
abbrev A1 (c : Dev nD) : Vec Ideal S151936x1536 .fp8e4m3 := m ((c : Thread nD τ).loc main_arg1)
abbrev A2 (c : Dev nD) : Vec Ideal S151936x12 .f32 := m ((c : Thread nD τ).loc main_arg2)
abbrev A3 (c : Dev nD) : Vec Ideal S2x128x48 .i32 := m ((c : Thread nD τ).loc main_arg3)
abbrev A4 (c : Dev nD) : Vec Ideal S2x128x48 .bf16 := m ((c : Thread nD τ).loc main_arg4)

/-- The two leading coordinates of a row. -/
abbrev ra (r : Fin 256) : Fin 2 := ⟨r.val / 128, by omega⟩
abbrev rb (r : Fin 256) : Fin 128 := ⟨r.val % 128, by omega⟩

theorem v5_eq (c : Dev nD) : (V1 m c main_v5 : Vec Ideal S256x1536 .bf16) = shapeCast S256x1536 (A0 m c) shapeCasts_S2x128x1536_S256x1536 := by
  show StableHlo.after hostOps0 _ (Proc.devRef .tc main_v5) = _
  rfl
theorem v0_eq (c : Dev nD) : (V1 m c main_v0 : Vec Ideal S151936x1536 .fp8e4m3) = A1 m c := by
  show StableHlo.after hostOps0 _ (Proc.devRef .tc main_v0) = _
  rfl
theorem v2_eq (c : Dev nD) : (V1 m c main_v2 : Vec Ideal S48x256 .i32) = shapeCast S48x256 (transpose S48x2x128 [2, 0, 1] (A3 m c) transposes_S2x128x48_S48x2x128_2_0_1) shapeCasts_S48x2x128_S48x256 := by
  show StableHlo.after hostOps0 _ (Proc.devRef .tc main_v2) = _
  rfl
theorem v4_eq (c : Dev nD) : (V1 m c main_v4 : Vec Ideal S48x256 .bf16) = shapeCast S48x256 (transpose S48x2x128 [2, 0, 1] (A4 m c) transposes_S2x128x48_S48x2x128_2_0_1) shapeCasts_S48x2x128_S48x256 := by
  show StableHlo.after hostOps0 _ (Proc.devRef .tc main_v4) = _
  rfl

theorem v5_apply (c : Dev nD) (r : Fin 256) (n : Fin 1536) : (V1 m c main_v5 : Vec Ideal S256x1536 .bf16) (ix2 r n) = A0 m c (ix3 (ra r) (rb r) n) := by
  rw [v5_eq]
  pointwise []
theorem v2_apply (c : Dev nD) (k : Fin 48) (r : Fin 256) : (V1 m c main_v2 : Vec Ideal S48x256 .i32) (ix2 k r) = A3 m c (ix3 (ra r) (rb r) k) := by
  rw [v2_eq]
  pointwise []
theorem v4_apply (c : Dev nD) (k : Fin 48) (r : Fin 256) : (V1 m c main_v4 : Vec Ideal S48x256 .bf16) (ix2 k r) = A4 m c (ix3 (ra r) (rb r) k) := by
  rw [v4_eq]
  pointwise []

/-- The quantising kernel's windows are whole. -/
theorem wr0 (A : (⟨S256x1536, .bf16⟩ : BufTy).Contents (Elt Ideal)) : ((cfg0.win 0).blk t0_0).view.read (Elt Ideal) A = A := by
  funext y
  refine congrArg A (funext fun a => Fin.ext ?_)
  match a with
  | ⟨0, _⟩ => show 0 * 256 + 1 * (y 0).val = (y 0).val; omega
  | ⟨1, _⟩ => show 0 * 1536 + 1 * (y 1).val = (y 1).val; omega

theorem wr1 (A : (⟨S48x256, .i32⟩ : BufTy).Contents (Elt Ideal)) : ((cfg0.win 1).blk t0_0).view.read (Elt Ideal) A = A := by
  funext y
  refine congrArg A (funext fun a => Fin.ext ?_)
  match a with
  | ⟨0, _⟩ => show 0 * 48 + 1 * (y 0).val = (y 0).val; omega
  | ⟨1, _⟩ => show 0 * 256 + 1 * (y 1).val = (y 1).val; omega

theorem wr2 (A : (⟨S256x1536, .fp8e4m3⟩ : BufTy).Contents (Elt Ideal)) : ((cfg0.win 2).blk t0_0).view.read (Elt Ideal) A = A := by
  funext y
  refine congrArg A (funext fun a => Fin.ext ?_)
  match a with
  | ⟨0, _⟩ => show 0 * 256 + 1 * (y 0).val = (y 0).val; omega
  | ⟨1, _⟩ => show 0 * 1536 + 1 * (y 1).val = (y 1).val; omega

theorem wr3 (A : (⟨S12x256, .f32⟩ : BufTy).Contents (Elt Ideal)) : ((cfg0.win 3).blk t0_0).view.read (Elt Ideal) A = A := by
  funext y
  refine congrArg A (funext fun a => Fin.ext ?_)
  match a with
  | ⟨0, _⟩ => show 0 * 12 + 1 * (y 0).val = (y 0).val; omega
  | ⟨1, _⟩ => show 0 * 256 + 1 * (y 1).val = (y 1).val; omega

theorem wr4 (A : (⟨S256x1536, .bf16⟩ : BufTy).Contents (Elt Ideal)) : ((cfg0.win 4).blk t0_0).view.read (Elt Ideal) A = A := by
  funext y
  refine congrArg A (funext fun a => Fin.ext ?_)
  match a with
  | ⟨0, _⟩ => show 0 * 256 + 1 * (y 0).val = (y 0).val; omega
  | ⟨1, _⟩ => show 0 * 1536 + 1 * (y 1).val = (y 1).val; omega

theorem wr5 (A : (⟨S75x256x128, .i32⟩ : BufTy).Contents (Elt Ideal)) : ((cfg0.win 5).blk t0_0).view.read (Elt Ideal) A = A := by
  funext y
  refine congrArg A (funext fun a => Fin.ext ?_)
  match a with
  | ⟨0, _⟩ => show 0 * 75 + 1 * (y 0).val = (y 0).val; omega
  | ⟨1, _⟩ => show 0 * 256 + 1 * (y 1).val = (y 1).val; omega
  | ⟨2, _⟩ => show 0 * 128 + 1 * (y 2).val = (y 2).val; omega

theorem wr6 (A : (⟨S256x128, .i32⟩ : BufTy).Contents (Elt Ideal)) : ((cfg0.win 6).blk t0_0).view.read (Elt Ideal) A = A := by
  funext y
  refine congrArg A (funext fun a => Fin.ext ?_)
  match a with
  | ⟨0, _⟩ => show 0 * 256 + 1 * (y 0).val = (y 0).val; omega
  | ⟨1, _⟩ => show 0 * 128 + 1 * (y 1).val = (y 1).val; omega

theorem wr7 (A : (⟨S256x128, .i32⟩ : BufTy).Contents (Elt Ideal)) : ((cfg0.win 7).blk t0_0).view.read (Elt Ideal) A = A := by
  funext y
  refine congrArg A (funext fun a => Fin.ext ?_)
  match a with
  | ⟨0, _⟩ => show 0 * 256 + 1 * (y 0).val = (y 0).val; omega
  | ⟨1, _⟩ => show 0 * 128 + 1 * (y 1).val = (y 1).val; omega

theorem in0_0_eq (c : Dev nD) : in0_0 m c = (V1 m c main_v5 : Vec Ideal S256x1536 .bf16) := wr0 _
theorem in0_1_eq (c : Dev nD) : in0_1 m c = (V1 m c main_v2 : Vec Ideal S48x256 .i32) := wr1 _

theorem u2_2 (c : Dev nD) : (U2 m c main_v6_0 : Vec Ideal S256x1536 .fp8e4m3) = (res0 m c).1 := by
  refine (U2_main_v6_0 c).trans ?_
  have h := (dat0 m c).read_blk_arrAt_eq_flushed 2 (fun t t' _ _ hne => absurd ((fin_N0 t).trans (fin_N0 t').symm) hne) cfg0.N t0_0 t0_0.isLt (flush0_2 t0_0)
  rw [wr2] at h
  rw [h]
  rfl

theorem u2_3 (c : Dev nD) : (U2 m c main_v6_1 : Vec Ideal S12x256 .f32) = (res0 m c).2.1 := by
  refine (U2_main_v6_1 c).trans ?_
  have h := (dat0 m c).read_blk_arrAt_eq_flushed 3 (fun t t' _ _ hne => absurd ((fin_N0 t).trans (fin_N0 t').symm) hne) cfg0.N t0_0 t0_0.isLt (flush0_3 t0_0)
  rw [wr3] at h
  rw [h]
  rfl

theorem u2_4 (c : Dev nD) : (U2 m c main_v6_2 : Vec Ideal S256x1536 .bf16) = (res0 m c).2.2.1 := by
  refine (U2_main_v6_2 c).trans ?_
  have h := (dat0 m c).read_blk_arrAt_eq_flushed 4 (fun t t' _ _ hne => absurd ((fin_N0 t).trans (fin_N0 t').symm) hne) cfg0.N t0_0 t0_0.isLt (flush0_4 t0_0)
  rw [wr4] at h
  rw [h]
  rfl

theorem u2_5 (c : Dev nD) : (U2 m c main_v6_3 : Vec Ideal S75x256x128 .i32) = (res0 m c).2.2.2.1 := by
  refine (U2_main_v6_3 c).trans ?_
  have h := (dat0 m c).read_blk_arrAt_eq_flushed 5 (fun t t' _ _ hne => absurd ((fin_N0 t).trans (fin_N0 t').symm) hne) cfg0.N t0_0 t0_0.isLt (flush0_5 t0_0)
  rw [wr5] at h
  rw [h]
  rfl

theorem u2_6 (c : Dev nD) : (U2 m c main_v6_4 : Vec Ideal S256x128 .i32) = (res0 m c).2.2.2.2.1 := by
  refine (U2_main_v6_4 c).trans ?_
  have h := (dat0 m c).read_blk_arrAt_eq_flushed 6 (fun t t' _ _ hne => absurd ((fin_N0 t).trans (fin_N0 t').symm) hne) cfg0.N t0_0 t0_0.isLt (flush0_6 t0_0)
  rw [wr6] at h
  rw [h]
  rfl

theorem u2_7 (c : Dev nD) : (U2 m c main_v6_5 : Vec Ideal S256x128 .i32) = (res0 m c).2.2.2.2.2 := by
  refine (U2_main_v6_5 c).trans ?_
  have h := (dat0 m c).read_blk_arrAt_eq_flushed 7 (fun t t' _ _ hne => absurd ((fin_N0 t).trans (fin_N0 t').symm) hne) cfg0.N t0_0 t0_0.isLt (flush0_7 t0_0)
  rw [wr7] at h
  rw [h]
  rfl

theorem u3_7 (c : Dev nD) : (U3 m c main_v7 : Vec Ideal S12x151936 .f32) = transpose S12x151936 [1, 0] (A2 m c) transposes_S151936x12_S12x151936_1_0 := by
  have h : (U2 m c main_arg2 : Vec Ideal S151936x12 .f32) = A2 m c := (U2_of c main_arg2 (by decide)).trans (V1_of m c main_arg2 (by decide))
  refine Eq.trans ?_ (congrArg (fun x : Vec Ideal S151936x12 .f32 => transpose S12x151936 [1, 0] x transposes_S151936x12_S12x151936_1_0) h)
  show StableHlo.after hostOps1 _ (Proc.devRef .tc main_v7) = _
  rfl
theorem u3_7_apply (c : Dev nD) (b : Fin 12) (v : Fin 151936) : (U3 m c main_v7 : Vec Ideal S12x151936 .f32) (ix2 b v) = A2 m c (ix2 v b) := by
  rw [u3_7]
  pointwise []
theorem u3_0 (c : Dev nD) : (U3 m c main_v0 : Vec Ideal S151936x1536 .fp8e4m3) = A1 m c :=
  (U3_of c main_v0 (by decide)).trans ((U2_of c main_v0 (by decide)).trans (v0_eq m c))
theorem u3_4 (c : Dev nD) : (U3 m c main_v4 : Vec Ideal S48x256 .bf16) = (V1 m c main_v4 : Vec Ideal S48x256 .bf16) :=
  (U3_of c main_v4 (by decide)).trans (U2_of c main_v4 (by decide))
theorem u3_6_2 (c : Dev nD) : (U3 m c main_v6_2 : Vec Ideal S256x1536 .bf16) = (res0 m c).2.2.1 :=
  (U3_of c main_v6_2 (by decide)).trans (u2_4 m c)
theorem u3_6_3 (c : Dev nD) : (U3 m c main_v6_3 : Vec Ideal S75x256x128 .i32) = (res0 m c).2.2.2.1 :=
  (U3_of c main_v6_3 (by decide)).trans (u2_5 m c)
theorem u3_6_4 (c : Dev nD) : (U3 m c main_v6_4 : Vec Ideal S256x128 .i32) = (res0 m c).2.2.2.2.1 :=
  (U3_of c main_v6_4 (by decide)).trans (u2_6 m c)
theorem u3_6_5 (c : Dev nD) : (U3 m c main_v6_5 : Vec Ideal S256x128 .i32) = (res0 m c).2.2.2.2.2 :=
  (U3_of c main_v6_5 (by decide)).trans (u2_7 m c)

theorem coords0 : ∀ t : Fin cfg1.N, (grid1.coords t 0).val = t.val := by decide +kernel

theorem opd0_eq (c : Dev nD) (t : Fin cfg1.N) : opd1_0 m c t = (res0 m c).2.2.1 := by
  refine Eq.trans ?_ (u3_6_2 m c)
  funext y
  refine congrArg (U3 m c main_v6_2 : Vec Ideal S256x1536 .bf16) (funext fun a => Fin.ext ?_)
  match a with
  | ⟨0, _⟩ => show 0 * 256 + 1 * (y 0).val = (y 0).val; omega
  | ⟨1, _⟩ => show 0 * 1536 + 1 * (y 1).val = (y 1).val; omega
theorem opd4_eq (c : Dev nD) (t : Fin cfg1.N) : opd1_4 m c t = (res0 m c).2.2.2.2.1 := by
  refine Eq.trans ?_ (u3_6_4 m c)
  funext y
  refine congrArg (U3 m c main_v6_4 : Vec Ideal S256x128 .i32) (funext fun a => Fin.ext ?_)
  match a with
  | ⟨0, _⟩ => show 0 * 256 + 1 * (y 0).val = (y 0).val; omega
  | ⟨1, _⟩ => show 0 * 128 + 1 * (y 1).val = (y 1).val; omega
theorem opd5_eq (c : Dev nD) (t : Fin cfg1.N) : opd1_5 m c t = (res0 m c).2.2.2.2.2 := by
  refine Eq.trans ?_ (u3_6_5 m c)
  funext y
  refine congrArg (U3 m c main_v6_5 : Vec Ideal S256x128 .i32) (funext fun a => Fin.ext ?_)
  match a with
  | ⟨0, _⟩ => show 0 * 256 + 1 * (y 0).val = (y 0).val; omega
  | ⟨1, _⟩ => show 0 * 128 + 1 * (y 1).val = (y 1).val; omega
theorem opd6_eq (c : Dev nD) (t : Fin cfg1.N) : opd1_6 m c t = (V1 m c main_v4 : Vec Ideal S48x256 .bf16) := by
  refine Eq.trans ?_ (u3_4 m c)
  funext y
  refine congrArg (U3 m c main_v4 : Vec Ideal S48x256 .bf16) (funext fun a => Fin.ext ?_)
  match a with
  | ⟨0, _⟩ => show 0 * 48 + 1 * (y 0).val = (y 0).val; omega
  | ⟨1, _⟩ => show 0 * 256 + 1 * (y 1).val = (y 1).val; omega

theorem tn (t : Fin cfg1.N) : t.val < 75 := t.isLt
theorem bt (t : Fin cfg1.N) : (BitVec.ofNat 32 (grid1.coords t 0).val).toNat = t.val := by
  have := tn t
  rw [coords0, BitVec.toNat_ofNat]
  omega

theorem opd3_apply (c : Dev nD) (t : Fin cfg1.N) (r : Fin 256) (l : Fin 128) : opd1_3 m c t (ix3 0 r l) = (res0 m c).2.2.2.1 (ix3 (⟨t.val, t.isLt⟩ : Fin 75) r l) := by
  refine Eq.trans ?_ (congrFun (u3_6_3 m c) _)
  have hb := bt t
  refine congrArg (U3 m c main_v6_3 : Vec Ideal S75x256x128 .i32) (funext fun a => Fin.ext ?_)
  match a with
  | ⟨0, _⟩ => show (BitVec.ofNat 32 (grid1.coords t 0).val).toNat * 1 + 1 * 0 = t.val; omega
  | ⟨1, _⟩ => show 0 * 256 + 1 * r.val = r.val; omega
  | ⟨2, _⟩ => show 0 * 128 + 1 * l.val = l.val; omega

theorem ext_lt (ix k d j : ℕ) (hj : j < k) (h : ix * k + j < d) : j < (Pipeline.Clip.of ix k d).extent k := by
  unfold Pipeline.Clip.of
  split
  · exact hj
  · show j < d - ix * k
    omega

theorem opd1_apply (c : Dev nD) (t : Fin cfg1.N) (d : Vec Ideal S2048x1536 .fp8e4m3) (n : Fin 2048) (k : Fin 1536) (h : 2048 * t.val + n.val < 151936) :
    opd1_1 m c t d (ix2 n k) = A1 m c (ix2 ⟨2048 * t.val + n.val, h⟩ k) := by
  have hb := bt t
  have hm : (cfg1.win 1).moved (cfg1.grid.coords t) (ix2 n k) = true := by
    refine (Pipeline.Window.moved_iff _ _ _).mpr fun a => ?_
    match a with
    | ⟨0, _⟩ => exact ext_lt (BitVec.ofNat 32 (grid1.coords t 0).val).toNat 2048 151936 n.val n.isLt (by rw [hb]; omega)
    | ⟨1, _⟩ => exact ext_lt 0 1536 1536 k.val k.isLt (by omega)
  unfold opd1_1 Pipeline.Window.fill
  rw [dif_pos hm]
  refine Eq.trans ?_ (congrFun (u3_0 m c) _)
  refine congrArg (U3 m c main_v0 : Vec Ideal S151936x1536 .fp8e4m3) (funext fun a => Fin.ext ?_)
  match a with
  | ⟨0, _⟩ => show (BitVec.ofNat 32 (grid1.coords t 0).val).toNat * 2048 + 1 * n.val = 2048 * t.val + n.val; omega
  | ⟨1, _⟩ => show 0 * 1536 + 1 * k.val = k.val; omega

theorem opd2_apply (c : Dev nD) (t : Fin cfg1.N) (d : Vec Ideal S12x2048 .f32) (n : Fin 2048) (b : Fin 12) (h : 2048 * t.val + n.val < 151936) :
    opd1_2 m c t d (ix2 b n) = A2 m c (ix2 ⟨2048 * t.val + n.val, h⟩ b) := by
  have hb := bt t
  have hm : (cfg1.win 2).moved (cfg1.grid.coords t) (ix2 b n) = true := by
    refine (Pipeline.Window.moved_iff _ _ _).mpr fun a => ?_
    match a with
    | ⟨0, _⟩ => exact ext_lt 0 12 12 b.val b.isLt (by omega)
    | ⟨1, _⟩ => exact ext_lt (BitVec.ofNat 32 (grid1.coords t 0).val).toNat 2048 151936 n.val n.isLt (by rw [hb]; omega)
  unfold opd1_2 Pipeline.Window.fill
  rw [dif_pos hm]
  refine Eq.trans ?_ (u3_7_apply m c b ⟨2048 * t.val + n.val, h⟩)
  refine congrArg (U3 m c main_v7 : Vec Ideal S12x151936 .f32) (funext fun a => Fin.ext ?_)
  match a with
  | ⟨0, _⟩ => show 0 * 12 + 1 * b.val = b.val; omega
  | ⟨1, _⟩ => show (BitVec.ofNat 32 (grid1.coords t 0).val).toNat * 2048 + 1 * n.val = 2048 * t.val + n.val; omega

section
variable {m}
variable {S : (c : Dev nD) → HeadSpec m c}

theorem u5_13 (c : Dev nD) (γ : Γ S c) (a : Fin 2) (b : Fin 128) : (U5 S c γ main_v13 : Vec Ideal S2x128 .f32) (ix2 a b) = γ.1.1 (ix2 0 ⟨a.val * 128 + b.val, by omega⟩) := by
  have e : (U5 S c γ main_v13 : Vec Ideal S2x128 .f32) = shapeCast S2x128 (γ.1.1) shapeCasts_S1x256_S2x128 := by
    refine Eq.trans ?_ (congrArg (fun x : Vec Ideal S1x256 .f32 => shapeCast S2x128 x shapeCasts_S1x256_S2x128) (U4_main_v8_0 S c γ))
    show StableHlo.after hostOps2 _ (Proc.devRef .tc main_v13) = _
    rfl
  rw [e]
  pointwise []
theorem u5_14 (c : Dev nD) (γ : Γ S c) (a : Fin 2) (b : Fin 128) : (U5 S c γ main_v14 : Vec Ideal S2x128 .f32) (ix2 a b) = γ.1.2.1 (ix2 0 ⟨a.val * 128 + b.val, by omega⟩) := by
  have e : (U5 S c γ main_v14 : Vec Ideal S2x128 .f32) = shapeCast S2x128 (γ.1.2.1) shapeCasts_S1x256_S2x128 := by
    refine Eq.trans ?_ (congrArg (fun x : Vec Ideal S1x256 .f32 => shapeCast S2x128 x shapeCasts_S1x256_S2x128) (U4_main_v8_1 S c γ))
    show StableHlo.after hostOps2 _ (Proc.devRef .tc main_v14) = _
    rfl
  rw [e]
  pointwise []
theorem u5_15 (c : Dev nD) (γ : Γ S c) (a : Fin 2) (b : Fin 128) : (U5 S c γ main_v15 : Vec Ideal S2x128 .f32) (ix2 a b) = γ.1.2.2.1 (ix2 0 ⟨a.val * 128 + b.val, by omega⟩) := by
  have e : (U5 S c γ main_v15 : Vec Ideal S2x128 .f32) = shapeCast S2x128 (γ.1.2.2.1) shapeCasts_S1x256_S2x128 := by
    refine Eq.trans ?_ (congrArg (fun x : Vec Ideal S1x256 .f32 => shapeCast S2x128 x shapeCasts_S1x256_S2x128) (U4_main_v8_2 S c γ))
    show StableHlo.after hostOps2 _ (Proc.devRef .tc main_v15) = _
    rfl
  rw [e]
  pointwise []
theorem u5_10 (c : Dev nD) (γ : Γ S c) (a : Fin 2) (b : Fin 128) (k : Fin 48) : (U5 S c γ main_v10 : Vec Ideal S2x128x48 .f32) (ix3 a b k) = γ.1.2.2.2 (ix2 k ⟨a.val * 128 + b.val, by omega⟩) := by
  have e : (U5 S c γ main_v10 : Vec Ideal S2x128x48 .f32) = transpose S2x128x48 [1, 2, 0] (shapeCast S48x2x128 (γ.1.2.2.2) shapeCasts_S48x256_S48x2x128) transposes_S48x2x128_S2x128x48_1_2_0 := by
    refine Eq.trans ?_ (congrArg (fun x : Vec Ideal S48x256 .f32 => transpose S2x128x48 [1, 2, 0] (shapeCast S48x2x128 x shapeCasts_S48x256_S48x2x128) transposes_S48x2x128_S2x128x48_1_2_0) (U4_main_v8_3 S c γ))
    show StableHlo.after hostOps2 _ (Proc.devRef .tc main_v10) = _
    rfl
  rw [e]
  pointwise []
theorem u5_12 (c : Dev nD) (γ : Γ S c) (a : Fin 2) (b : Fin 128) (k : Fin 12) : (U5 S c γ main_v12 : Vec Ideal S2x128x12 .f32) (ix3 a b k) = (res0 m c).2.1 (ix2 k ⟨a.val * 128 + b.val, by omega⟩) := by
  have e : (U5 S c γ main_v12 : Vec Ideal S2x128x12 .f32) = transpose S2x128x12 [1, 2, 0] (shapeCast S12x2x128 ((res0 m c).2.1) shapeCasts_S12x256_S12x2x128) transposes_S12x2x128_S2x128x12_1_2_0 := by
    refine Eq.trans ?_ (congrArg (fun x : Vec Ideal S12x256 .f32 => transpose S2x128x12 [1, 2, 0] (shapeCast S12x2x128 x shapeCasts_S12x256_S12x2x128) transposes_S12x2x128_S2x128x12_1_2_0)
      ((U4_of S c γ main_v6_1 (by decide)).trans ((U3_of c main_v6_1 (by decide)).trans (u2_3 m c))))
    show StableHlo.after hostOps2 _ (Proc.devRef .tc main_v12) = _
    rfl
  rw [e]
  pointwise []
theorem u5_16 (c : Dev nD) (γ : Γ S c) (a : Fin 2) (b : Fin 128) (n : Fin 1536) : (U5 S c γ main_v16 : Vec Ideal S2x128x1536 .fp8e4m3) (ix3 a b n) = (res0 m c).1 (ix2 ⟨a.val * 128 + b.val, by omega⟩ n) := by
  have e : (U5 S c γ main_v16 : Vec Ideal S2x128x1536 .fp8e4m3) = shapeCast S2x128x1536 ((res0 m c).1) shapeCasts_S256x1536_S2x128x1536 := by
    refine Eq.trans ?_ (congrArg (fun x : Vec Ideal S256x1536 .fp8e4m3 => shapeCast S2x128x1536 x shapeCasts_S256x1536_S2x128x1536)
      ((U4_of S c γ main_v6_0 (by decide)).trans ((U3_of c main_v6_0 (by decide)).trans (u2_2 m c))))
    show StableHlo.after hostOps2 _ (Proc.devRef .tc main_v16) = _
    rfl
  rw [e]
  pointwise []
end

end Cert.KernelIdeal.Val
-- ==== Proof.Val.Lse.lean ====
module

public import Idealize.ShloMosaic.PureOps.Ideal.Laws
public import Mathlib.Analysis.SpecialFunctions.Log.Basic
public import Mathlib.Analysis.SpecialFunctions.Trigonometric.DerivHyp

@[expose] public section

/-! Facts of extended-real arithmetic the kernel's online softmax rests on: the weight of a logit (0 for a masked one), how it
    scales when the shift changes, that a log-sum-exp does not depend on its shift, and the form the loss gives `1 - e^x`. -/

noncomputable section

namespace Cert.Val

open Idealize Idealize.ShloMosaic
open scoped BigOperators

/-- The weight `e^w` of a logit as a real number: 0 for the masked logit `⊥`. -/
def wt (w : EReal) : ℝ := (Ideal.exp w).toReal

@[simp] theorem wt_bot : wt ⊥ = 0 := by simp [wt]
@[simp] theorem wt_coe (r : ℝ) : wt (r : EReal) = Real.exp r := by simp [wt]

theorem wt_nonneg (w : EReal) : 0 ≤ wt w := by
  induction w with
  | bot => simp
  | coe r => simp [Real.exp_nonneg]
  | top => simp [wt]

theorem wt_pos {w : EReal} (h : w ≠ ⊥) (h' : w ≠ ⊤) : 0 < wt w := by
  induction w with
  | bot => exact absurd rfl h
  | coe r => simp [Real.exp_pos]
  | top => exact absurd rfl h'

/-- A logit below `⊤` shifted by a real: its weight times `e^(-a)`. -/
theorem exp_sub (w : EReal) (hw : w ≠ ⊤) (a : ℝ) :
    Ideal.exp (w - (a : EReal)) = ((wt w * Real.exp (-a) : ℝ) : EReal) := by
  induction w with
  | bot => simp
  | coe r => rw [← EReal.coe_sub, Ideal.exp_coe, wt_coe, ← Real.exp_add, sub_eq_add_neg]
  | top => exact absurd rfl hw

/-- The sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of shifted exponentials: the sum of the weights times `e^(-a)`. -/
theorem sum_exp_sub {ι : Type*} (s : Finset ι) (w : ι → EReal) (hw : ∀ i ∈ s, w i ≠ ⊤) (a : ℝ) :
    ∑ i ∈ s, Ideal.exp (w i - (a : EReal)) = (((∑ i ∈ s, wt (w i)) * Real.exp (-a) : ℝ) : EReal) := by
  rw [Finset.sum_mul, coe_sum]
  exact Finset.sum_congr rfl fun i hi => exp_sub _ (hw i hi) a

/-- A real shift `a` and the log of a sum `S · e^(-a)`: the log of `S`, for `S` positive. -/
theorem add_log (a S : ℝ) (hS : 0 < S) :
    (a : EReal) + Ideal.log ((S * Real.exp (-a) : ℝ) : EReal) = (Real.log S : EReal) := by
  have h : 0 < S * Real.exp (-a) := mul_pos hS (Real.exp_pos _)
  rw [Ideal.log_coe, if_neg (not_le.2 h), Real.log_mul hS.ne' (Real.exp_pos _).ne', Real.log_exp, ← EReal.coe_add]
  congr 1; ring

/-- A LOG-SUM-EXP DOES NOT DEPEND ON ITS SHIFT: for logits below `⊤` of positive total weight, it is the log of that weight. -/
theorem lse_eq {ι : Type*} (s : Finset ι) (w : ι → EReal) (hw : ∀ i ∈ s, w i ≠ ⊤) (a : ℝ) (hS : 0 < ∑ i ∈ s, wt (w i)) :
    (a : EReal) + Ideal.log (∑ i ∈ s, Ideal.exp (w i - (a : EReal))) = (Real.log (∑ i ∈ s, wt (w i)) : EReal) := by
  rw [sum_exp_sub s w hw a, add_log a _ hS]

/-- ONE ONLINE STEP: a sum of exponentials shifted by `a`, times `e^(a - b)`, is the sum shifted by `b`. -/
theorem rescale {ι : Type*} (s : Finset ι) (w : ι → EReal) (hw : ∀ i ∈ s, w i ≠ ⊤) (a b : ℝ) :
    (∑ i ∈ s, Ideal.exp (w i - (a : EReal))) * Ideal.exp ((a : EReal) - (b : EReal)) = ∑ i ∈ s, Ideal.exp (w i - (b : EReal)) := by
  rw [sum_exp_sub s w hw a, sum_exp_sub s w hw b, ← EReal.coe_sub, Ideal.exp_coe, ← EReal.coe_mul, mul_assoc, ← Real.exp_add]
  congr 3; ring

/-- The log of a positive weight is a log-sum-exp's value; its exponential is the weight. -/
theorem wt_log {S : ℝ} (hS : 0 < S) : wt ((Real.log S : ℝ) : EReal) = S := by rw [wt_coe, Real.exp_log hS]

/-- `-tanh (x/2) (e^x + 1) = -(e^x - 1)`. -/
theorem tanh_half (x : ℝ) : -Real.tanh (1 / 2 * x) * (Real.exp x + 1) = -(Real.exp x - 1) := by
  have h : Real.exp x = Real.exp (1 / 2 * x) * Real.exp (1 / 2 * x) := by rw [← Real.exp_add]; congr 1; ring
  rw [Real.tanh_eq_sinh_div_cosh, Real.sinh_eq, Real.cosh_eq, Real.exp_neg, h]
  have hp := Real.exp_pos (1 / 2 * x)
  have : Real.exp (1 / 2 * x) + (Real.exp (1 / 2 * x))⁻¹ ≠ 0 := by positivity
  field_simp

/-- `-tanh (x/2) (e^x + 1) = -(e^x - 1)`, at the infinite values too. -/
theorem tanh_half_ext (x : EReal) : (0 - Ideal.tanh (((1 / 2 : ℝ) : EReal) * x)) * (Ideal.exp x + 1) = 0 - (Ideal.exp x - 1) := by
  have h0 : (0 : EReal) = ((0 : ℝ) : EReal) := rfl
  have h1 : (1 : EReal) = ((1 : ℝ) : EReal) := rfl
  induction x with
  | bot =>
    rw [EReal.coe_mul_bot_of_pos (by norm_num), Ideal.tanh_bot, Ideal.exp_bot, h0, h1]
    norm_cast
  | coe x =>
    rw [← EReal.coe_mul, Ideal.tanh_coe, Ideal.exp_coe, h0, h1, ← EReal.coe_sub, ← EReal.coe_add, ← EReal.coe_mul, ← EReal.coe_sub, ← EReal.coe_sub,
      zero_sub, tanh_half, zero_sub]
  | top =>
    rw [EReal.coe_mul_top_of_pos (by norm_num), Ideal.tanh_top, Ideal.exp_top, h1, EReal.top_add_coe, EReal.top_sub_coe, h0, ← EReal.coe_sub,
      EReal.coe_mul_top_of_neg (by norm_num)]
    rfl

/-- A real between: neither infinite value. -/
theorem coe_toReal_of {x : EReal} (h : x ≠ ⊥) (h' : x ≠ ⊤) : ((x.toReal : ℝ) : EReal) = x := EReal.coe_toReal h' h

/-- The fold of `max` from a start, over a list of extended reals below `⊤`, stays below `⊤`. -/
theorem fold_max_ne_top {ι : Type*} (s : Finset ι) (b : EReal) (f : ι → EReal) (hb : b ≠ ⊤) (hf : ∀ i ∈ s, f i ≠ ⊤) :
    s.fold max b f ≠ ⊤ := by
  classical
  induction s using Finset.induction_on with
  | empty => simpa
  | insert i s hi ih =>
    rw [Finset.fold_insert hi]
    have h1 := hf i (Finset.mem_insert_self _ _)
    have h2 := ih fun j hj => hf j (Finset.mem_insert_of_mem hj)
    rcases max_choice (f i) (s.fold max b f) with h | h <;> rw [h] <;> assumption

/-- The fold of `max` is above every element it folds. -/
theorem le_fold_max {ι : Type*} (s : Finset ι) (b : EReal) (f : ι → EReal) (i : ι) (hi : i ∈ s) : f i ≤ s.fold max b f :=
  Finset.le_fold_max (f i) |>.2 (Or.inr ⟨i, hi, le_refl _⟩)

/-- The fold of `max` is not `⊥` once an element is not. -/
theorem fold_max_ne_bot {ι : Type*} (s : Finset ι) (b : EReal) (f : ι → EReal) (i : ι) (hi : i ∈ s) (h : f i ≠ ⊥) :
    s.fold max b f ≠ ⊥ := fun e => h (le_bot_iff.1 (e ▸ le_fold_max s b f i hi))

/-! ### A lane's running maximum and sum -/

/-- The running maximum of the first `n` logits of a lane, from a start. -/
def mx (b : EReal) (w : ℕ → EReal) : ℕ → EReal
  | 0 => b
  | n + 1 => max (mx b w n) (w n)

theorem mx_ne_top (b : EReal) (hb : b ≠ ⊤) (w : ℕ → EReal) (hw : ∀ n, w n ≠ ⊤) : ∀ n, mx b w n ≠ ⊤
  | 0 => hb
  | n + 1 => by
    rcases max_choice (mx b w n) (w n) with h | h <;> rw [mx, h]
    · exact mx_ne_top b hb w hw n
    · exact hw n

theorem mx_ne_bot (b : EReal) (hb : b ≠ ⊥) (w : ℕ → EReal) : ∀ n, mx b w n ≠ ⊥
  | 0 => hb
  | n + 1 => fun e => mx_ne_bot b hb w n (le_bot_iff.1 (e ▸ le_max_left _ _))

/-- The running maximum continued from where it stood. -/
theorem mx_add (b : EReal) (w : ℕ → EReal) (n : ℕ) : ∀ k, mx (mx b w n) (fun j => w (n + j)) k = mx b w (n + k)
  | 0 => rfl
  | k + 1 => by rw [mx, mx_add b w n k, ← Nat.add_assoc, mx]

/-- ONE TILE of a lane: the old sum rescaled to the new maximum, plus the tile's exponentials, is the new sum. -/
theorem lane_step (b : EReal) (hb : b ≠ ⊤) (hb' : b ≠ ⊥) (w : ℕ → EReal) (hw : ∀ n, w n ≠ ⊤) (n k : ℕ) :
    (∑ j ∈ Finset.range n, Ideal.exp (w j - mx b w n)) * Ideal.exp (mx b w n - mx b w (n + k))
        + ∑ j ∈ Finset.range k, Ideal.exp (w (n + j) - mx b w (n + k))
      = ∑ j ∈ Finset.range (n + k), Ideal.exp (w j - mx b w (n + k)) := by
  have e1 := coe_toReal_of (mx_ne_bot b hb' w n) (mx_ne_top b hb w hw n)
  have e2 := coe_toReal_of (mx_ne_bot b hb' w (n + k)) (mx_ne_top b hb w hw (n + k))
  rw [← e1, ← e2, rescale _ _ (fun i _ => hw i), Finset.sum_range_add]

/-- THE LAST STEP: the lanes' sums, each rescaled from its own maximum to a real `a`, add up to `S · e^(-a)`, where `S` is
    the total weight. -/
theorem lanes_total {ι : Type*} (s : Finset ι) (b : EReal) (hb : b ≠ ⊤) (hb' : b ≠ ⊥) (w : ι → ℕ → EReal)
    (hw : ∀ i n, w i n ≠ ⊤) (n : ℕ) (a : ℝ) :
    ∑ i ∈ s, (∑ j ∈ Finset.range n, Ideal.exp (w i j - mx b (w i) n)) * Ideal.exp (mx b (w i) n - (a : EReal))
      = (((∑ i ∈ s, ∑ j ∈ Finset.range n, wt (w i j)) * Real.exp (-a) : ℝ) : EReal) := by
  rw [Finset.sum_mul, coe_sum]
  refine Finset.sum_congr rfl fun i _ => ?_
  rw [← coe_toReal_of (mx_ne_bot b hb' (w i) n) (mx_ne_top b hb (w i) (hw i) n), rescale _ _ (fun j _ => hw i j),
    sum_exp_sub _ _ (fun j _ => hw i j)]

end Cert.Val
-- ==== Proof.Val.HeadStep.lean ====
module

public import proofs.«01_k».proof.Proof.Val.HeadVals
public import proofs.«01_k».proof.Proof.Val.Spec
public import proofs.«01_k».proof.Proof.Val.Lse

@[expose] public section

set_option maxRecDepth 16384

noncomputable section

namespace Cert.KernelIdeal.Val

open Cert.KernelIdeal Cert.KernelIdeal.Gen Cert.KernelIdeal.Own Idealize Idealize.ShloMosaic Cert.Val

/-- A comparison of small words is one of numbers. -/
theorem sge_nat (a b : ℕ) (ha : a < 2 ^ 31) (hb : b < 2 ^ 31) : IntOp.cmpi .sge (BitVec.ofNat 32 a) (BitVec.ofNat 32 b) = BitVec.ofBool (decide (b ≤ a)) := by
  have h : ∀ n : ℕ, n < 2 ^ 31 → (BitVec.ofNat 32 n).toInt = n := fun n hn => by
    rw [BitVec.toInt_eq_toNat_of_lt (by rw [BitVec.toNat_ofNat]; omega), BitVec.toNat_ofNat]; omega
  simp only [IntOp.cmpi, BitVec.sle, h a ha, h b hb, Nat.cast_le]

theorem dk_apply (t k : ℕ) (ht : t < 75) (hk : k < 16) (mask : IVec S256x128 32) (Z : FVec Ideal S256x2048 .f32) (r : Fin 256) (l : Fin 128) :
    dk (BitVec.ofNat 32 t) mask Z k (ix2 r l) = if mask (ix2 r l) &&& BitVec.ofNat 32 (2 ^ k) ≠ 0#32 ∨ 151936 ≤ 2048 * t + 128 * k + l.val then ⊥
      else Z (ix2 r (⟨128 * k + l.val, by omega⟩ : Fin 2048)) := by
  have hl := l.isLt
  have hs : IntOp.addi (BitVec.ofNat 32 l.val) (Scalar.addi (Scalar.muli (BitVec.ofNat 32 t) 2048#32) (BitVec.ofNat 32 (128 * k))) = BitVec.ofNat 32 (2048 * t + 128 * k + l.val) := by
    apply BitVec.eq_of_toNat_eq
    simp only [IntOp.addi, Scalar.addi, Scalar.muli, IntOp.muli, BitVec.toNat_add, BitVec.toNat_mul, BitVec.toNat_ofNat]
    omega
  have hi : (⟨(128 * k + l.val) % 2048, Nat.mod_lt _ (by decide)⟩ : Fin 2048) = ⟨128 * k + l.val, by omega⟩ := Fin.ext (Nat.mod_eq_of_lt (by omega))
  pointwise [dk, deadV, chunk]
  rw [hs, sge_nat _ _ (by omega) (by norm_num), ofBits_ninf, hi]
  have hne : IntOp.cmpi .ne (IntOp.andi (mask (ix2 r l)) (BitVec.ofNat 32 (2 ^ k))) 0#32 = BitVec.ofBool (decide (mask (ix2 r l) &&& BitVec.ofNat 32 (2 ^ k) ≠ 0#32)) := by
    simp only [IntOp.cmpi, IntOp.andi]
    congr 1
    by_cases h : mask (ix2 r l) &&& BitVec.ofNat 32 (2 ^ k) = 0#32
    · simp [h]
    · simp [h]
  have hor : ∀ p q : Bool, IntOp.ori (BitVec.ofBool p) (BitVec.ofBool q) = BitVec.ofBool (p || q) := by decide
  rw [hne, hor, sel_bool]
  by_cases h1 : mask (ix2 r l) &&& BitVec.ofNat 32 (2 ^ k) ≠ 0#32
  · rw [if_pos (Or.inl h1), if_pos (by simp [h1])]
  · by_cases h2 : 151936 ≤ 2048 * t + 128 * k + l.val
    · rw [if_pos (Or.inr h2), if_pos (by simp [h2])]
    · rw [if_neg (by simp [h1, h2]), if_neg (by simp only [not_or]; exact ⟨h1, h2⟩)]

theorem gatV_apply (t k : ℕ) (ht : t < 75) (hk : k < 16) (lane hi : IVec S256x128 32) (Z : FVec Ideal S256x2048 .f32) (zs : FVec Ideal S256x128 .f32) (r : Fin 256) (l : Fin 128)
    (hl : (lane (ix2 r l)).toNat < 128) :
    gatV (BitVec.ofNat 32 t) (BitVec.ofNat 32 k) lane hi (chunk Z k) zs (ix2 r l) =
      if hi (ix2 r l) = BitVec.ofNat 32 (16 * t + k) then Z (ix2 r (⟨128 * k + (lane (ix2 r l)).toNat, by omega⟩ : Fin 2048)) else zs (ix2 r l) := by
  have hs : Scalar.addi (Scalar.muli (BitVec.ofNat 32 t) 16#32) (BitVec.ofNat 32 k) = BitVec.ofNat 32 (16 * t + k) := by
    apply BitVec.eq_of_toNat_eq
    simp only [IntOp.addi, Scalar.addi, Scalar.muli, IntOp.muli, BitVec.toNat_add, BitVec.toNat_mul, BitVec.toNat_ofNat]
    omega
  have hn : Scalar.select (IntOp.cmpi .slt (lane (ix2 r l)) 0#32) (IntOp.addi (lane (ix2 r l)) 128#32) (lane (ix2 r l)) = lane (ix2 r l) := by
    have : IntOp.cmpi .slt (lane (ix2 r l)) 0#32 = BitVec.ofBool (decide ((lane (ix2 r l)).toInt < 0)) := rfl
    rw [this, sel_bool, if_neg]
    rw [decide_eq_true_eq, BitVec.toInt_eq_toNat_of_lt (by omega)]
    omega
  pointwise [gatV]
  rw [hs, sel_eq]
  refine if_congr Iff.rfl ?_ rfl
  refine congrArg Z (funext fun a => ?_)
  fin_cases a
  · rfl
  · refine Fin.ext ?_
    show (128 * k + (Scalar.select (IntOp.cmpi .slt (lane (ix2 r l)) 0#32) (IntOp.addi (lane (ix2 r l)) 128#32) (lane (ix2 r l))).toNat % 128) % 2048 = 128 * k + (lane (ix2 r l)).toNat
    rw [hn]
    omega

theorem mF_apply (t : BitVec 32) (mask : IVec S256x128 32) (Z : FVec Ideal S256x2048 .f32) (m : FVec Ideal S256x128 .f32) (j : S256x128.Idx) :
    ∀ k, mF t mask Z m k j = mx (m j) (fun k => dk t mask Z k j) k
  | 0 => rfl
  | k + 1 => congrArg (fun x => max x (dk t mask Z k j)) (mF_apply t mask Z m j k)

theorem lF_apply (t : BitVec 32) (mask : IVec S256x128 32) (Z : FVec Ideal S256x2048 .f32) (m m' l : FVec Ideal S256x128 .f32) (j : S256x128.Idx) :
    ∀ k, lF t mask Z m m' l k j = l j * Ideal.exp (m j - m' j) + ∑ k ∈ Finset.range k, Ideal.exp (dk t mask Z k j - m' j)
  | 0 => by rw [Finset.sum_range_zero, add_zero]; rfl
  | k + 1 => by
    rw [Finset.sum_range_succ, ← add_assoc, ← lF_apply t mask Z m m' l j k]
    rfl

/-- A row's logits off the support, by the token's number. -/
def wg (z : Fin 151936 → EReal) (ids : Fin 48 → BitVec 32) (v : ℕ) : EReal := if h : v < 151936 then rest z ids ⟨v, h⟩ else ⊥

/-- Where a running maximum starts. -/
def B0 : EReal := Ideal.ofBits .f32 0xF149F2CA#32

/-- What the scratch holds at row `r` after `n` tiles. -/
structure RowInv (z : Fin 256 → Fin 151936 → EReal) (ids : Fin 256 → Fin 48 → BitVec 32) (n : ℕ) (m l zs : Vec Ideal S256x128 .f32) : Prop where
  hm : ∀ (r : Fin 256) (c : Fin 128), m (ix2 r c) = mx B0 (fun j => wg (z r) (ids r) (128 * j + c.val)) (16 * n)
  hl : ∀ (r : Fin 256) (c : Fin 128), l (ix2 r c) = ∑ j ∈ Finset.range (16 * n), Ideal.exp (wg (z r) (ids r) (128 * j + c.val) - m (ix2 r c))
  hz : ∀ (r : Fin 256) (k : Fin 48) (h : (ids r k).toNat < 151936), (ids r k).toNat < 2048 * n → zs (ix2 r (⟨k.val, by omega⟩ : Fin 128)) = z r ⟨(ids r k).toNat, h⟩

/-- What a tile's operands are. -/
structure TileOp (z : Fin 256 → Fin 151936 → EReal) (ids : Fin 256 → Fin 48 → BitVec 32) (t : ℕ) (x1 : Vec Ideal S256x1536 .bf16) (x2 : Vec Ideal S2048x1536 .fp8e4m3) (x3 : Vec Ideal S12x2048 .f32)
    (x4 : Vec Ideal S1x256x128 .i32) (x5 x6 : Vec Ideal S256x128 .i32) : Prop where
  hz : ∀ (r : Fin 256) (n : Fin 2048) (h : 2048 * t + n.val < 151936), zT x1 x2 x3 (ix2 r n) = z r ⟨2048 * t + n.val, h⟩
  h4 : ∀ (r : Fin 256) (c : Fin 128) (k : ℕ), k < 16 → (x4 (ix3 0 r c) &&& BitVec.ofNat 32 (2 ^ k) ≠ 0#32 ↔ ∃ q, (ids r q).toNat = 2048 * t + 128 * k + c.val)
  h5 : ∀ (r : Fin 256) (k : Fin 48), x5 (ix2 r (⟨k.val, by omega⟩ : Fin 128)) = BitVec.ofNat 32 ((ids r k).toNat % 128)
  h6 : ∀ (r : Fin 256) (k : Fin 48), x6 (ix2 r (⟨k.val, by omega⟩ : Fin 128)) = BitVec.ofNat 32 ((ids r k).toNat / 128)

theorem pay32_apply (x4 : Vec Ideal S1x256x128 .i32) (r : Fin 256) (c : Fin 128) : k1_pay32 (F := Ideal) x4 (ix2 r c) = x4 (ix3 0 r c) := by
  pointwise [k1_pay32]

theorem toNat_iff (i : BitVec 32) (v : ℕ) (h : v < 151936) : i = BitVec.ofNat 32 v ↔ i.toNat = v := by
  constructor
  · rintro rfl; rw [BitVec.toNat_ofNat]; omega
  · intro e; apply BitVec.eq_of_toNat_eq; rw [BitVec.toNat_ofNat]; omega

section
variable {z : Fin 256 → Fin 151936 → EReal} {ids : Fin 256 → Fin 48 → BitVec 32} {t : ℕ} {x1 : Vec Ideal S256x1536 .bf16} {x2 : Vec Ideal S2048x1536 .fp8e4m3} {x3 : Vec Ideal S12x2048 .f32}
    {x4 : Vec Ideal S1x256x128 .i32} {x5 x6 : Vec Ideal S256x128 .i32}

theorem dk_tile (T : TileOp z ids t x1 x2 x3 x4 x5 x6) (ht : t < 75) (r : Fin 256) (c : Fin 128) (k : ℕ) (hk : k < 16) :
    dk (BitVec.ofNat 32 t) (k1_pay32 (F := Ideal) x4) (zT x1 x2 x3) k (ix2 r c) = wg (z r) (ids r) (128 * (16 * t + k) + c.val) := by
  have hc := c.isLt
  rw [dk_apply t k ht hk, pay32_apply]
  have h4 := T.h4 r c k hk
  have e : 2048 * t + 128 * k + c.val = 128 * (16 * t + k) + c.val := by ring
  unfold wg
  by_cases h2 : 151936 ≤ 2048 * t + 128 * k + c.val
  · rw [if_pos (Or.inr h2), dif_neg (by omega)]
  · rw [dif_pos (show 128 * (16 * t + k) + c.val < 151936 by omega)]
    unfold rest
    have hex : (∃ q, (ids r q).toNat = 2048 * t + 128 * k + c.val) ↔ ∃ q, ids r q = BitVec.ofNat 32 (128 * (16 * t + k) + c.val) := by
      refine exists_congr fun q => ?_
      rw [toNat_iff _ _ (by omega), e]
    by_cases h1 : ∃ q, (ids r q).toNat = 2048 * t + 128 * k + c.val
    · rw [if_pos (Or.inl (h4.mpr h1)), if_pos (hex.mp h1)]
    · rw [if_neg (not_or.mpr ⟨fun h => h1 (h4.mp h), h2⟩), if_neg (fun h => h1 (hex.mpr h))]
      refine (T.hz r ⟨128 * k + c.val, by omega⟩ (by show 2048 * t + (128 * k + c.val) < _; omega)).trans (congrArg (z r) (Fin.ext ?_))
      show 2048 * t + (128 * k + c.val) = 128 * (16 * t + k) + c.val
      omega

theorem mx_congr (b : EReal) (f g : ℕ → EReal) : ∀ n, (∀ j < n, f j = g j) → mx b f n = mx b g n
  | 0, _ => rfl
  | n + 1, h => by rw [mx, mx, mx_congr b f g n (fun j hj => h j (by omega)), h n (by omega)]

theorem B0_ne : B0 ≠ ⊥ ∧ B0 ≠ ⊤ := by
  unfold B0
  have : ∃ x : ℝ, Ideal.ofBits .f32 0xF149F2CA#32 = (x : EReal) := ⟨_, by simp [Ideal.ofBits, Ideal.ieee, -EReal.coe_mul]; rfl⟩
  obtain ⟨x, e⟩ := this
  rw [e]
  exact ⟨EReal.coe_ne_bot x, EReal.coe_ne_top x⟩

theorem wg_ne_top (z : Fin 151936 → EReal) (ids : Fin 48 → BitVec 32) (hz : ∀ v, z v ≠ ⊤) (v : ℕ) : wg z ids v ≠ ⊤ := by
  unfold wg rest
  split
  · split
    · exact bot_ne_top
    · exact hz _
  · exact bot_ne_top

theorem stepM_tile (T : TileOp z ids t x1 x2 x3 x4 x5 x6) (ht : t < 75) (i : grid1.Coords) (hi : (i 0).val = t) (m : Vec Ideal S256x128 .f32) (r : Fin 256) (c : Fin 128)
    (hm : m (ix2 r c) = mx B0 (fun j => wg (z r) (ids r) (128 * j + c.val)) (16 * t)) :
    stepM i x1 x2 x3 x4 m (ix2 r c) = mx B0 (fun j => wg (z r) (ids r) (128 * j + c.val)) (16 * (t + 1)) := by
  unfold stepM
  rw [mF_apply, hi, mx_congr _ _ (fun k => wg (z r) (ids r) (128 * (16 * t + k) + c.val)) 16 (fun k hk => dk_tile T ht r c k hk), hm]
  exact mx_add B0 (fun j => wg (z r) (ids r) (128 * j + c.val)) (16 * t) 16

theorem gF_tile (T : TileOp z ids t x1 x2 x3 x4 x5 x6) (ht : t < 75) (zs : Vec Ideal S256x128 .f32) (r : Fin 256) (q : Fin 48) (h : (ids r q).toNat < 151936)
    (hz : (ids r q).toNat < 2048 * t → zs (ix2 r (⟨q.val, by omega⟩ : Fin 128)) = z r ⟨(ids r q).toNat, h⟩) :
    ∀ k ≤ 16, (ids r q).toNat < 2048 * t + 128 * k → gF (BitVec.ofNat 32 t) x5 x6 (zT x1 x2 x3) zs k (ix2 r (⟨q.val, by omega⟩ : Fin 128)) = z r ⟨(ids r q).toNat, h⟩
  | 0, _, hlt => hz hlt
  | k + 1, hk, hlt => by
    have h5 := T.h5 r q
    have h5' : (x5 (ix2 r (⟨q.val, by omega⟩ : Fin 128))).toNat = (ids r q).toNat % 128 := by
      rw [h5, BitVec.toNat_ofNat]; omega
    rw [gF, gatV_apply t k ht (by omega) _ _ _ _ _ _ (by rw [h5']; omega), T.h6 r q]
    by_cases hd : (ids r q).toNat / 128 = 16 * t + k
    · rw [if_pos (by rw [hd])]
      refine (T.hz r _ ?_).trans (congrArg (z r) (Fin.ext ?_))
      · show 2048 * t + (128 * k + (x5 _).toNat) < _
        rw [h5']; omega
      · show 2048 * t + (128 * k + (x5 _).toNat) = _
        rw [h5']
        show _ = (ids r q).toNat
        omega
    · rw [if_neg]
      · exact gF_tile T ht zs r q h hz k (by omega) (by omega)
      · rw [toNat_iff _ _ (by omega), BitVec.toNat_ofNat]
        omega

/-- ONE TILE takes the invariant from `t` tiles to `t + 1`. -/
theorem RowInv.step (T : TileOp z ids t x1 x2 x3 x4 x5 x6) (hzt : ∀ r v, z r v ≠ ⊤) (ht : t < 75) (i : grid1.Coords) (hi : (i 0).val = t) {m l zs : Vec Ideal S256x128 .f32}
    (I : RowInv z ids t m l zs) : RowInv z ids (t + 1) (stepM i x1 x2 x3 x4 m) (stepL i x1 x2 x3 x4 m l) (stepG i x1 x2 x3 x5 x6 zs) where
  hm r c := stepM_tile T ht i hi m r c (I.hm r c)
  hl r c := by
    have hM := stepM_tile T ht i hi m r c (I.hm r c)
    have e := lane_step B0 B0_ne.2 B0_ne.1 (fun j => wg (z r) (ids r) (128 * j + c.val)) (fun n => wg_ne_top _ _ (hzt r) _) (16 * t) 16
    rw [show 16 * (t + 1) = 16 * t + 16 by ring] at hM ⊢
    rw [hM, ← e]
    unfold stepL
    rw [lF_apply, hM, I.hl r c, I.hm r c, hi]
    refine congrArg₂ (· + ·) rfl (Finset.sum_congr rfl fun k hk => ?_)
    rw [dk_tile T ht r c k (Finset.mem_range.mp hk)]
  hz r k h hlt := by
    unfold stepG
    rw [hi]
    exact gF_tile T ht zs r k h (I.hz r k h) 16 le_rfl (by omega)

/-- The scratch as the first tile finds it. -/
theorem RowInv.zero (z : Fin 256 → Fin 151936 → EReal) (ids : Fin 256 → Fin 48 → BitVec 32) : RowInv z ids 0 (k1_pay11 (F := Ideal)) (k1_pay12 (F := Ideal)) (k1_pay13 (F := Ideal)) where
  hm r c := by pointwise [k1_pay11]; rfl
  hl r c := by pointwise [k1_pay12]; simp
  hz r k h hlt := absurd hlt (by omega)

end

end Cert.KernelIdeal.Val
-- ==== Proof.Val.HeadFin.lean ====
module

public import proofs.«01_k».proof.Proof.Val.HeadStep

@[expose] public section

set_option maxRecDepth 16384

noncomputable section

namespace Cert.KernelIdeal.Val

open Cert.KernelIdeal Cert.KernelIdeal.Gen Cert.KernelIdeal.Own Idealize Idealize.ShloMosaic Cert.Val

/-- A log-sum-exp of values below plus infinity, one of them a number, is the logarithm of the sum of weights. -/
theorem lseF_eq {n : ℕ} (f : Fin n → EReal) (hf : ∀ i, f i ≠ ⊤) (i : Fin n) (hi : f i ≠ ⊥) :
    0 < ∑ v, wt (f v) ∧ lseF f = (Real.log (∑ v, wt (f v)) : EReal) := by
  have hS : 0 < ∑ v, wt (f v) := Finset.sum_pos' (fun v _ => wt_nonneg _) ⟨i, Finset.mem_univ i, wt_pos hi (hf i)⟩
  refine ⟨hS, ?_⟩
  have e := coe_toReal_of (fold_max_ne_bot Finset.univ (Ideal.ofBits .f32 0xFF800000#32) f i (Finset.mem_univ i) hi)
    (fold_max_ne_top Finset.univ (Ideal.ofBits .f32 0xFF800000#32) f (by rw [ofBits_ninf]; exact bot_ne_top) (fun i _ => hf i))
  unfold lseF
  rw [← e]
  exact lse_eq Finset.univ f (fun i _ => hf i) _ hS

/-- Some token is off the support. -/
theorem exists_rest (ids : Fin 48 → BitVec 32) : ∃ v : Fin 151936, ¬ ∃ k, ids k = BitVec.ofNat 32 v.val := by
  by_contra hc
  push Not at hc
  choose f hf using hc
  have : Function.Injective f := fun a b h => by
    have h1 := hf a
    rw [h, hf b] at h1
    have h2 := congrArg BitVec.toNat h1
    rw [BitVec.toNat_ofNat, BitVec.toNat_ofNat] at h2
    exact Fin.ext (by omega)
  have hc := Fintype.card_le_of_injective f this
  rw [Fintype.card_fin, Fintype.card_fin] at hc
  omega

theorem sum_blocks (f : ℕ → ℝ) : ∀ n, ∑ v ∈ Finset.range (128 * n), f v = ∑ j ∈ Finset.range n, ∑ c : Fin 128, f (128 * j + c.val)
  | 0 => by simp
  | n + 1 => by
    rw [show 128 * (n + 1) = 128 * n + 128 by ring, Finset.sum_range_add, sum_blocks f n, Finset.sum_range_succ (fun j => ∑ c : Fin 128, f (128 * j + c.val)) n, Finset.sum_range (n := 128)]

/-- The lanes' weights are the weights off the support. -/
theorem sum_lanes (z : Fin 151936 → EReal) (ids : Fin 48 → BitVec 32) :
    ∑ c : Fin 128, ∑ j ∈ Finset.range (16 * 75), wt (wg z ids (128 * j + c.val)) = ∑ v, wt (rest z ids v) := by
  rw [Finset.sum_comm, ← sum_blocks (fun v => wt (wg z ids v)) (16 * 75), show 128 * (16 * 75) = 151936 + 1664 by norm_num, Finset.sum_range_add,
    Finset.sum_range (n := 151936)]
  rw [Finset.sum_eq_zero (s := Finset.range 1664) (fun x _ => ?_), add_zero]
  · refine Finset.sum_congr rfl fun v _ => ?_
    unfold wg
    rw [dif_pos v.isLt]
  · unfold wg
    rw [dif_neg (by omega), wt_bot]

section
variable {z : Fin 256 → Fin 151936 → EReal} {ids : Fin 256 → Fin 48 → BitVec 32} {m l zs : Vec Ideal S256x128 .f32}

theorem rest_ne_top (z : Fin 151936 → EReal) (ids : Fin 48 → BitVec 32) (hz : ∀ v, z v ≠ ⊤) (v : Fin 151936) : rest z ids v ≠ ⊤ := by
  unfold rest
  split
  · exact bot_ne_top
  · exact hz _

theorem lserest_real (z : Fin 151936 → EReal) (ids : Fin 48 → BitVec 32) (hz : ∀ v, z v ≠ ⊤) (hz' : ∀ v, z v ≠ ⊥) :
    0 < ∑ v, wt (rest z ids v) ∧ lseF (rest z ids) = (Real.log (∑ v, wt (rest z ids v)) : EReal) := by
  obtain ⟨v, hv⟩ := exists_rest ids
  exact lseF_eq _ (rest_ne_top z ids hz) v (by unfold rest; rw [if_neg hv]; exact hz' v)

/-- Result 3: the log-sum-exp off the support, from the lanes. -/
theorem k4_eq (I : RowInv z ids 75 m l zs) (hz : ∀ r v, z r v ≠ ⊤) (hz' : ∀ r v, z r v ≠ ⊥) (r : Fin 256) :
    k1_pay4 (F := Ideal) m l (ix2 0 r) = lseF (rest (z r) (ids r)) := by
  obtain ⟨hS, e⟩ := lserest_real (z r) (ids r) (hz r) (hz' r)
  rw [e]
  have hm : ∀ c, m (ix2 r c) ≠ ⊥ ∧ m (ix2 r c) ≠ ⊤ := fun c => by
    rw [I.hm r c]
    exact ⟨mx_ne_bot _ B0_ne.1 _ _, mx_ne_top _ B0_ne.2 _ (fun n => wg_ne_top _ _ (hz r) _) _⟩
  have hM := coe_toReal_of (fold_max_ne_bot Finset.univ (Ideal.ofBits .f32 0xFF800000#32) (fun c : Fin 128 => m (ix2 r c)) 0 (Finset.mem_univ 0) (hm 0).1)
    (fold_max_ne_top Finset.univ (Ideal.ofBits .f32 0xFF800000#32) (fun c : Fin 128 => m (ix2 r c)) (by rw [ofBits_ninf]; exact bot_ne_top) (fun c _ => (hm c).2))
  pointwise [k1_pay4]
  rw [← hM]
  simp only [I.hl r]
  simp only [I.hm r]
  rw [lanes_total Finset.univ B0 B0_ne.2 B0_ne.1 (fun (c : Fin 128) j => wg (z r) (ids r) (128 * j + c.val)) (fun c n => wg_ne_top _ _ (hz r) _) (16 * 75), sum_lanes]
  exact add_log _ _ hS

theorem pick_eq (z : Fin 151936 → EReal) (i : BitVec 32) (h : i.toNat < 151936) : pick z i = z ⟨i.toNat, h⟩ := by
  unfold pick
  rw [Finset.sum_eq_single (⟨i.toNat, h⟩ : Fin 151936)]
  · rw [if_pos ((toNat_iff _ _ h).mpr rfl)]
  · intro v _ hv
    rw [if_neg]
    intro e
    exact hv (Fin.ext ((toNat_iff _ _ v.isLt).mp e).symm)
  · intro h'; exact absurd (Finset.mem_univ _) h'

/-- Result 4: the gathered logits. -/
theorem k5_eq (I : RowInv z ids 75 m l zs) (hids : ∀ r k, (ids r k).toNat < 151936) (r : Fin 256) (k : Fin 48) :
    k1_pay5 (F := Ideal) zs (ix2 k r) = pick (z r) (ids r k) := by
  rw [pick_eq _ _ (hids r k), ← I.hz r k (hids r k) (by have := hids r k; omega)]
  pointwise [k1_pay5]

theorem sum_split_gen {n : ℕ} (f g : Fin n → ℝ) (e : Fin 48 → Fin n) (he : Function.Injective e) (h0 : ∀ v, (∃ k, e k = v) → g v = 0)
    (h1 : ∀ v, (¬ ∃ k, e k = v) → g v = f v) : ∑ v, f v = ∑ k, f (e k) + ∑ v, g v := by
  have hs := Finset.sum_image (s := Finset.univ) (f := f) (g := e) (fun a _ b _ h => he h)
  rw [← hs, ← Finset.sum_sdiff (Finset.subset_univ (Finset.univ.image e)) (f := f), ← Finset.sum_sdiff (Finset.subset_univ (Finset.univ.image e)) (f := g), add_comm]
  have hm : ∀ v, v ∈ Finset.univ.image e ↔ ∃ k, e k = v := fun v => by simp
  rw [Finset.sum_eq_zero (s := Finset.univ.image e) (f := g) (fun v hv => h0 v ((hm v).mp hv)), add_zero]
  exact congrArg _ (Finset.sum_congr rfl fun v hv => (h1 v (fun h => (Finset.mem_sdiff.mp hv).2 ((hm v).mpr h))).symm)

/-- All weights are those off the support and those on it. -/
theorem sum_split (z : Fin 151936 → EReal) (ids : Fin 48 → BitVec 32) (hids : ∀ k, (ids k).toNat < 151936) (hinj : Function.Injective ids) :
    ∑ v, wt (z v) = ∑ k, wt (pick z (ids k)) + ∑ v, wt (rest z ids v) := by
  have hg : Function.Injective (fun k => (⟨(ids k).toNat, hids k⟩ : Fin 151936)) := fun a b h =>
    hinj (BitVec.eq_of_toNat_eq (Fin.mk.inj h))
  have hm : ∀ v : Fin 151936, (∃ k, (⟨(ids k).toNat, hids k⟩ : Fin 151936) = v) ↔ ∃ k, ids k = BitVec.ofNat 32 v.val := fun v =>
    exists_congr fun k => by rw [toNat_iff _ _ v.isLt, Fin.ext_iff]
  refine (sum_split_gen (fun v => wt (z v)) (fun v => wt (rest z ids v)) _ hg (fun v h => ?_) (fun v h => ?_)).trans ?_
  · show wt (rest z ids v) = 0
    unfold rest
    rw [if_pos ((hm v).mp h), wt_bot]
  · show wt (rest z ids v) = _
    unfold rest
    rw [if_neg (fun h' => h ((hm v).mpr h'))]
  · refine congrArg₂ (· + ·) (Finset.sum_congr rfl fun k _ => ?_) rfl
    rw [pick_eq _ _ (hids k)]

theorem coe_max' (a b : ℝ) : ((max a b : ℝ) : EReal) = max (a : EReal) (b : EReal) := EReal.coe_strictMono.monotone.map_max

/-- Result 2: the whole log-sum-exp, from its two parts. -/
theorem k6_eq (I : RowInv z ids 75 m l zs) (hz : ∀ r v, z r v ≠ ⊤) (hz' : ∀ r v, z r v ≠ ⊥) (hids : ∀ r k, (ids r k).toNat < 151936) (hinj : ∀ r, Function.Injective (ids r))
    (r : Fin 256) : k1_pay6 (F := Ideal) m l zs (ix2 0 r) = lseF (z r) := by
  obtain ⟨hS, e⟩ := lserest_real (z r) (ids r) (hz r) (hz' r)
  obtain ⟨hA, eA⟩ := lseF_eq (z r) (hz r) 0 (hz' r 0)
  have hp : ∀ k, pick (z r) (ids r k) ≠ ⊤ := fun k => by rw [pick_eq _ _ (hids r k)]; exact hz _ _
  have hp' : ∀ k, pick (z r) (ids r k) ≠ ⊥ := fun k => by rw [pick_eq _ _ (hids r k)]; exact hz' _ _
  pointwise [k1_pay6]
  simp only [k5_eq I hids r, k4_eq I hz hz' r]
  rw [eA, e]
  have hF := coe_toReal_of (fold_max_ne_bot Finset.univ (Ideal.ofBits .f32 0xFF800000#32) (fun k => pick (z r) (ids r k)) 0 (Finset.mem_univ 0) (hp' 0))
    (fold_max_ne_top Finset.univ (Ideal.ofBits .f32 0xFF800000#32) (fun k => pick (z r) (ids r k)) (by rw [ofBits_ninf]; exact bot_ne_top) (fun c _ => hp c))
  rw [← hF, ← coe_max']
  rw [sum_exp_sub Finset.univ (fun k => pick (z r) (ids r k)) (fun k _ => hp k), exp_sub _ (EReal.coe_ne_top _), wt_log hS, ← EReal.coe_add, ← add_mul,
    ← sum_split (z r) (ids r) (hids r) (hinj r)]
  exact add_log _ _ hA

theorem k9_eq (x7 : Vec Ideal S48x256 .bf16) (r : Fin 256) : k1_pay9 (F := Ideal) x7 (ix2 0 r) = lseF (fun k => x7 (ix2 k r)) := by
  pointwise [k1_pay9, k1_pay7]
  rfl

/-- Result 1: the divergence, from the other results and the teacher's row. -/
theorem fin7_eq (I : RowInv z ids 75 m l zs) (hz : ∀ r v, z r v ≠ ⊤) (hz' : ∀ r v, z r v ≠ ⊥) (hids : ∀ r k, (ids r k).toNat < 151936) (hinj : ∀ r, Function.Injective (ids r))
    (x7 : Vec Ideal S48x256 .bf16) (r : Fin 256) :
    fin7 x7 m l zs (ix2 0 r) = klF (fun k => x7 (ix2 k r)) (fun k => pick (z r) (ids r k)) (lseF (z r)) (lseF (rest (z r) (ids r))) := by
  have h10 : k1_pay10 (F := Ideal) x7 (ix2 0 r) = ((1 / 2 : ℝ) : EReal) * lseF (fun k => x7 (ix2 k r)) := by
    pointwise [k1_pay10]
    rw [k9_eq]
    have : Ideal.ofBits .f32 0x3F000000#32 = ((1 / 2 : ℝ) : EReal) := by simp [Ideal.ofBits, Ideal.ieee, -EReal.coe_mul]; norm_num
    rw [this]
  have h7 : ∀ k, k1_pay7 (F := Ideal) x7 (ix2 k r) = x7 (ix2 k r) := fun k => by pointwise [k1_pay7]
  have h8 : ∀ k, k1_pay8 (F := Ideal) x7 (ix2 k r) = Ideal.exp (x7 (ix2 k r)) := fun k => by pointwise [k1_pay8, k1_pay7]
  unfold fin7
  pointwise [k1_pay3]
  simp only [h7, h8, h10, k9_eq, k5_eq I hids r, k4_eq I hz hz' r, k6_eq I hz hz' hids hinj r]
  unfold klF
  have hr : (0 - Ideal.tanh (((1 / 2 : ℝ) : EReal) * lseF fun k => x7 (ix2 k r))) * (Ideal.exp (lseF fun k => x7 (ix2 k r)) + 1) = rt (fun k => x7 (ix2 k r)) :=
    tanh_half_ext _
  rw [hr]

end

end Cert.KernelIdeal.Val
-- ==== Proof.Val.Fin.lean ====
/- The logits of bounded rows and finite weights are numbers. -/
module

public import proofs.«01_k».proof.Proof.Val.PrepPay

@[expose] public section

noncomputable section

namespace Cert.Val

open Idealize Idealize.ShloMosaic Cert.KernelIdeal.Val
open scoped BigOperators

theorem real_of {x : EReal} (h : x ≠ ⊤ ∧ x ≠ ⊥) : ∃ a : ℝ, x = (a : EReal) := ⟨x.toReal, (EReal.coe_toReal h.1 h.2).symm⟩

theorem cd_real (s x : EReal) : ∃ a : ℝ, cd s x = (a : EReal) := by
  have e1 : Ideal.ofBits .f32 0x43E00000#32 = ((448 : ℝ) : EReal) := by simp [Ideal.ofBits, Ideal.ieee, -EReal.coe_mul]; norm_num
  have e2 : Ideal.ofBits .f32 0xC3E00000#32 = ((-448 : ℝ) : EReal) := by simp [Ideal.ofBits, Ideal.ieee, -EReal.coe_mul, -EReal.coe_neg]; norm_num
  unfold cd
  rw [e1, e2]
  refine real_of ⟨ne_of_lt (lt_of_le_of_lt (min_le_left _ _) (EReal.coe_lt_top _)), ne_of_gt (lt_of_lt_of_le (EReal.bot_lt_coe (-448)) (le_min ?_ (le_max_left _ _)))⟩
  exact EReal.coe_le_coe_iff.mpr (by norm_num)

theorem sum_real {n : ℕ} (f : Fin n → EReal) (h : ∀ i, ∃ a : ℝ, f i = (a : EReal)) : ∃ a : ℝ, ∑ i, f i = (a : EReal) := by
  choose g hg using h
  refine ⟨∑ i, g i, ?_⟩
  rw [Finset.sum_congr rfl fun i _ => hg i]
  induction (Finset.univ : Finset (Fin n)) using Finset.cons_induction with
  | empty => simp
  | cons a s ha ih => rw [Finset.sum_cons, Finset.sum_cons, EReal.coe_add, ih]

theorem zg_real (X : Fin 256 → Fin 1536 → EReal) (W : Fin 151936 → Fin 1536 → EReal) (S : Fin 151936 → Fin 12 → EReal)
    (hX : ∀ r b, Bounded (blk X r b)) (hW : ∀ v n, W v n ≠ ⊤ ∧ W v n ≠ ⊥) (hS : ∀ v b, S v b ≠ ⊤ ∧ S v b ≠ ⊥) (r : Fin 256) (v : Fin 151936) :
    zg X W S r v ≠ ⊤ ∧ zg X W S r v ≠ ⊥ := by
  have key : ∃ a : ℝ, zg X W S r v = (a : EReal) := by
    unfold zg
    refine sum_real _ fun n => ?_
    obtain ⟨w, ew⟩ := real_of (hW v n)
    obtain ⟨s, es⟩ := real_of (hS v ⟨n.val / 128, by omega⟩)
    obtain ⟨k, ek⟩ := cd_real (sc X r ⟨n.val / 128, by omega⟩) (X r n)
    obtain ⟨a, h0, h1, ea⟩ := amax_real bmax (by unfold bmax; norm_num) _ (hX r ⟨n.val / 128, by omega⟩)
    obtain ⟨q, eq⟩ := scl_real a h0 (bmax_lt a h1)
    refine ⟨k * q * (w * s), ?_⟩
    unfold xq code
    rw [ek, ew, es]
    unfold sc
    rw [ea, eq, ← EReal.coe_mul, ← EReal.coe_mul, ← EReal.coe_mul]
  obtain ⟨a, ea⟩ := key
  rw [ea]
  exact ⟨EReal.coe_ne_top a, EReal.coe_ne_bot a⟩

end Cert.Val
-- ==== Proof.Val.Res.lean ====
/- The quantising kernel's six results as the problem's quantities. -/
module

public import proofs.«01_k».proof.Proof.Val.Host
public import proofs.«01_k».proof.Proof.Val.HeadFin
public import proofs.«01_k».proof.Proof.Val.Fin

@[expose] public section

set_option maxRecDepth 16384

noncomputable section

namespace Cert.KernelIdeal.Val

open Cert.KernelIdeal Cert.KernelIdeal.Gen Cert.KernelIdeal.Own Idealize Idealize.ShloMosaic Idealize.ShloMosaic.TcCoe Idealize.SL.Sem Cert.Val

attribute [local irreducible] prepVals firstVals midVals lastVals codeV xbV scaleV

variable (m : (ℓ : Loc nD τ sig) → Buf (Elt Ideal) ℓ) (c : Dev nD)

/-- The rows, the weights, their scales, the tokens and the teacher's log-probabilities. -/
def Xk : Fin 256 → Fin 1536 → EReal := fun r n => A0 m c (ix3 (ra r) (rb r) n)
def Wk : Fin 151936 → Fin 1536 → EReal := fun v n => A1 m c (ix2 v n)
def Sk : Fin 151936 → Fin 12 → EReal := fun v b => A2 m c (ix2 v b)
def Ik : Fin 256 → Fin 48 → BitVec 32 := fun r k => A3 m c (ix3 (ra r) (rb r) k)
def Tk : Fin 256 → Fin 48 → EReal := fun r k => A4 m c (ix3 (ra r) (rb r) k)
def Zk : Fin 256 → Fin 151936 → EReal := zg (Xk m c) (Wk m c) (Sk m c)

/-- What the precondition grants. -/
structure Tame : Prop where
  hX : ∀ r b, Bounded (blk (Xk m c) r b)
  hW : ∀ v n, Wk m c v n ≠ ⊤ ∧ Wk m c v n ≠ ⊥
  hS : ∀ v b, Sk m c v b ≠ ⊤ ∧ Sk m c v b ≠ ⊥
  hI : ∀ r k, (Ik m c r k).toNat < 151936
  hJ : ∀ r, Function.Injective (Ik m c r)

variable {m c}

theorem Tame.hZ (H : Tame m c) (r : Fin 256) (v : Fin 151936) : Zk m c r v ≠ ⊤ ∧ Zk m c r v ≠ ⊥ := zg_real _ _ _ H.hX H.hW H.hS r v

variable (m c) in
theorem col_blk (b : Fin 12) (r : Fin 256) : (fun l : Fin 128 => colV (in0_0 m c) b (ix2 r l)) = blk (Xk m c) r b := by
  funext l
  rw [in0_0_eq]
  exact v5_apply m c r ⟨b.val * 128 + l.val, by omega⟩

theorem bnd (H : Tame m c) (b : Fin 12) (r : Fin 256) : Bounded (fun l : Fin 128 => colV (in0_0 m c) b (ix2 r l)) := by
  rw [col_blk]
  exact H.hX r b

theorem scale_blk (H : Tame m c) (b : Fin 12) (r : Fin 256) : scaleV (colV (in0_0 m c) b) (ix2 r 0) = sc (Xk m c) r b := by
  rw [scaleV_eq _ r (bnd H b r), col_blk]
  rfl

theorem blk_at (X : Fin 256 → Fin 1536 → EReal) (r : Fin 256) (n : Fin 1536) : blk X r ⟨n.val / 128, by omega⟩ ⟨n.val % 128, by omega⟩ = X r n := by
  unfold blk
  refine congrArg (X r) (Fin.ext ?_)
  show n.val / 128 * 128 + n.val % 128 = n.val
  omega

theorem code_blk (H : Tame m c) (r : Fin 256) (n : Fin 1536) :
    codeV (colV (in0_0 m c) ⟨n.val / 128, by omega⟩) (ix2 r (⟨n.val % 128, by omega⟩ : Fin 128)) = code (Xk m c) r n := by
  have e := congrFun (col_blk m c ⟨n.val / 128, by omega⟩ r) ⟨n.val % 128, by omega⟩
  rw [codeV_eq _ r _ (bnd H _ r), col_blk]
  unfold code sc
  refine congrArg (cd _) (e.trans (blk_at _ r n))

theorem res_codes (H : Tame m c) (r : Fin 256) (n : Fin 1536) : (res0 m c).1 (ix2 r n) = code (Xk m c) r n :=
  (prep_codes c _ _ _ _ _ _ _ _ _ _ _ _ _ _ _ _ (in0_0 m c) (in0_1 m c) (ix2 r n)).trans (code_blk H r n)

theorem res_sc (H : Tame m c) (b : Fin 12) (r : Fin 256) : (res0 m c).2.1 (ix2 b r) = sc (Xk m c) r b :=
  (prep_sc c _ _ _ _ _ _ _ _ _ _ _ _ _ _ _ _ (in0_0 m c) (in0_1 m c) b r).trans (scale_blk H b r)

theorem res_xb (H : Tame m c) (r : Fin 256) (n : Fin 1536) : (res0 m c).2.2.1 (ix2 r n) = xq (Xk m c) r n := by
  refine (prep_xb c _ _ _ _ _ _ _ _ _ _ _ _ _ _ _ _ (in0_0 m c) (in0_1 m c) (ix2 r n)).trans ?_
  refine (xbV_eq (colV (in0_0 m c) ⟨n.val / 128, by omega⟩) r ⟨n.val % 128, by omega⟩).trans ?_
  rw [code_blk H r n, scale_blk H]
  rfl

variable (m c) in
theorem ids_at (k : Fin 48) (r : Fin 256) : in0_1 m c (ix2 k r) = Ik m c r k := by
  rw [in0_1_eq]
  exact v2_apply m c k r

variable (m c) in
theorem tok_at (r : Fin 256) (k : Fin 48) : k0_pay89 (F := Ideal) (in0_1 m c) (ix2 r (⟨k.val, by omega⟩ : Fin 128)) = BitVec.ofNat 32 (Ik m c r k).toNat := by
  rw [pay89_apply, dif_pos k.isLt]
  refine (ids_at m c k r).trans ?_
  exact BitVec.eq_of_toNat_eq (by rw [BitVec.toNat_ofNat, Nat.mod_eq_of_lt (BitVec.isLt _)])

theorem res_lane (r : Fin 256) (k : Fin 48) : (res0 m c).2.2.2.2.1 (ix2 r (⟨k.val, by omega⟩ : Fin 128)) = BitVec.ofNat 32 ((Ik m c r k).toNat % 128) := by
  refine (prep_lane c _ _ _ _ _ _ _ _ _ _ _ _ _ _ _ _ (in0_0 m c) (in0_1 m c) _).trans ?_
  rw [tok_at]
  exact and_nat (Ik m c r k).toNat 7 (BitVec.isLt _) (by norm_num)

theorem res_hi (H : Tame m c) (r : Fin 256) (k : Fin 48) : (res0 m c).2.2.2.2.2 (ix2 r (⟨k.val, by omega⟩ : Fin 128)) = BitVec.ofNat 32 ((Ik m c r k).toNat / 128) := by
  refine (prep_hi c _ _ _ _ _ _ _ _ _ _ _ _ _ _ _ _ (in0_0 m c) (in0_1 m c) _).trans ?_
  rw [tok_at]
  exact shr_nat (Ik m c r k).toNat 7 (by have := H.hI r k; omega) (by norm_num)

theorem res_mask (H : Tame m c) (t : Fin 75) (r : Fin 256) (l : Fin 128) (k : ℕ) (hk : k < 16) :
    (res0 m c).2.2.2.1 (ix3 t r l) &&& BitVec.ofNat 32 (2 ^ k) ≠ 0#32 ↔ ∃ q, (Ik m c r q).toNat = 2048 * t.val + 128 * k + l.val := by
  refine (prep_mask c _ _ _ _ _ _ _ _ _ _ _ _ _ _ _ _ (in0_0 m c) (in0_1 m c) (fun q r => by rw [ids_at]; exact H.hI r q) t r l k hk).trans ?_
  exact exists_congr fun q => by rw [ids_at]

/-- A tile's operands. -/
theorem tile (H : Tame m c) (t : Fin cfg1.N) (d1 : Vec Ideal S2048x1536 .fp8e4m3) (d2 : Vec Ideal S12x2048 .f32) :
    TileOp (Zk m c) (Ik m c) t.val (opd1_0 m c t) (opd1_1 m c t d1) (opd1_2 m c t d2) (opd1_3 m c t) (opd1_4 m c t) (opd1_5 m c t) where
  hz r n h := by
    unfold zT Zk zg
    rw [z_apply]
    refine Finset.sum_congr rfl fun k _ => ?_
    refine congrArg₂ (· * ·) ((congrFun (opd0_eq m c t) _).trans (res_xb H r k)) ?_
    unfold wbV
    refine congrArg₂ (· * ·) (opd1_apply m c t d1 n k h) ?_
    exact opd2_apply m c t d2 n ⟨k.val / 128, by omega⟩ h
  h4 r l k hk := by
    rw [opd3_apply]
    exact res_mask H ⟨t.val, t.isLt⟩ r l k hk
  h5 r k := (congrFun (opd4_eq m c t) _).trans (res_lane r k)
  h6 r k := (congrFun (opd5_eq m c t) _).trans (res_hi H r k)

end Cert.KernelIdeal.Val
-- ==== Proof.Val.Account.lean ====
/- The account of the head's tiles, and the kernel's run with its six results. -/
module

public import proofs.«01_k».proof.Proof.Val.Res

@[expose] public section

set_option maxRecDepth 16384

noncomputable section

namespace Cert.KernelIdeal.Val

open Cert.KernelIdeal Cert.KernelIdeal.Gen Cert.KernelIdeal.Own Idealize Idealize.ShloMosaic Idealize.ShloMosaic.TcCoe Idealize.SL.Sem Cert.Val

attribute [local irreducible] prepVals firstVals midVals lastVals stepM stepL stepG fin7

variable {m : (ℓ : Loc nD τ sig) → Buf (Elt Ideal) ℓ} {c : Dev nD}

/-- The divergence of a row. -/
def klK (m : (ℓ : Loc nD τ sig) → Buf (Elt Ideal) ℓ) (c : Dev nD) (r : Fin 256) : EReal :=
  klF (Tk m c r) (fun k => pick (Zk m c r) (Ik m c r k)) (lseF (Zk m c r)) (lseF (rest (Zk m c r) (Ik m c r)))

theorem tch (t : Fin cfg1.N) (r : Fin 256) : (fun k : Fin 48 => (opd1_6 m c t (ix2 k r) : EReal)) = Tk m c r := by
  funext k
  rw [opd6_eq]
  exact v4_apply m c k r

theorem last_vals (H : Tame m c) (t : Fin cfg1.N) {x y z : Vec Ideal S256x128 .f32} (I : RowInv (Zk m c) (Ik m c) 75 x y z) :
    (∀ r, fin7 (opd1_6 m c t) x y z (ix2 0 r) = klK m c r) ∧ (∀ r, k1_pay6 (F := Ideal) x y z (ix2 0 r) = lseF (Zk m c r))
      ∧ (∀ r, k1_pay4 (F := Ideal) x y (ix2 0 r) = lseF (rest (Zk m c r) (Ik m c r))) ∧ (∀ r k, k1_pay5 (F := Ideal) z (ix2 k r) = pick (Zk m c r) (Ik m c r k)) := by
  have h1 := fun r v => (H.hZ r v).1
  have h2 := fun r v => (H.hZ r v).2
  refine ⟨fun r => ?_, fun r => k6_eq I h1 h2 H.hI H.hJ r, fun r => k4_eq I h1 h2 r, fun r k => k5_eq I H.hI r k⟩
  have e := tch (m := m) (c := c) t r
  refine (fin7_eq I h1 h2 H.hI H.hJ (opd1_6 m c t) r).trans ?_
  rw [e]
  rfl

/-- The account of the tiles. -/
def account (H : Tame m c) : HeadSpec m c where
  I n x y z := RowInv (Zk m c) (Ik m c) n x y z
  O7 y := ∀ r, y (ix2 0 r) = klK m c r
  O8 y := ∀ r, y (ix2 0 r) = lseF (Zk m c r)
  O9 y := ∀ r, y (ix2 0 r) = lseF (rest (Zk m c r) (Ik m c r))
  O10 y := ∀ r k, y (ix2 k r) = pick (Zk m c r) (Ik m c r k)
  first t h1 h2 d1 d2 h := by
    rw [firstVals_eq]
    have T := tile H t d1 d2
    have hc := coords0 t
    rw [h] at T hc
    exact RowInv.step T (fun r v => (H.hZ r v).1) (by norm_num) _ hc (RowInv.zero _ _)
  mid t h1 h2 d1 d2 x14 x15 x16 h I := by
    rw [midVals_eq]
    exact RowInv.step (tile H t d1 d2) (fun r v => (H.hZ r v).1) (tn t) _ (coords0 t) I
  last t h1 h2 d1 d2 x14 x15 x16 h I := by
    rw [lastVals_eq]
    have T := tile H t d1 d2
    have hc := coords0 t
    rw [h] at T hc I
    have I' := RowInv.step T (fun r v => (H.hZ r v).1) (by norm_num) _ hc I
    exact last_vals H t I'

/-- Every run ends with the six results at the problem's quantities. -/
theorem run_values (m : (ℓ : Loc nD τ sig) → Buf (Elt Ideal) ℓ) (H : ∀ c, Tame m c) (ρ : Dev nD → PrngReg) :
    θ_run defs (onTc (τ := τ) (main (F := Ideal))) ⟨m, fun _ => 0, ρ⟩ (fun r => ∀ c : Dev nD,
      (∀ (a : Fin 2) (b : Fin 128), (r.2.mem ((c.tc : Thread nD τ).loc main_v13) : Vec Ideal S2x128 .f32) (ix2 a b) = klK m c ⟨a.val * 128 + b.val, by omega⟩)
      ∧ (∀ (a : Fin 2) (b : Fin 128), (r.2.mem ((c.tc : Thread nD τ).loc main_v14) : Vec Ideal S2x128 .f32) (ix2 a b) = lseF (Zk m c ⟨a.val * 128 + b.val, by omega⟩))
      ∧ (∀ (a : Fin 2) (b : Fin 128), (r.2.mem ((c.tc : Thread nD τ).loc main_v15) : Vec Ideal S2x128 .f32) (ix2 a b) = lseF (rest (Zk m c ⟨a.val * 128 + b.val, by omega⟩) (Ik m c ⟨a.val * 128 + b.val, by omega⟩)))
      ∧ (∀ (a : Fin 2) (b : Fin 128) (k : Fin 48), (r.2.mem ((c.tc : Thread nD τ).loc main_v10) : Vec Ideal S2x128x48 .f32) (ix3 a b k) = pick (Zk m c ⟨a.val * 128 + b.val, by omega⟩) (Ik m c ⟨a.val * 128 + b.val, by omega⟩ k))
      ∧ (∀ (a : Fin 2) (b : Fin 128) (n : Fin 1536), (r.2.mem ((c.tc : Thread nD τ).loc main_v16) : Vec Ideal S2x128x1536 .fp8e4m3) (ix3 a b n) = code (Xk m c) ⟨a.val * 128 + b.val, by omega⟩ n)
      ∧ (∀ (a : Fin 2) (b : Fin 128) (j : Fin 12), (r.2.mem ((c.tc : Thread nD τ).loc main_v12) : Vec Ideal S2x128x12 .f32) (ix3 a b j) = sc (Xk m c) ⟨a.val * 128 + b.val, by omega⟩ j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨γ, hγ⟩ := h.1 c
    refine ⟨fun a b => (congrFun (hγ _ (uc_mem main_v13 (by decide))) _).trans ((u5_13 c γ a b).trans (γ.2.1 _)),
      fun a b => (congrFun (hγ _ (uc_mem main_v14 (by decide))) _).trans ((u5_14 c γ a b).trans (γ.2.2.1 _)),
      fun a b => (congrFun (hγ _ (uc_mem main_v15 (by decide))) _).trans ((u5_15 c γ a b).trans (γ.2.2.2.1 _)),
      fun a b k => (congrFun (hγ _ (uc_mem main_v10 (by decide))) _).trans ((u5_10 c γ a b k).trans (γ.2.2.2.2 _ k)),
      fun a b n => (congrFun (hγ _ (uc_mem main_v16 (by decide))) _).trans ((u5_16 c γ a b n).trans (res_codes (H c) _ n)),
      fun a b j => (congrFun (hγ _ (uc_mem main_v12 (by decide))) _).trans ((u5_12 c γ a b j).trans (res_sc (H c) j _)),
      (hγ _ (uc_mem main_arg0 (by decide))).trans (U5_arg _ c γ main_arg0 (by decide) (by decide) (by decide) (by decide) (by decide)),
      (hγ _ (uc_mem main_arg1 (by decide))).trans (U5_arg _ c γ main_arg1 (by decide) (by decide) (by decide) (by decide) (by decide)),
      (hγ _ (uc_mem main_arg2 (by decide))).trans (U5_arg _ c γ main_arg2 (by decide) (by decide) (by decide) (by decide) (by decide)),
      (hγ _ (uc_mem main_arg3 (by decide))).trans (U5_arg _ c γ main_arg3 (by decide) (by decide) (by decide) (by decide) (by decide)),
      (hγ _ (uc_mem main_arg4 (by decide))).trans (U5_arg _ c γ main_arg4 (by decide) (by decide) (by decide) (by decide) (by decide))⟩)
    (Cert.KernelIdeal.Own.run (fun c => account (H c)) ρ)

end Cert.KernelIdeal.Val
-- ==== Proof.Val.RefPay.lean ====
module

public import proofs.«01_k».proof.Proof.Gen.ReferenceIdeal.Skeleton
public import proofs.«01_k».proof.Proof.Val.Spec

@[expose] public section

set_option maxRecDepth 16384

noncomputable section

namespace Cert.ReferenceIdeal.Val

open Cert.ReferenceIdeal Cert.ReferenceIdeal.Gen Idealize Idealize.ShloMosaic
open Cert.Val
open scoped BigOperators

/-- The hidden rows as a function of row and channel. -/
def Xr (x : Vec Ideal S2x128x1536 .bf16) : Fin 256 → Fin 1536 → EReal := fun r n => x (ix3 (⟨r.val / 128, by omega⟩ : Fin 2) (⟨r.val % 128, by omega⟩ : Fin 128) n)

theorem pay2_apply (x : Vec Ideal S2x128x1536 .bf16) (r : Fin 256) (b : Fin 12) (l : Fin 128) : k0_pay2 x (ix3 r b l) = blk (Xr x) r b l := by
  pointwise [k0_pay2]
  rfl

theorem pay3_apply (x : Vec Ideal S2x128x1536 .bf16) (r : Fin 256) (b : Fin 12) : k0_pay3 x (ix2 r b) = sc (Xr x) r b := by
  pointwise [k0_pay3]
  simp only [pay2_apply]
  rfl

theorem pay4_apply (x : Vec Ideal S2x128x1536 .bf16) (r : Fin 256) (b : Fin 12) (l : Fin 128) :
    k0_pay4 x (ix3 r b l) = cd (sc (Xr x) r b) (blk (Xr x) r b l) := by
  pointwise [k0_pay4]
  simp only [pay2_apply, pay3_apply]
  rfl

theorem code_eq (x : Vec Ideal S2x128x1536 .bf16) (r : Fin 256) (n : Fin 1536) :
    k0_pay4 x (ix3 r (⟨n.val / 128, by omega⟩ : Fin 12) (⟨n.val % 128, by omega⟩ : Fin 128)) = code (Xr x) r n := by
  rw [pay4_apply]
  have h : blk (Xr x) r (⟨n.val / 128, by omega⟩ : Fin 12) (⟨n.val % 128, by omega⟩ : Fin 128) = Xr x r n :=
    congrArg (Xr x r) (Fin.ext (Nat.div_add_mod' n.val 128))
  rw [h]
  rfl

theorem pay5_apply (x : Vec Ideal S2x128x1536 .bf16) (r : Fin 256) (n : Fin 1536) : k0_pay5 x (ix2 r n) = xq (Xr x) r n := by
  pointwise [k0_pay5]
  rw [pay3_apply]
  exact congrArg (· * _) (code_eq x r n)

theorem max_row {n0 n1 : ℕ} (src : FVec Ideal ⟨2, ![n0, n1]⟩ .f32) (acc : BitVec 32) (h : Shape.Reduces ⟨2, ![n0, n1]⟩ [1] ⟨1, ![n0]⟩)
    (hφ : FKind.Formats .f32) (hacc : acc = FKind.maximumf.neutral .f32 hφ) (r : Fin n0) :
    multiReduction .maximumf [1] ⟨1, ![n0]⟩ src acc h hφ hacc (ix1 r)
      = (Finset.univ : Finset (Fin n1)).fold max (Ideal.ofBits .f32 acc) (fun k => src (ix2 r k)) := by
  pointwise

/-- A log-sum-exp along a row of any length, in the vector operations. -/
def lseV {n : ℕ} (z : FVec Ideal ⟨2, ![256, n]⟩ .f32) (h : Shape.Reduces ⟨2, ![256, n]⟩ [1] S256) (hb : S256x1.Broadcasts ⟨2, ![256, n]⟩) : FVec Ideal S256x1 .f32 :=
  addf (shapeCast S256x1 (multiReduction .maximumf [1] S256 z 0xFF800000#32 h (.inl rfl) rfl) shapeCasts_S256_S256x1)
    (log (shapeCast S256x1 (multiReduction .add [1] S256 (exp (subf z (broadcastTo ⟨2, ![256, n]⟩ (shapeCast S256x1 (multiReduction .maximumf [1] S256 z 0xFF800000#32 h (.inl rfl) rfl) shapeCasts_S256_S256x1) hb)))
       0x00000000#32 h (.inl rfl) rfl) shapeCasts_S256_S256x1))

theorem lseV_apply {n : ℕ} (z : FVec Ideal ⟨2, ![256, n]⟩ .f32) (h : Shape.Reduces ⟨2, ![256, n]⟩ [1] S256) (hb : S256x1.Broadcasts ⟨2, ![256, n]⟩) (r : Fin 256) :
    lseV z h hb (ix2 r 0) = (Finset.univ : Finset (Fin n)).fold max (Ideal.ofBits .f32 0xFF800000#32) (fun k => z (ix2 r k))
      + Ideal.log (∑ v : Fin n, Ideal.exp (z (ix2 r v) - (Finset.univ : Finset (Fin n)).fold max (Ideal.ofBits .f32 0xFF800000#32) (fun k => z (ix2 r k)))) := by
  pointwise [lseV]

theorem pay8_eq (v37 : FVec Ideal S256x1536 .bf16) (v41 : FVec Ideal S151936x12x128 .bf16) (v42 : Vec Ideal S151936x12 .f32) :
    k0_pay8 v37 v41 v42 = lseV (n := 151936) (k0_pay7 v37 v41 v42) reduces_S256x151936_S256 broadcasts_S256x1_S256x151936 := rfl

/-- The logits with the supported ones masked, as the vector operations state them. -/
def restV (z : FVec Ideal S256x151936 .f32) (ids : Vec Ideal S2x128x48 .i32) : FVec Ideal S256x151936 .f32 :=
  select (cmpi .sgt (multiReductionI .add [1] S256x151936 (select (k0_pay9 ids) (broadcast S256x48x151936 1#32) (broadcast S256x48x151936 0#32))
    0#32 reduces_S256x48x151936_S256x151936 rfl) (broadcast S256x151936 0#32)) (broadcast S256x151936 (Scalar.ofBits .f32 0xFF800000#32)) z

theorem pay11_eq (v37 : FVec Ideal S256x1536 .bf16) (v41 : FVec Ideal S151936x12x128 .bf16) (v42 : Vec Ideal S151936x12 .f32) (v58 : Vec Ideal S2x128x48 .i32) :
    k0_pay11 v37 v41 v42 v58 = lseV (n := 151936) (restV (k0_pay7 v37 v41 v42) v58) reduces_S256x151936_S256 broadcasts_S256x1_S256x151936 := rfl

/-- The vocabulary codes and scales as functions. -/
def Wr (w : Vec Ideal S151936x1536 .fp8e4m3) : Fin 151936 → Fin 1536 → EReal := fun v n => w (ix2 v n)
def Sr (s : Vec Ideal S151936x12 .f32) : Fin 151936 → Fin 12 → EReal := fun v b => s (ix2 v b)
/-- The supported tokens of a row. -/
def IDr (ids : Vec Ideal S2x128x48 .i32) : Fin 256 → Fin 48 → BitVec 32 := fun r k => ids (ix3 (⟨r.val / 128, by omega⟩ : Fin 2) (⟨r.val % 128, by omega⟩ : Fin 128) k)
/-- The teacher's log-probabilities of a row. -/
def Tr (t : Vec Ideal S2x128x48 .bf16) : Fin 256 → Fin 48 → EReal := fun r k => t (ix3 (⟨r.val / 128, by omega⟩ : Fin 2) (⟨r.val % 128, by omega⟩ : Fin 128) k)

theorem pay6_apply (w : Vec Ideal S151936x1536 .fp8e4m3) (v : Fin 151936) (b : Fin 12) (l : Fin 128) :
    k0_pay6 w (ix3 v b l) = Wr w v ⟨b.val * 128 + l.val, by omega⟩ := by
  pointwise [k0_pay6]
  rfl

theorem pay7_apply (x : Vec Ideal S2x128x1536 .bf16) (w : Vec Ideal S151936x1536 .fp8e4m3) (s : Vec Ideal S151936x12 .f32) (r : Fin 256) (v : Fin 151936) :
    k0_pay7 (k0_pay5 x) (k0_pay6 w) s (ix2 r v) = zg (Xr x) (Wr w) (Sr s) r v := by
  pointwise [k0_pay7]
  refine Finset.sum_congr rfl fun n _ => ?_
  rw [pay5_apply, pay6_apply]
  refine congrArg₂ (· * ·) rfl (congrArg₂ (· * ·) (congrArg (Wr w v) (Fin.ext (Nat.div_add_mod' n.val 128))) rfl)

theorem lse_apply (x : Vec Ideal S2x128x1536 .bf16) (w : Vec Ideal S151936x1536 .fp8e4m3) (s : Vec Ideal S151936x12 .f32) (r : Fin 256) :
    k0_pay8 (k0_pay5 x) (k0_pay6 w) s (ix2 r 0) = lseF (zg (Xr x) (Wr w) (Sr s) r) := by
  rw [pay8_eq, lseV_apply]
  simp only [pay7_apply]
  rfl

theorem pay9_apply (ids : Vec Ideal S2x128x48 .i32) (r : Fin 256) (k : Fin 48) (v : Fin 151936) :
    k0_pay9 ids (ix3 r k v) = IntOp.cmpi .eq (IDr ids r k) (BitVec.ofNat 32 v.val) := by
  pointwise [k0_pay9]
  rfl

theorem zsup_apply (x : Vec Ideal S2x128x1536 .bf16) (w : Vec Ideal S151936x1536 .fp8e4m3) (s : Vec Ideal S151936x12 .f32) (ids : Vec Ideal S2x128x48 .i32) (r : Fin 256) (k : Fin 48) :
    k0_pay10 (k0_pay5 x) (k0_pay6 w) s ids (ix2 r k) = pick (zg (Xr x) (Wr w) (Sr s) r) (IDr ids r k) := by
  pointwise [k0_pay10]
  refine Finset.sum_congr rfl fun v _ => ?_
  rw [pay9_apply, pay7_apply, sel_eq]

/-- A count of at most 48 hits is positive exactly when there is one. -/
theorem count_pos (P : Fin 48 → Prop) [DecidablePred P] :
    IntOp.cmpi .sgt ((Finset.univ : Finset (Fin 48)).fold IntOp.addi 0#32 (fun k => if P k then 1#32 else 0#32)) 0#32 = BitVec.ofBool (decide (∃ k, P k)) := by
  have h : ∀ s : Finset (Fin 48), s.fold IntOp.addi 0#32 (fun k => if P k then 1#32 else 0#32) = BitVec.ofNat 32 (s.filter P).card := by
    intro s
    induction s using Finset.induction_on with
    | empty => rfl
    | insert a s ha ih =>
      rw [Finset.fold_insert ha, ih, Finset.filter_insert]
      by_cases hp : P a
      · rw [if_pos hp, if_pos hp, Finset.card_insert_of_notMem (by simp [ha])]
        show 1#32 + _ = _
        rw [BitVec.add_comm, ← BitVec.ofNat_add]
      · rw [if_neg hp, if_neg hp]
        show 0#32 + _ = _
        rw [BitVec.zero_add]
  rw [h]
  have hc : (Finset.univ.filter P).card ≤ 48 := (Finset.card_filter_le _ _).trans (by simp)
  have hz : (∃ k, P k) ↔ 0 < (Finset.univ.filter P).card := by
    rw [Finset.card_pos, Finset.filter_nonempty_iff]; simp
  have key : ∀ n : Fin 49, IntOp.cmpi .sgt (BitVec.ofNat 32 n.val) 0#32 = BitVec.ofBool (decide (0 < n.val)) := by decide +kernel
  have := key ⟨_, Nat.lt_succ_of_le hc⟩
  rw [this]
  congr 1
  exact decide_eq_decide.mpr hz.symm

theorem restV_apply (z : FVec Ideal S256x151936 .f32) (ids : Vec Ideal S2x128x48 .i32) (r : Fin 256) (v : Fin 151936) :
    restV z ids (ix2 r v) = rest (fun v => z (ix2 r v)) (IDr ids r) v := by
  pointwise [restV]
  simp only [pay9_apply]
  have h := count_pos (fun k => IDr ids r k = BitVec.ofNat 32 v.val)
  simp only [sel_eq]
  rw [h, ofBits_ninf]
  rw [sel_bool]
  unfold rest
  by_cases h : ∃ k, IDr ids r k = BitVec.ofNat 32 v.val
  · rw [if_pos h, if_pos (decide_eq_true h)]
  · rw [if_neg h, if_neg (by simp [h])]

theorem lserest_apply (x : Vec Ideal S2x128x1536 .bf16) (w : Vec Ideal S151936x1536 .fp8e4m3) (s : Vec Ideal S151936x12 .f32) (ids : Vec Ideal S2x128x48 .i32) (r : Fin 256) :
    k0_pay11 (k0_pay5 x) (k0_pay6 w) s ids (ix2 r 0) = lseF (rest (zg (Xr x) (Wr w) (Sr s) r) (IDr ids r)) := by
  rw [pay11_eq, lseV_apply]
  simp only [restV_apply, pay7_apply]
  rfl

theorem kl_apply (L R : FVec Ideal S256x1 .f32) (zs : FVec Ideal S256x48 .f32) (t : Vec Ideal S2x128x48 .bf16) (a : Fin 2) (b : Fin 128) :
    k0_pay12 L zs R t (ix2 a b) = klF (Tr t ⟨a.val * 128 + b.val, by omega⟩) (fun k => zs (ix2 (⟨a.val * 128 + b.val, by omega⟩ : Fin 256) k))
      (L (ix2 (⟨a.val * 128 + b.val, by omega⟩ : Fin 256) 0)) (R (ix2 (⟨a.val * 128 + b.val, by omega⟩ : Fin 256) 0)) := by
  have ha : (⟨(a.val * 128 + b.val) / 128, by omega⟩ : Fin 2) = a := Fin.ext (by show (a.val * 128 + b.val) / 128 = a.val; omega)
  have hb : (⟨(a.val * 128 + b.val) % 128, by omega⟩ : Fin 128) = b := Fin.ext (by show (a.val * 128 + b.val) % 128 = b.val; omega)
  pointwise [k0_pay12]
  unfold klF rt lseF Tr
  simp only [ha, hb]

end Cert.ReferenceIdeal.Val
-- ==== Proof.Val.RefRun.lean ====
/- The reference's run with its six results as functions of its arguments. -/
module

public import proofs.«01_k».proof.Proof.Gen.ReferenceIdeal.Frame
public import Idealize.ShloMosaic.Lib.Pipeline.Value
public import proofs.«01_k».proof.Proof.Val.RefPay

@[expose] public section

set_option maxRecDepth 16384

noncomputable section

namespace Cert.ReferenceIdeal.Val

open Cert.ReferenceIdeal Cert.ReferenceIdeal.Gen Idealize Idealize.ShloMosaic Idealize.ShloMosaic.TcCoe Idealize.SL.Sem
open Idealize.ShloMosaic.Pipeline (Dat)
open Cert.Val

variable (m : (ℓ : Loc nD τ sig) → Buf (Elt Ideal) ℓ)

theorem rd0 (A : (⟨S2x128x1536, .bf16⟩ : BufTy).Contents (Elt Ideal)) : ((cfg0.win 0).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega
  | ⟨2, _⟩ => show 0 * 1536 + 1 * (y 2).val = (y 2).val; omega

theorem rd5 (A : (⟨S2x128, .f32⟩ : BufTy).Contents (Elt Ideal)) : ((cfg0.win 5).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega

theorem fin5 (c : Dev nD) : (dats m 0 c).arrAt 5 cfg0.N = out0_5 (iblk m c 0 t0_0) (iblk m c 1 t0_0) (iblk m c 2 t0_0) (iblk m c 3 t0_0) (iblk m c 4 t0_0) := by
  have h := (dats m 0 c).read_blk_arrAt_eq_flushed 5 (fun t t' _ _ hne => absurd ((fin_N0 t).trans (fin_N0 t').symm) hne) cfg0.N t0_0 t0_0.isLt (flush0_5 t0_0)
  rw [rd5] at h
  rw [h]
  show (cfg0.win 5).cut (grid0.coords t0_0) ((dats m 0 c).after 5 t0_0) = _
  rw [after0_5]
  rfl

theorem rd1 (A : (⟨S151936x1536, .fp8e4m3⟩ : BufTy).Contents (Elt Ideal)) : ((cfg0.win 1).blk t0_0).view.read (Elt Ideal) A = A := by
  funext y
  refine congrArg A (funext fun a => Fin.ext ?_)
  match a with
  | ⟨0, _⟩ => show 0 * 151936 + 1 * (y 0).val = (y 0).val; omega
  | ⟨1, _⟩ => show 0 * 1536 + 1 * (y 1).val = (y 1).val; omega

theorem rd2 (A : (⟨S151936x12, .f32⟩ : BufTy).Contents (Elt Ideal)) : ((cfg0.win 2).blk t0_0).view.read (Elt Ideal) A = A := by
  funext y
  refine congrArg A (funext fun a => Fin.ext ?_)
  match a with
  | ⟨0, _⟩ => show 0 * 151936 + 1 * (y 0).val = (y 0).val; omega
  | ⟨1, _⟩ => show 0 * 12 + 1 * (y 1).val = (y 1).val; omega

theorem rd3 (A : (⟨S2x128x48, .i32⟩ : BufTy).Contents (Elt Ideal)) : ((cfg0.win 3).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega
  | ⟨2, _⟩ => show 0 * 48 + 1 * (y 2).val = (y 2).val; omega

theorem rd4 (A : (⟨S2x128x48, .bf16⟩ : BufTy).Contents (Elt Ideal)) : ((cfg0.win 4).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega
  | ⟨2, _⟩ => show 0 * 48 + 1 * (y 2).val = (y 2).val; omega

theorem rd6 (A : (⟨S2x128, .f32⟩ : BufTy).Contents (Elt Ideal)) : ((cfg0.win 6).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega

theorem rd7 (A : (⟨S2x128, .f32⟩ : BufTy).Contents (Elt Ideal)) : ((cfg0.win 7).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega

theorem rd8 (A : (⟨S2x128x48, .f32⟩ : BufTy).Contents (Elt Ideal)) : ((cfg0.win 8).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega
  | ⟨2, _⟩ => show 0 * 48 + 1 * (y 2).val = (y 2).val; omega

theorem rd9 (A : (⟨S2x128x1536, .fp8e4m3⟩ : BufTy).Contents (Elt Ideal)) : ((cfg0.win 9).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega
  | ⟨2, _⟩ => show 0 * 1536 + 1 * (y 2).val = (y 2).val; omega

theorem rd10 (A : (⟨S2x128x12, .f32⟩ : BufTy).Contents (Elt Ideal)) : ((cfg0.win 10).blk t0_0).view.read (Elt Ideal) A = A := by
  funext y
  refine congrArg A (funext fun a => Fin.ext ?_)
  match a with
  | ⟨0, _⟩ => show 0 * 2 + 1 * (y 0).val = (y 0).val; omega
  | ⟨1, _⟩ => show 0 * 128 + 1 * (y 1).val = (y 1).val; omega
  | ⟨2, _⟩ => show 0 * 12 + 1 * (y 2).val = (y 2).val; omega

theorem fin6 (c : Dev nD) : (dats m 0 c).arrAt 6 cfg0.N = out0_6 (iblk m c 0 t0_0) (iblk m c 1 t0_0) (iblk m c 2 t0_0) (iblk m c 3 t0_0) (iblk m c 4 t0_0) := by
  have h := (dats m 0 c).read_blk_arrAt_eq_flushed 6 (fun t t' _ _ hne => absurd ((fin_N0 t).trans (fin_N0 t').symm) hne) cfg0.N t0_0 t0_0.isLt (flush0_6 t0_0)
  rw [rd6] at h
  rw [h]
  show (cfg0.win 6).cut (grid0.coords t0_0) ((dats m 0 c).after 6 t0_0) = _
  rw [after0_6]
  rfl

theorem fin7 (c : Dev nD) : (dats m 0 c).arrAt 7 cfg0.N = out0_7 (iblk m c 0 t0_0) (iblk m c 1 t0_0) (iblk m c 2 t0_0) (iblk m c 3 t0_0) (iblk m c 4 t0_0) := by
  have h := (dats m 0 c).read_blk_arrAt_eq_flushed 7 (fun t t' _ _ hne => absurd ((fin_N0 t).trans (fin_N0 t').symm) hne) cfg0.N t0_0 t0_0.isLt (flush0_7 t0_0)
  rw [rd7] at h
  rw [h]
  show (cfg0.win 7).cut (grid0.coords t0_0) ((dats m 0 c).after 7 t0_0) = _
  rw [after0_7]
  rfl

theorem fin8 (c : Dev nD) : (dats m 0 c).arrAt 8 cfg0.N = out0_8 (iblk m c 0 t0_0) (iblk m c 1 t0_0) (iblk m c 2 t0_0) (iblk m c 3 t0_0) (iblk m c 4 t0_0) := by
  have h := (dats m 0 c).read_blk_arrAt_eq_flushed 8 (fun t t' _ _ hne => absurd ((fin_N0 t).trans (fin_N0 t').symm) hne) cfg0.N t0_0 t0_0.isLt (flush0_8 t0_0)
  rw [rd8] at h
  rw [h]
  show (cfg0.win 8).cut (grid0.coords t0_0) ((dats m 0 c).after 8 t0_0) = _
  rw [after0_8]
  rfl

theorem fin9 (c : Dev nD) : (dats m 0 c).arrAt 9 cfg0.N = out0_9 (iblk m c 0 t0_0) (iblk m c 1 t0_0) (iblk m c 2 t0_0) (iblk m c 3 t0_0) (iblk m c 4 t0_0) := by
  have h := (dats m 0 c).read_blk_arrAt_eq_flushed 9 (fun t t' _ _ hne => absurd ((fin_N0 t).trans (fin_N0 t').symm) hne) cfg0.N t0_0 t0_0.isLt (flush0_9 t0_0)
  rw [rd9] at h
  rw [h]
  show (cfg0.win 9).cut (grid0.coords t0_0) ((dats m 0 c).after 9 t0_0) = _
  rw [after0_9]
  rfl

theorem fin10 (c : Dev nD) : (dats m 0 c).arrAt 10 cfg0.N = out0_10 (iblk m c 0 t0_0) (iblk m c 1 t0_0) (iblk m c 2 t0_0) (iblk m c 3 t0_0) (iblk m c 4 t0_0) := by
  have h := (dats m 0 c).read_blk_arrAt_eq_flushed 10 (fun t t' _ _ hne => absurd ((fin_N0 t).trans (fin_N0 t').symm) hne) cfg0.N t0_0 t0_0.isLt (flush0_10 t0_0)
  rw [rd10] at h
  rw [h]
  show (cfg0.win 10).cut (grid0.coords t0_0) ((dats m 0 c).after 10 t0_0) = _
  rw [after0_10]
  rfl

theorem ib0 (c : Dev nD) : (iblk m c 0 t0_0 : Vec Ideal S2x128x1536 .bf16) = (m ((c : Thread nD τ).loc main_arg0) : Vec Ideal S2x128x1536 .bf16) :=
  (rd0 _).trans (V_main_arg0 m c)

theorem V_main_v0 (c : Dev nD) : V m c main_v0 = (m ((c : Thread nD τ).loc main_arg1) : Vec Ideal S151936x1536 .fp8e4m3) := by
  show StableHlo.after hostOps0 _ (Proc.devRef .tc main_v0) = _
  rfl

theorem ib1 (c : Dev nD) : (iblk m c 1 t0_0 : Vec Ideal S151936x1536 .fp8e4m3) = (m ((c : Thread nD τ).loc main_arg1) : Vec Ideal S151936x1536 .fp8e4m3) :=
  (rd1 _).trans (V_main_v0 m c)

theorem ib2 (c : Dev nD) : (iblk m c 2 t0_0 : Vec Ideal S151936x12 .f32) = (m ((c : Thread nD τ).loc main_arg2) : Vec Ideal S151936x12 .f32) :=
  (rd2 _).trans (V_main_arg2 m c)

theorem ib3 (c : Dev nD) : (iblk m c 3 t0_0 : Vec Ideal S2x128x48 .i32) = (m ((c : Thread nD τ).loc main_arg3) : Vec Ideal S2x128x48 .i32) :=
  (rd3 _).trans (V_main_arg3 m c)

theorem ib4 (c : Dev nD) : (iblk m c 4 t0_0 : Vec Ideal S2x128x48 .bf16) = (m ((c : Thread nD τ).loc main_arg4) : Vec Ideal S2x128x48 .bf16) :=
  (rd4 _).trans (V_main_arg4 m c)

/-- The divergence of row `r`. -/
def klR (x : Vec Ideal S2x128x1536 .bf16) (w : Vec Ideal S151936x1536 .fp8e4m3) (s : Vec Ideal S151936x12 .f32) (ids : Vec Ideal S2x128x48 .i32) (t : Vec Ideal S2x128x48 .bf16) (r : Fin 256) : EReal :=
  klF (Tr t r) (fun k => pick (zg (Xr x) (Wr w) (Sr s) r) (IDr ids r k)) (lseF (zg (Xr x) (Wr w) (Sr s) r)) (lseF (rest (zg (Xr x) (Wr w) (Sr s) r) (IDr ids r)))

/-- The row of two leading coordinates. -/
def rw2 (a : Fin 2) (b : Fin 128) : Fin 256 := ⟨a.val * 128 + b.val, by omega⟩

section
variable (x0 : Vec Ideal S2x128x1536 .bf16) (x1 : Vec Ideal S151936x1536 .fp8e4m3) (x2 : Vec Ideal S151936x12 .f32) (x3 : Vec Ideal S2x128x48 .i32) (x4 : Vec Ideal S2x128x48 .bf16)

theorem ld0 : View.ld x0 r0_0 = x0 := View.ld_unit_zero (by funext a; fin_cases a <;> rfl) _ _
theorem ld1 : View.ld x1 r0_1 = x1 := View.ld_unit_zero (by funext a; fin_cases a <;> rfl) _ _
theorem ld2 : View.ld x2 r0_2 = x2 := View.ld_unit_zero (by funext a; fin_cases a <;> rfl) _ _
theorem ld3 (x : Vec Ideal S2x128x48 .i32) : View.ld x r0_3 = x := View.ld_unit_zero (by funext a; fin_cases a <;> rfl) _ _
theorem ld4 (x : Vec Ideal S2x128x48 .bf16) : View.ld x r0_3 = x := View.ld_unit_zero (by funext a; fin_cases a <;> rfl) _ _

theorem p19 (r : Fin 256) : k0_pay19 x0 x1 x2 x3 x4 (ix2 r 0) = lseF (zg (Xr x0) (Wr x1) (Sr x2) r) := by
  unfold k0_pay19 k0_pay18 k0_pay17
  rw [ld0, ld1, ld2, lse_apply]
theorem p20 (r : Fin 256) (k : Fin 48) : k0_pay20 x0 x1 x2 x3 x4 (ix2 r k) = pick (zg (Xr x0) (Wr x1) (Sr x2) r) (IDr x3 r k) := by
  unfold k0_pay20 k0_pay18 k0_pay17
  rw [ld0, ld1, ld2, ld3, zsup_apply]
theorem p21 (r : Fin 256) : k0_pay21 x0 x1 x2 x3 x4 (ix2 r 0) = lseF (rest (zg (Xr x0) (Wr x1) (Sr x2) r) (IDr x3 r)) := by
  unfold k0_pay21 k0_pay18 k0_pay17
  rw [ld0, ld1, ld2, ld3, lserest_apply]

theorem o5 (a : Fin 2) (b : Fin 128) : out0_5 x0 x1 x2 x3 x4 (ix2 a b) = klR x0 x1 x2 x3 x4 (rw2 a b) := by
  unfold out0_5
  rw [View.canon_unit_zero (by funext a; fin_cases a <;> rfl), ld4]
  refine (kl_apply _ _ _ _ a b).trans ?_
  unfold klR
  simp only [p19, p20, p21]
  rfl

theorem o6 (a : Fin 2) (b : Fin 128) : out0_6 x0 x1 x2 x3 x4 (ix2 a b) = lseF (zg (Xr x0) (Wr x1) (Sr x2) (rw2 a b)) := by
  unfold out0_6
  rw [View.canon_unit_zero (by funext a; fin_cases a <;> rfl)]
  pointwise [k0_pay13]
  exact p19 x0 x1 x2 x3 x4 (rw2 a b)

theorem o7 (a : Fin 2) (b : Fin 128) : out0_7 x0 x1 x2 x3 x4 (ix2 a b) = lseF (rest (zg (Xr x0) (Wr x1) (Sr x2) (rw2 a b)) (IDr x3 (rw2 a b))) := by
  unfold out0_7
  rw [View.canon_unit_zero (by funext a; fin_cases a <;> rfl)]
  pointwise [k0_pay14]
  exact p21 x0 x1 x2 x3 x4 (rw2 a b)

theorem o8 (a : Fin 2) (b : Fin 128) (k : Fin 48) : out0_8 x0 x1 x2 x3 x4 (ix3 a b k) = pick (zg (Xr x0) (Wr x1) (Sr x2) (rw2 a b)) (IDr x3 (rw2 a b) k) := by
  unfold out0_8
  rw [View.canon_unit_zero (by funext a; fin_cases a <;> rfl)]
  pointwise [k0_pay15]
  exact p20 x0 x1 x2 x3 x4 (rw2 a b) k

theorem o9 (a : Fin 2) (b : Fin 128) (n : Fin 1536) : out0_9 x0 x1 x2 x3 x4 (ix3 a b n) = code (Xr x0) (rw2 a b) n := by
  unfold out0_9
  rw [View.canon_unit_zero (by funext a; fin_cases a <;> rfl), ld0]
  pointwise [k0_pay16]
  exact code_eq x0 (rw2 a b) n

theorem o10 (a : Fin 2) (b : Fin 128) (j : Fin 12) : out0_10 x0 x1 x2 x3 x4 (ix3 a b j) = sc (Xr x0) (rw2 a b) j := by
  unfold out0_10
  rw [View.canon_unit_zero (by funext a; fin_cases a <;> rfl), ld0]
  pointwise [k0_pay1]
  exact pay3_apply x0 (rw2 a b) j

end

/-- The run of the reference: its six results of its five arguments, which it leaves as they were. -/
theorem run (ρ) : θ_run defs (onTc (τ := τ) (main (F := Ideal))) ⟨m, fun _ => 0, ρ⟩ fun r => ∀ c : Dev nD,
      r.2.mem ((c : Thread nD τ).loc main_v1_0) = out0_5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_1) = out0_6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_2) = out0_7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_3) = out0_8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_4) = out0_9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_5) = out0_10 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    refine ⟨((h c).1 5).trans ((fin5 m c).trans ?_), ((h c).1 6).trans ((fin6 m c).trans ?_), ((h c).1 7).trans ((fin7 m c).trans ?_),
      ((h c).1 8).trans ((fin8 m c).trans ?_), ((h c).1 9).trans ((fin9 m c).trans ?_), ((h c).1 10).trans ((fin10 m c).trans ?_),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩
    all_goals rw [ib0, ib1, ib2, ib3, ib4])
    (run_main m ρ)

end Cert.ReferenceIdeal.Val

end
-- ==== Proof.Val.Pre.lean ====
module

public import Idealize.ShloMosaic.Lib.Pointwise
public import Idealize.ShloMosaic.Lib.ReduceAll
public import Idealize.ShloMosaic.Lib.IdealHost
public import proofs.«01_k».proof.Pre_tame
public import proofs.«01_k».proof.Proof.Val.PrepPay

@[expose] public section

set_option maxRecDepth 16384

noncomputable section

namespace Cert.Val

open Idealize Idealize.ShloMosaic Cert.Pre_tame

/-- The side conditions of the precondition's operations. -/
theorem preFacts : Cert.Pre_tame.Facts := by
  constructor <;> decide

theorem ori_eq_zero {a b : BitVec 1} (h : IntOp.ori a b = 0#1) : a = 0#1 ∧ b = 0#1 := by
  unfold IntOp.ori at h
  revert a b; decide

theorem foldl_ori_eq_zero {ι : Type} (f : ι → BitVec 1) :
    ∀ (l : List ι) (init : BitVec 1), l.foldl (fun r n => IntOp.ori r (f n)) init = 0#1 → init = 0#1 ∧ ∀ n ∈ l, f n = 0#1
  | [], _, h => ⟨h, fun _ hn => nomatch hn⟩
  | a :: l, init, h => by
    obtain ⟨h1, h2⟩ := foldl_ori_eq_zero f l _ h
    obtain ⟨hi, ha⟩ := ori_eq_zero h1
    exact ⟨hi, fun n hn => by rcases List.mem_cons.1 hn with rfl | hn; exacts [ha, h2 n hn]⟩

/-- A reduction by `or` over all axes that is zero met only zeros. -/
theorem reduce_ori_none {s t u : Shape} {axes : List (Fin s.rank)} [Subsingleton t.Idx] (x : s.Idx → BitVec 1) (init : u.Idx → BitVec 1) (h : s.ReducesTo axes t)
    (hu : 0 < u.numel) (j : t.Idx) (e : Host.reduce IntOp.ori x init h hu j = 0#1) (i : s.Idx) : x i = 0#1 := by
  rw [Host.reduce_eq_foldl] at e
  refine (foldl_ori_eq_zero x _ _ e).2 i ?_
  rw [List.mem_filter]
  exact ⟨List.mem_map.2 ⟨s.rowMajor i, List.mem_finRange _, Equiv.symm_apply_apply _ _⟩, by simp [Subsingleton.elim (h.drop i) j]⟩

instance : Subsingleton S_.Idx := ⟨fun a b => funext fun i => i.elim0⟩

theorem ofBits_bmax : Ideal.ofBits .f32 0x7F7F0000#32 = ((Cert.KernelIdeal.Val.bmax : ℝ) : EReal) := by
  unfold Cert.KernelIdeal.Val.bmax
  simp [Ideal.ofBits, Ideal.ieee]
  exact_mod_cast (by norm_num : (16711680 : ℝ) * 2 ^ 104 = 338953138925153547590470800371487866880)

theorem ofBits_pinf : Ideal.ofBits .f32 0x7F800000#32 = ⊤ := by simp [Ideal.ofBits, Ideal.ieee]

theorem finite_of_lt (a : EReal) (h : Ideal.cmp .olt (max a (-a)) (Ideal.ofBits .f32 0x7F800000#32) = 1#1) : a ≠ ⊤ ∧ a ≠ ⊥ := by
  rw [ofBits_pinf] at h
  constructor <;> rintro rfl <;> simp [Ideal.cmp] at h

theorem not_one : ∀ z : BitVec 1, ~~~z = 1#1 → z = 0#1 := by decide

variable [Cert.Pre_tame.Facts]

/-- What the precondition says of the arguments. -/
theorem pre_facts (x : FVec Ideal S2x128x1536 .bf16) (w : FVec Ideal S151936x1536 .f32) (s : FVec Ideal S151936x12 .f32) (ids : IVec S2x128x48 32) (t : FVec Ideal S2x128x48 .bf16)
    (h : Cert.Pre_tame.fn (F := Ideal) x w s ids t = fun _ => 1#1) :
    (∀ i, max (x i) (-(x i)) ≤ ((Cert.KernelIdeal.Val.bmax : ℝ) : EReal)) ∧ (∀ i, w i ≠ ⊤ ∧ w i ≠ ⊥) ∧ (∀ i, s i ≠ ⊤ ∧ s i ≠ ⊥) ∧ (∀ i, (ids i).toNat < 151936) ∧ (∀ (a : Fin 2) (b : Fin 128) (p q : Fin 48), ids (ix3 a b p) = ids (ix3 a b q) → p = q) := by
  have e := congrFun h (fun a => a.elim0)
  unfold Cert.Pre_tame.fn Cert.Pre_tame.fn_part1 Cert.Pre_tame.fn_part2 at e
  dsimp only at e
  obtain ⟨e, e6⟩ := IntOp.andi_eq_one.1 e
  obtain ⟨e, e5⟩ := IntOp.andi_eq_one.1 e
  obtain ⟨e, e3⟩ := IntOp.andi_eq_one.1 e
  obtain ⟨e1, e2⟩ := IntOp.andi_eq_one.1 e
  refine ⟨fun i => ?_, fun i => ?_, fun i => ?_, fun i => ?_, fun a b p q hpq => ?_⟩
  · have g : Ideal.cmp .ole (max (x i) (-(x i))) (Ideal.ofBits .f32 0x7F7F0000#32) = 1#1 := Host.reduce_andi_all _ _ _ _ _ e1 i
    rw [ofBits_bmax] at g
    by_contra hc
    simp [Ideal.cmp, hc] at g
  · exact finite_of_lt _ (Host.reduce_andi_all _ _ _ _ _ e2 i)
  · exact finite_of_lt _ (Host.reduce_andi_all _ _ _ _ _ e3 i)
  · have g : IntOp.andi (IntOp.cmpi .sge (ids i) 0#32) (IntOp.cmpi .slt (ids i) 151936#32) = 1#1 := Host.reduce_andi_all _ _ _ _ _ e5 i
    obtain ⟨g1, g2⟩ := IntOp.andi_eq_one.1 g
    generalize ids i = d at g1 g2
    have h1 : BitVec.sle 0#32 d = true := by
      cases hh : BitVec.sle 0#32 d
      · simp [IntOp.cmpi, hh] at g1
      · rfl
    have h2 : BitVec.slt d 151936#32 = true := by
      cases hh : BitVec.slt d 151936#32
      · simp [IntOp.cmpi, hh] at g2
      · rfl
    rw [BitVec.sle_iff_toInt_le] at h1
    rw [BitVec.slt_iff_toInt_lt] at h2
    simp only [BitVec.toInt_eq_toNat_cond, BitVec.toNat_ofNat] at h1 h2
    have := d.isLt
    split at h2 <;> split at h1 <;> omega
  · have g : IntOp.andi (IntOp.cmpi .eq (ids (ix3 a b p)) (ids (ix3 a b q))) (IntOp.cmpi .ne (BitVec.ofNat 32 p.val) (BitVec.ofNat 32 q.val)) = 0#1 := by
      have e7 := reduce_ori_none _ _ _ _ _ (not_one _ e6) (ix4 a b p q)
      refine Eq.trans ?_ e7
      pointwise
    rw [hpq] at g
    by_contra hc
    have hn : BitVec.ofNat 32 p.val ≠ BitVec.ofNat 32 q.val := fun h => hc (Fin.ext (by
      have := congrArg BitVec.toNat h
      simp only [BitVec.toNat_ofNat] at this
      omega))
    simp [IntOp.cmpi, IntOp.andi, hn] at g

end Cert.Val

end
-- ==== Proof.Val.Algebraic.lean ====
/- The kernel's six results are the reference's. -/
module

public import proofs.«01_k».proof.Proof.Val.Account
public import proofs.«01_k».proof.Proof.Val.RefRun
public import proofs.«01_k».proof.Proof.Val.Pre
public import proofs.«01_k».proof.Defs

@[expose] public section

set_option maxRecDepth 16384

noncomputable section

namespace Cert.Val

open Idealize Idealize.ShloMosaic Idealize.ShloMosaic.TcCoe Idealize.SL.Sem

/-- An index of two axes, and of three, by its coordinates. -/
theorem ix2_eta {a b : ℕ} (i : (⟨2, ![a, b]⟩ : Shape).Idx) : ix2 (i 0) (i 1) = i := funext fun k => by fin_cases k <;> rfl
theorem ix3_eta {a b d : ℕ} (i : (⟨3, ![a, b, d]⟩ : Shape).Idx) : ix3 (i 0) (i 1) (i 2) = i := funext fun k => by fin_cases k <;> rfl

theorem ext2 {a b : ℕ} {α : Type} {f g : (⟨2, ![a, b]⟩ : Shape).Idx → α} (h : ∀ i j, f (ix2 i j) = g (ix2 i j)) : f = g :=
  funext fun i => by rw [← ix2_eta i]; exact h _ _
theorem ext3 {a b d : ℕ} {α : Type} {f g : (⟨3, ![a, b, d]⟩ : Shape).Idx → α} (h : ∀ i j k, f (ix3 i j k) = g (ix3 i j k)) : f = g :=
  funext fun i => by rw [← ix3_eta i]; exact h _ _ _

open Cert.KernelIdeal.Val in
/-- The precondition makes the arguments tame. -/
theorem tame_of [Cert.Pre_tame.Facts] (m : (ℓ : Loc Cert.KernelIdeal.nD Cert.KernelIdeal.τ Cert.KernelIdeal.sig) → Buf (Elt Ideal) ℓ) (h : Cert.Pre_KernelIdeal_tame m) (c : Dev Cert.KernelIdeal.nD) : Tame m c := by
  obtain ⟨h1, h2, h3, h5, h6⟩ := pre_facts _ _ _ _ _ (h c)
  exact {
    hX := fun r b l => h1 _
    hW := fun v n => h2 _
    hS := fun v b => h3 _
    hI := fun r k => h5 _
    hJ := fun r p q e => h6 _ _ _ _ e }

open Cert.KernelIdeal.Val in
theorem algebraic : Cert.algebraic_KernelIdeal_ReferenceIdeal_pre_tame (hKernelIdeal := Cert.KernelIdeal.Gen.facts) (hReferenceIdeal := Cert.ReferenceIdeal.Gen.facts) (hPre_tame := preFacts) := by
  letI : Cert.Pre_tame.Facts := preFacts
  intro m g m' g' hp ha
  refine ⟨fun c => Cert.ReferenceIdeal.Gen.out0_5 (F := Ideal) (A0 m c) (A1 m c) (A2 m c) (A3 m c) (A4 m c),
    fun c => Cert.ReferenceIdeal.Gen.out0_6 (F := Ideal) (A0 m c) (A1 m c) (A2 m c) (A3 m c) (A4 m c),
    fun c => Cert.ReferenceIdeal.Gen.out0_7 (F := Ideal) (A0 m c) (A1 m c) (A2 m c) (A3 m c) (A4 m c),
    fun c => Cert.ReferenceIdeal.Gen.out0_8 (F := Ideal) (A0 m c) (A1 m c) (A2 m c) (A3 m c) (A4 m c),
    fun c => Cert.ReferenceIdeal.Gen.out0_9 (F := Ideal) (A0 m c) (A1 m c) (A2 m c) (A3 m c) (A4 m c),
    fun c => Cert.ReferenceIdeal.Gen.out0_10 (F := Ideal) (A0 m c) (A1 m c) (A2 m c) (A3 m c) (A4 m c), ?_, ?_⟩
  · refine (θ_run _ _ _).mono (fun r h c => ?_) (run_values m (fun c => tame_of m hp c) g)
    obtain ⟨e0, e1, e2, e3, e4, e5, f⟩ := h c
    exact ⟨ext2 fun a b => (e0 a b).trans (Cert.ReferenceIdeal.Val.o5 (A0 m c) (A1 m c) (A2 m c) (A3 m c) (A4 m c) a b).symm,
      ext2 fun a b => (e1 a b).trans (Cert.ReferenceIdeal.Val.o6 (A0 m c) (A1 m c) (A2 m c) (A3 m c) (A4 m c) a b).symm,
      ext2 fun a b => (e2 a b).trans (Cert.ReferenceIdeal.Val.o7 (A0 m c) (A1 m c) (A2 m c) (A3 m c) (A4 m c) a b).symm,
      ext3 fun a b k => (e3 a b k).trans (Cert.ReferenceIdeal.Val.o8 (A0 m c) (A1 m c) (A2 m c) (A3 m c) (A4 m c) a b k).symm,
      ext3 fun a b k => (e4 a b k).trans (Cert.ReferenceIdeal.Val.o9 (A0 m c) (A1 m c) (A2 m c) (A3 m c) (A4 m c) a b k).symm,
      ext3 fun a b k => (e5 a b k).trans (Cert.ReferenceIdeal.Val.o10 (A0 m c) (A1 m c) (A2 m c) (A3 m c) (A4 m c) a b k).symm, f⟩
  · refine (θ_run _ _ _).mono (fun r h c => ?_) (Cert.ReferenceIdeal.Val.run m' g')
    obtain ⟨a0, a1, a2, a3, a4⟩ := ha c
    obtain ⟨e0, e1, e2, e3, e4, e5, f⟩ := h c
    rw [a0, a1, a2, a3, a4] at e0 e1 e2 e3 e4 e5
    exact ⟨e0, e1, e2, e3, e4, e5, f⟩

end Cert.Val
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run
public import proofs.«01_k».proof.Proof.Ideal.Run
public import proofs.«01_k».proof.Proof.Val.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Val.preFacts,
  fun m ρ _ => Cert.Kernel.Own.frame_run m ρ, fun m ρ _ => Cert.KernelIdeal.Own.frame_run m ρ, fun m ρ _ => Cert.KernelIdeal.Own.frame_run m ρ,
  fun m ρ _ => Cert.ReferenceIdeal.Gen.frame m ρ, fun m ρ _ => Cert.ReferenceIdeal.Gen.frame m ρ, trivial, Cert.Val.algebraic⟩

end Cert.Proof

end
